-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_d" .f32 0x394CCCCD#32 ((1 / 5120 : ℝ) : EReal)

def algebraic_KernelIdeal_ReferenceIdeal_on_where_equal [hKernelIdeal : Cert.KernelIdeal.Facts] [hReferenceIdeal : Cert.ReferenceIdeal.Facts] [hOn_where_equal : Cert.On_where_equal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨3, ![2, 896, 5120]⟩ : Shape).Idx, (Cert.On_where_equal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.KernelIdeal.nD Cert.KernelIdeal.τ).loc Cert.KernelIdeal.main_v7_0) i = v0 c i)
          ∧ (∀ i : (⟨3, ![3, 2, 5120]⟩ : Shape).Idx, (Cert.On_where_equal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.KernelIdeal.nD Cert.KernelIdeal.τ).loc Cert.KernelIdeal.main_v7_1) i = v1 c i)
          ∧ (∀ i : (⟨4, ![7, 3, 2, 5120]⟩ : Shape).Idx, (Cert.On_where_equal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.KernelIdeal.nD Cert.KernelIdeal.τ).loc Cert.KernelIdeal.main_v7_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨3, ![2, 896, 5120]⟩ : Shape).Idx, (Cert.On_where_equal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 i = 1#1 → r.2.mem ((c.tc : Thread Cert.ReferenceIdeal.nD Cert.ReferenceIdeal.τ).loc Cert.ReferenceIdeal.main_v3_0) i = v0 c i)
          ∧ (∀ i : (⟨3, ![3, 2, 5120]⟩ : Shape).Idx, (Cert.On_where_equal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 i = 1#1 → r.2.mem ((c.tc : Thread Cert.ReferenceIdeal.nD Cert.ReferenceIdeal.τ).loc Cert.ReferenceIdeal.main_v3_1) i = v1 c i)
          ∧ (∀ i : (⟨4, ![7, 3, 2, 5120]⟩ : Shape).Idx, (Cert.On_where_equal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2 i = 1#1 → r.2.mem ((c.tc : Thread Cert.ReferenceIdeal.nD Cert.ReferenceIdeal.τ).loc Cert.ReferenceIdeal.main_v3_2) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hOn_where_equal : Cert.On_where_equal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_where_equal (hKernelIdeal := hKernelIdeal) (hReferenceIdeal := hReferenceIdeal) (hOn_where_equal := hOn_where_equal)
-- ==== On_where_equal.lean ====
abbrev S2x896x5120 : Shape := ⟨3, ![2, 896, 5120]⟩
abbrev S2x896x40 : Shape := ⟨3, ![2, 896, 40]⟩
abbrev S2x5120 : Shape := ⟨2, ![2, 5120]⟩
abbrev S_ : Shape := ⟨0, ![]⟩
abbrev S3x2x5120 : Shape := ⟨3, ![3, 2, 5120]⟩
abbrev S7x3x2x5120 : Shape := ⟨4, ![7, 3, 2, 5120]⟩

class Facts : Prop where
  natLt_8_32 : 8 < 32
  bcast_S_S2x896x5120 : S_.BroadcastsInDim S2x896x5120 (![] : Fin 0 → Fin S2x896x5120.rank)
  reducesTo_S2x896x5120_S_d0_1_2 : S2x896x5120.ReducesTo [0, 1, 2] S_
  h_S_ : 0 < S_.numel
  bcast_S_S2x896x40 : S_.BroadcastsInDim S2x896x40 (![] : Fin 0 → Fin S2x896x40.rank)
  reducesTo_S2x896x40_S_d0_1_2 : S2x896x40.ReducesTo [0, 1, 2] S_
  bcast_S_S2x5120 : S_.BroadcastsInDim S2x5120 (![] : Fin 0 → Fin S2x5120.rank)
  reducesTo_S2x5120_S_d0_1 : S2x5120.ReducesTo [0, 1] S_
  bcast_S_S3x2x5120 : S_.BroadcastsInDim S3x2x5120 (![] : Fin 0 → Fin S3x2x5120.rank)
  bcast_S_S7x3x2x5120 : S_.BroadcastsInDim S7x3x2x5120 (![] : Fin 0 → Fin S7x3x2x5120.rank)

variable [Facts]

def fn_part2 {F : FTy → Type} [FloatOps F] (main_v22 : IVec S_ 1) (main_v28 : IVec S2x896x5120 1) (main_v33 : IVec S3x2x5120 1) (main_v34 : IVec S7x3x2x5120 32) : IVec S2x896x5120 1 × IVec S3x2x5120 1 × IVec S7x3x2x5120 1 :=
  let main_c_11 : IVec S_ 32 := constantI S_ 32 1#32
  let main_v35 : IVec S7x3x2x5120 32 := broadcastInDim S7x3x2x5120 ![] bcast_S_S7x3x2x5120 main_c_11
  let main_v36 : IVec S7x3x2x5120 1 := cmpi .ne main_v34 main_v35
  let main_v37 : IVec S7x3x2x5120 1 := broadcastInDim S7x3x2x5120 ![] bcast_S_S7x3x2x5120 main_v22
  let main_v38 : IVec S7x3x2x5120 1 := ori main_v36 main_v37
  (main_v28, main_v33, main_v38)

def fn_part1 {F : FTy → Type} [FloatOps F] (main_arg6 : FVec F S2x896x40 .f32) (main_arg7 : FVec F S2x5120 .f32) (main_v12 : IVec S_ 1) (main_v15 : IVec S2x896x40 1) (main_c_5 : IVec S_ 1) : IVec S2x896x5120 1 × IVec S3x2x5120 1 × IVec S7x3x2x5120 1 :=
  let main_v16 : IVec S_ 1 := (fun x v => Host.reduce IntOp.andi x v reducesTo_S2x896x40_S_d0_1_2 h_S_) main_v15 main_c_5
  let main_v17 : IVec S_ 1 := andi main_v12 main_v16
  let main_v18 : FVec F S2x896x40 .f32 := Host.absf main_arg6
  let main_cst_6 : FVec F S_ .f32 := constant S_ .f32 0x7F800000#32
  let main_v19 : FVec F S2x896x40 .f32 := broadcastInDim S2x896x40 ![] bcast_S_S2x896x40 main_cst_6
  let main_v20 : IVec S2x896x40 1 := cmpf .olt main_v18 main_v19
  let main_c_7 : IVec S_ 1 := constantI S_ 1 1#1
  let main_v21 : IVec S_ 1 := (fun x v => Host.reduce IntOp.andi x v reducesTo_S2x896x40_S_d0_1_2 h_S_) main_v20 main_c_7
  let main_v22 : IVec S_ 1 := andi main_v17 main_v21
  let main_v23 : FVec F S2x5120 .f32 := Host.absf main_arg7
  let main_cst_8 : FVec F S_ .f32 := constant S_ .f32 0x7F800000#32
  let main_v24 : FVec F S2x5120 .f32 := broadcastInDim S2x5120 ![] bcast_S_S2x5120 main_cst_8
  let main_v25 : IVec S2x5120 1 := cmpf .olt main_v23 main_v24
  let main_c_9 : IVec S_ 1 := constantI S_ 1 1#1
  let main_v26 : IVec S_ 1 := (fun x v => Host.reduce IntOp.andi x v reducesTo_S2x5120_S_d0_1 h_S_) main_v25 main_c_9
  let main_v27 : IVec S_ 1 := andi main_v22 main_v26
  let main_v28 : IVec S2x896x5120 1 := broadcastInDim S2x896x5120 ![] bcast_S_S2x896x5120 main_v27
  let main_v29 : IVec S3x2x5120 32 := iotaInDim S3x2x5120 32 0
  let main_c_10 : IVec S_ 32 := constantI S_ 32 1#32
  let main_v30 : IVec S3x2x5120 32 := broadcastInDim S3x2x5120 ![] bcast_S_S3x2x5120 main_c_10
  let main_v31 : IVec S3x2x5120 1 := cmpi .ne main_v29 main_v30
  let main_v32 : IVec S3x2x5120 1 := broadcastInDim S3x2x5120 ![] bcast_S_S3x2x5120 main_v22
  let main_v33 : IVec S3x2x5120 1 := ori main_v31 main_v32
  let main_v34 : IVec S7x3x2x5120 32 := iotaInDim S7x3x2x5120 32 1
  fn_part2 (F := F) main_v22 main_v28 main_v33 main_v34

def fn {F : FTy → Type} [FloatOps F] (main_arg0 : IVec S2x896x5120 8) (main_arg1 : FVec F S2x896x40 .f32) (main_arg2 : FVec F S2x896x5120 .bf16) (main_arg3 : IVec S2x896x5120 8) (main_arg4 : FVec F S2x896x40 .f32) (main_arg5 : IVec S2x896x5120 8) (main_arg6 : FVec F S2x896x40 .f32) (main_arg7 : FVec F S2x5120 .f32) : IVec S2x896x5120 1 × IVec S3x2x5120 1 × IVec S7x3x2x5120 1 :=
  let main_v0 : IVec S2x896x5120 32 := (extui 32 · natLt_8_32) main_arg0
  let main_c : IVec S_ 32 := constantI S_ 32 127#32
  let main_v1 : IVec S2x896x5120 32 := broadcastInDim S2x896x5120 ![] bcast_S_S2x896x5120 main_c
  let main_v2 : IVec S2x896x5120 32 := andi main_v0 main_v1
  let main_c_0 : IVec S_ 32 := constantI S_ 32 127#32
  let main_v3 : IVec S2x896x5120 32 := broadcastInDim S2x896x5120 ![] bcast_S_S2x896x5120 main_c_0
  let main_v4 : IVec S2x896x5120 1 := cmpi .ne main_v2 main_v3
  let main_c_1 : IVec S_ 1 := constantI S_ 1 1#1
  let main_v5 : IVec S_ 1 := (fun x v => Host.reduce IntOp.andi x v reducesTo_S2x896x5120_S_d0_1_2 h_S_) main_v4 main_c_1
  let main_v6 : IVec S2x896x5120 32 := (extui 32 · natLt_8_32) main_arg5
  let main_c_2 : IVec S_ 32 := constantI S_ 32 127#32
  let main_v7 : IVec S2x896x5120 32 := broadcastInDim S2x896x5120 ![] bcast_S_S2x896x5120 main_c_2
  let main_v8 : IVec S2x896x5120 32 := andi main_v6 main_v7
  let main_c_3 : IVec S_ 32 := constantI S_ 32 124#32
  let main_v9 : IVec S2x896x5120 32 := broadcastInDim S2x896x5120 ![] bcast_S_S2x896x5120 main_c_3
  let main_v10 : IVec S2x896x5120 1 := cmpi .slt main_v8 main_v9
  let main_c_4 : IVec S_ 1 := constantI S_ 1 1#1
  let main_v11 : IVec S_ 1 := (fun x v => Host.reduce IntOp.andi x v reducesTo_S2x896x5120_S_d0_1_2 h_S_) main_v10 main_c_4
  let main_v12 : IVec S_ 1 := andi main_v5 main_v11
  let main_v13 : FVec F S2x896x40 .f32 := Host.absf main_arg1
  let main_cst : FVec F S_ .f32 := constant S_ .f32 0x7F800000#32
  let main_v14 : FVec F S2x896x40 .f32 := broadcastInDim S2x896x40 ![] bcast_S_S2x896x40 main_cst
  let main_v15 : IVec S2x896x40 1 := cmpf .olt main_v13 main_v14
  let main_c_5 : IVec S_ 1 := constantI S_ 1 1#1
  fn_part1 (F := F) main_arg6 main_arg7 main_v12 main_v15 main_c_5
-- ==== Kernel.lean ====
abbrev S2x896x5120 : Shape := ⟨3, ![2, 896, 5120]⟩
abbrev S2x896x40 : Shape := ⟨3, ![2, 896, 40]⟩
abbrev S2x5120 : Shape := ⟨2, ![2, 5120]⟩
abbrev S_ : Shape := ⟨0, ![]⟩
abbrev S32x128 : Shape := ⟨2, ![32, 128]⟩
abbrev S2x40x896 : Shape := ⟨3, ![2, 40, 896]⟩
abbrev S3x2x5120 : Shape := ⟨3, ![3, 2, 5120]⟩
abbrev S7x3x2x5120 : Shape := ⟨4, ![7, 3, 2, 5120]⟩
abbrev S1x128x5120 : Shape := ⟨3, ![1, 128, 5120]⟩
abbrev S1x40x128 : Shape := ⟨3, ![1, 40, 128]⟩
abbrev S1x3x2x5120 : Shape := ⟨4, ![1, 3, 2, 5120]⟩
abbrev S128x5120 : Shape := ⟨2, ![128, 5120]⟩
abbrev S2x8x5120 : Shape := ⟨3, ![2, 8, 5120]⟩
abbrev S2x16x5120 : Shape := ⟨3, ![2, 16, 5120]⟩
abbrev S2x128x128 : Shape := ⟨3, ![2, 128, 128]⟩
abbrev S1x5120 : Shape := ⟨2, ![1, 5120]⟩
abbrev S8x5120 : Shape := ⟨2, ![8, 5120]⟩
abbrev S1x8x5120 : Shape := ⟨3, ![1, 8, 5120]⟩
abbrev S13x5120 : Shape := ⟨2, ![13, 5120]⟩
abbrev S16x5120 : Shape := ⟨2, ![16, 5120]⟩
abbrev S1x16x5120 : Shape := ⟨3, ![1, 16, 5120]⟩
abbrev S40x128 : Shape := ⟨2, ![40, 128]⟩
abbrev S8x128 : Shape := ⟨2, ![8, 128]⟩
abbrev S128x128 : Shape := ⟨2, ![128, 128]⟩
abbrev S1x32x128 : Shape := ⟨3, ![1, 32, 128]⟩
abbrev S32x1 : Shape := ⟨2, ![32, 1]⟩
abbrev S16x128 : Shape := ⟨2, ![16, 128]⟩
abbrev S128 : Shape := ⟨1, ![128]⟩
abbrev S1x128 : Shape := ⟨2, ![1, 128]⟩
abbrev S1x128x128 : Shape := ⟨3, ![1, 128, 128]⟩
abbrev S128x1 : Shape := ⟨2, ![128, 1]⟩
abbrev S128x16 : Shape := ⟨2, ![128, 16]⟩
abbrev S1x1x1x5120 : Shape := ⟨4, ![1, 1, 1, 5120]⟩
abbrev S1x1x5120 : Shape := ⟨3, ![1, 1, 5120]⟩
abbrev S1x8x128 : Shape := ⟨3, ![1, 8, 128]⟩

abbrev nBuf : Space → Nat
  | .hbm => 19
  | .vmem => 28
  | .smem => 0
  | _ => 0

abbrev bufTy : (tb : Table) → Fin (tcTables nBuf tb) → BufTy
  | .hbm, ⟨0, _⟩ => ⟨S2x896x5120, .i8⟩
  | .hbm, ⟨1, _⟩ => ⟨S2x896x40, .f32⟩
  | .hbm, ⟨2, _⟩ => ⟨S2x896x5120, .bf16⟩
  | .hbm, ⟨3, _⟩ => ⟨S2x896x5120, .i8⟩
  | .hbm, ⟨4, _⟩ => ⟨S2x896x40, .f32⟩
  | .hbm, ⟨5, _⟩ => ⟨S2x896x5120, .i8⟩
  | .hbm, ⟨6, _⟩ => ⟨S2x896x40, .f32⟩
  | .hbm, ⟨7, _⟩ => ⟨S2x5120, .f32⟩
  | .hbm, ⟨8, _⟩ => ⟨S2x896x5120, .fp8e4m3⟩
  | .hbm, ⟨9, _⟩ => ⟨S2x896x5120, .fp8e5m2⟩
  | .hbm, ⟨10, _⟩ => ⟨S2x896x5120, .fp8e5m2⟩
  | .hbm, ⟨11, _⟩ => ⟨S_, .bf16⟩
  | .hbm, ⟨12, _⟩ => ⟨S32x128, .bf16⟩
  | .hbm, ⟨13, _⟩ => ⟨S2x40x896, .f32⟩
  | .hbm, ⟨14, _⟩ => ⟨S2x40x896, .f32⟩
  | .hbm, ⟨15, _⟩ => ⟨S2x40x896, .f32⟩
  | .hbm, ⟨16, _⟩ => ⟨S2x896x5120, .bf16⟩
  | .hbm, ⟨17, _⟩ => ⟨S3x2x5120, .f32⟩
  | .hbm, ⟨18, _⟩ => ⟨S7x3x2x5120, .f32⟩
  | .local _ .vmem, ⟨0, _⟩ => ⟨S1x128x5120, .fp8e4m3⟩
  | .local _ .vmem, ⟨1, _⟩ => ⟨S1x128x5120, .fp8e4m3⟩
  | .local _ .vmem, ⟨2, _⟩ => ⟨S1x40x128, .f32⟩
  | .local _ .vmem, ⟨3, _⟩ => ⟨S1x40x128, .f32⟩
  | .local _ .vmem, ⟨4, _⟩ => ⟨S1x128x5120, .bf16⟩
  | .local _ .vmem, ⟨5, _⟩ => ⟨S1x128x5120, .bf16⟩
  | .local _ .vmem, ⟨6, _⟩ => ⟨S1x128x5120, .fp8e5m2⟩
  | .local _ .vmem, ⟨7, _⟩ => ⟨S1x128x5120, .fp8e5m2⟩
  | .local _ .vmem, ⟨8, _⟩ => ⟨S1x40x128, .f32⟩
  | .local _ .vmem, ⟨9, _⟩ => ⟨S1x40x128, .f32⟩
  | .local _ .vmem, ⟨10, _⟩ => ⟨S1x128x5120, .fp8e5m2⟩
  | .local _ .vmem, ⟨11, _⟩ => ⟨S1x128x5120, .fp8e5m2⟩
  | .local _ .vmem, ⟨12, _⟩ => ⟨S1x40x128, .f32⟩
  | .local _ .vmem, ⟨13, _⟩ => ⟨S1x40x128, .f32⟩
  | .local _ .vmem, ⟨14, _⟩ => ⟨S2x5120, .f32⟩
  | .local _ .vmem, ⟨15, _⟩ => ⟨S32x128, .bf16⟩
  | .local _ .vmem, ⟨16, _⟩ => ⟨S1x128x5120, .bf16⟩
  | .local _ .vmem, ⟨17, _⟩ => ⟨S1x128x5120, .bf16⟩
  | .local _ .vmem, ⟨18, _⟩ => ⟨S3x2x5120, .f32⟩
  | .local _ .vmem, ⟨19, _⟩ => ⟨S1x3x2x5120, .f32⟩
  | .local _ .vmem, ⟨20, _⟩ => ⟨S1x3x2x5120, .f32⟩
  | .local _ .vmem, ⟨21, _⟩ => ⟨S128x5120, .bf16⟩
  | .local _ .vmem, ⟨22, _⟩ => ⟨S128x5120, .bf16⟩
  | .local _ .vmem, ⟨23, _⟩ => ⟨S128x5120, .bf16⟩
  | .local _ .vmem, ⟨24, _⟩ => ⟨S128x5120, .bf16⟩
  | .local _ .vmem, ⟨25, _⟩ => ⟨S2x8x5120, .f32⟩
  | .local _ .vmem, ⟨26, _⟩ => ⟨S2x16x5120, .bf16⟩
  | .local _ .vmem, ⟨27, _⟩ => ⟨S2x128x128, .f32⟩
  | _, _ => ⟨S2x896x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨2, ![7, 2], ![false, false]⟩

def k0_off1 (i : grid0.Coords) : Fin 3 → Nat :=
  let arg1 : BitVec 32 := BitVec.ofNat 32 (i 1).val
  let v8733 : Index := Scalar.indexCast arg1
  let c0_3247 : Index := 0#32
  let c0_3248 : Index := 0#32
  ![v8733.toNat, 0, 0]
def k0_off2 (i : grid0.Coords) : Fin 4 → Nat :=
  let c0_3273 : Index := 0#32
  let c0_3274 : Index := 0#32
  let arg1 : BitVec 32 := BitVec.ofNat 32 (i 1).val
  let v8836 : Index := Scalar.indexCast arg1
  let c0_3275 : Index := 0#32
  ![0, 0, v8836.toNat, 0]
def k0_off3 (i : grid0.Coords) : Fin 4 → Nat :=
  let c0_3276 : Index := 0#32
  let c1_3277 : Index := 1#32
  let arg1 : BitVec 32 := BitVec.ofNat 32 (i 1).val
  let v8840 : Index := Scalar.indexCast arg1
  let c0_3278 : Index := 0#32
  ![0, 1, v8840.toNat, 0]
def k0_off4 (i : grid0.Coords) : Fin 4 → Nat :=
  let c0_3279 : Index := 0#32
  let c2 : Index := 2#32
  let arg1 : BitVec 32 := BitVec.ofNat 32 (i 1).val
  let v8844 : Index := Scalar.indexCast arg1
  let c0_3280 : Index := 0#32
  ![0, 2, v8844.toNat, 0]
def k0_cond2 (i : grid0.Coords) : BitVec 1 :=
  let arg0 : BitVec 32 := BitVec.ofNat 32 (i 0).val
  let c0_i32_3281 : BitVec 32 := 0#32
  let v8848 : BitVec 1 := Scalar.cmpi .eq arg0 c0_i32_3281
  let v8849 : BitVec 32 := Scalar.extui v8848
  let c0_i32_3282 : BitVec 32 := 0#32
  let v8850 : BitVec 1 := Scalar.cmpi .ne v8849 c0_i32_3282
  v8850

def k0_off5 (i : grid0.Coords) : Fin 3 → Nat :=
  let c0_5045 : Index := 0#32
  let arg1 : BitVec 32 := BitVec.ofNat 32 (i 1).val
  let v12090 : Index := Scalar.indexCast arg1
  let c0_5046 : Index := 0#32
  ![0, v12090.toNat, 0]
def k0_off6 (i : grid0.Coords) : Fin 3 → Nat :=
  let c1_5047 : Index := 1#32
  let arg1 : BitVec 32 := BitVec.ofNat 32 (i 1).val
  let v12094 : Index := Scalar.indexCast arg1
  let c0_5048 : Index := 0#32
  ![1, v12094.toNat, 0]
def k0_off7 (i : grid0.Coords) : Fin 3 → Nat :=
  let c2_5049 : Index := 2#32
  let arg1 : BitVec 32 := BitVec.ofNat 32 (i 1).val
  let v12098 : Index := Scalar.indexCast arg1
  let c0_5050 : Index := 0#32
  ![2, v12098.toNat, 0]
def k0_cond3 (i : grid0.Coords) : BitVec 1 :=
  let arg0 : BitVec 32 := BitVec.ofNat 32 (i 0).val
  let c0_i32_3283 : BitVec 32 := 0#32
  let v8851 : BitVec 1 := Scalar.cmpi .ne arg0 c0_i32_3283
  let v8852 : BitVec 32 := Scalar.extui v8851
  let c0_i32_3284 : BitVec 32 := 0#32
  let v8853 : BitVec 1 := Scalar.cmpi .ne v8852 c0_i32_3284
  v8853

def k0_off8 (i : grid0.Coords) : Fin 3 → Nat :=
  let c0_5045 : Index := 0#32
  let arg1 : BitVec 32 := BitVec.ofNat 32 (i 1).val
  let v12090 : Index := Scalar.indexCast arg1
  let c0_5046 : Index := 0#32
  ![0, v12090.toNat, 0]
def k0_off9 (i : grid0.Coords) : Fin 3 → Nat :=
  let c1_5049 : Index := 1#32
  let arg1 : BitVec 32 := BitVec.ofNat 32 (i 1).val
  let v12098 : Index := Scalar.indexCast arg1
  let c0_5050 : Index := 0#32
  ![1, v12098.toNat, 0]
def k0_off10 (i : grid0.Coords) : Fin 3 → Nat :=
  let c2_5053 : Index := 2#32
  let arg1 : BitVec 32 := BitVec.ofNat 32 (i 1).val
  let v12106 : Index := Scalar.indexCast arg1
  let c0_5054 : Index := 0#32
  ![2, v12106.toNat, 0]
def k0_off11 (i : grid0.Coords) : Fin 3 → Nat :=
  let arg1 : BitVec 32 := BitVec.ofNat 32 (i 1).val
  let v8869 : Index := Scalar.indexCast arg1
  let c0_3291 : Index := 0#32
  let c0_3292 : Index := 0#32
  ![v8869.toNat, 0, 0]
def k0_off12 (i : grid0.Coords) : Fin 3 → Nat :=
  let arg1 : BitVec 32 := BitVec.ofNat 32 (i 1).val
  let v8889 : Index := Scalar.indexCast arg1
  let c0_3302 : Index := 0#32
  let c128_3303 : Index := 128#32
  ![v8889.toNat, 0, 128]
def k0_off13 (i : grid0.Coords) : Fin 3 → Nat :=
  let arg1 : BitVec 32 := BitVec.ofNat 32 (i 1).val
  let v8909 : Index := Scalar.indexCast arg1
  let c0_3313 : Index := 0#32
  let c256_3314 : Index := 256#32
  ![v8909.toNat, 0, 256]
def k0_off14 (i : grid0.Coords) : Fin 3 → Nat :=
  let arg1 : BitVec 32 := BitVec.ofNat 32 (i 1).val
  let v8929 : Index := Scalar.indexCast arg1
  let c0_3324 : Index := 0#32
  let c384_3325 : Index := 384#32
  ![v8929.toNat, 0, 384]
def k0_off15 (i : grid0.Coords) : Fin 3 → Nat :=
  let arg1 : BitVec 32 := BitVec.ofNat 32 (i 1).val
  let v8949 : Index := Scalar.indexCast arg1
  let c0_3335 : Index := 0#32
  let c512_3336 : Index := 512#32
  ![v8949.toNat, 0, 512]
def k0_off16 (i : grid0.Coords) : Fin 3 → Nat :=
  let arg1 : BitVec 32 := BitVec.ofNat 32 (i 1).val
  let v8969 : Index := Scalar.indexCast arg1
  let c0_3346 : Index := 0#32
  let c640_3347 : Index := 640#32
  ![v8969.toNat, 0, 640]
def k0_off17 (i : grid0.Coords) : Fin 3 → Nat :=
  let arg1 : BitVec 32 := BitVec.ofNat 32 (i 1).val
  let v8989 : Index := Scalar.indexCast arg1
  let c0_3357 : Index := 0#32
  let c768_3358 : Index := 768#32
  ![v8989.toNat, 0, 768]
def k0_off18 (i : grid0.Coords) : Fin 3 → Nat :=
  let arg1 : BitVec 32 := BitVec.ofNat 32 (i 1).val
  let v9009 : Index := Scalar.indexCast arg1
  let c0_3368 : Index := 0#32
  let c896_3369 : Index := 896#32
  ![v9009.toNat, 0, 896]
def k0_off19 (i : grid0.Coords) : Fin 3 → Nat :=
  let arg1 : BitVec 32 := BitVec.ofNat 32 (i 1).val
  let v9029 : Index := Scalar.indexCast arg1
  let c0_3379 : Index := 0#32
  let c1024_3380 : Index := 1024#32
  ![v9029.toNat, 0, 1024]
def k0_off20 (i : grid0.Coords) : Fin 3 → Nat :=
  let arg1 : BitVec 32 := BitVec.ofNat 32 (i 1).val
  let v9049 : Index := Scalar.indexCast arg1
  let c0_3390 : Index := 0#32
  let c1152_3391 : Index := 1152#32
  ![v9049.toNat, 0, 1152]
def k0_off21 (i : grid0.Coords) : Fin 3 → Nat :=
  let arg1 : BitVec 32 := BitVec.ofNat 32 (i 1).val
  let v9069 : Index := Scalar.indexCast arg1
  let c0_3401 : Index := 0#32
  let c1280_3402 : Index := 1280#32
  ![v9069.toNat, 0, 1280]
def k0_off22 (i : grid0.Coords) : Fin 3 → Nat :=
  let arg1 : BitVec 32 := BitVec.ofNat 32 (i 1).val
  let v9089 : Index := Scalar.indexCast arg1
  let c0_3412 : Index := 0#32
  let c1408_3413 : Index := 1408#32
  ![v9089.toNat, 0, 1408]
def k0_off23 (i : grid0.Coords) : Fin 3 → Nat :=
  let arg1 : BitVec 32 := BitVec.ofNat 32 (i 1).val
  let v9109 : Index := Scalar.indexCast arg1
  let c0_3423 : Index := 0#32
  let c1536_3424 : Index := 1536#32
  ![v9109.toNat, 0, 1536]
def k0_off24 (i : grid0.Coords) : Fin 3 → Nat :=
  let arg1 : BitVec 32 := BitVec.ofNat 32 (i 1).val
  let v9129 : Index := Scalar.indexCast arg1
  let c0_3434 : Index := 0#32
  let c1664_3435 : Index := 1664#32
  ![v9129.toNat, 0, 1664]
def k0_off25 (i : grid0.Coords) : Fin 3 → Nat :=
  let arg1 : BitVec 32 := BitVec.ofNat 32 (i 1).val
  let v9149 : Index := Scalar.indexCast arg1
  let c0_3445 : Index := 0#32
  let c1792_3446 : Index := 1792#32
  ![v9149.toNat, 0, 1792]
def k0_off26 (i : grid0.Coords) : Fin 3 → Nat :=
  let arg1 : BitVec 32 := BitVec.ofNat 32 (i 1).val
  let v9169 : Index := Scalar.indexCast arg1
  let c0_3456 : Index := 0#32
  let c1920_3457 : Index := 1920#32
  ![v9169.toNat, 0, 1920]
def k0_off27 (i : grid0.Coords) : Fin 3 → Nat :=
  let arg1 : BitVec 32 := BitVec.ofNat 32 (i 1).val
  let v9189 : Index := Scalar.indexCast arg1
  let c0_3467 : Index := 0#32
  let c2048_3468 : Index := 2048#32
  ![v9189.toNat, 0, 2048]
def k0_off28 (i : grid0.Coords) : Fin 3 → Nat :=
  let arg1 : BitVec 32 := BitVec.ofNat 32 (i 1).val
  let v9209 : Index := Scalar.indexCast arg1
  let c0_3478 : Index := 0#32
  let c2176_3479 : Index := 2176#32
  ![v9209.toNat, 0, 2176]
def k0_off29 (i : grid0.Coords) : Fin 3 → Nat :=
  let arg1 : BitVec 32 := BitVec.ofNat 32 (i 1).val
  let v9229 : Index := Scalar.indexCast arg1
  let c0_3489 : Index := 0#32
  let c2304_3490 : Index := 2304#32
  ![v9229.toNat, 0, 2304]
def k0_off30 (i : grid0.Coords) : Fin 3 → Nat :=
  let arg1 : BitVec 32 := BitVec.ofNat 32 (i 1).val
  let v9249 : Index := Scalar.indexCast arg1
  let c0_3500 : Index := 0#32
  let c2432_3501 : Index := 2432#32
  ![v9249.toNat, 0, 2432]
def k0_off31 (i : grid0.Coords) : Fin 3 → Nat :=
  let arg1 : BitVec 32 := BitVec.ofNat 32 (i 1).val
  let v9269 : Index := Scalar.indexCast arg1
  let c0_3511 : Index := 0#32
  let c2560_3512 : Index := 2560#32
  ![v9269.toNat, 0, 2560]
def k0_off32 (i : grid0.Coords) : Fin 3 → Nat :=
  let arg1 : BitVec 32 := BitVec.ofNat 32 (i 1).val
  let v9289 : Index := Scalar.indexCast arg1
  let c0_3522 : Index := 0#32
  let c2688_3523 : Index := 2688#32
  ![v9289.toNat, 0, 2688]
def k0_off33 (i : grid0.Coords) : Fin 3 → Nat :=
  let arg1 : BitVec 32 := BitVec.ofNat 32 (i 1).val
  let v9309 : Index := Scalar.indexCast arg1
  let c0_3533 : Index := 0#32
  let c2816_3534 : Index := 2816#32
  ![v9309.toNat, 0, 2816]
def k0_off34 (i : grid0.Coords) : Fin 3 → Nat :=
  let arg1 : BitVec 32 := BitVec.ofNat 32 (i 1).val
  let v9329 : Index := Scalar.indexCast arg1
  let c0_3544 : Index := 0#32
  let c2944_3545 : Index := 2944#32
  ![v9329.toNat, 0, 2944]
def k0_off35 (i : grid0.Coords) : Fin 3 → Nat :=
  let arg1 : BitVec 32 := BitVec.ofNat 32 (i 1).val
  let v9349 : Index := Scalar.indexCast arg1
  let c0_3555 : Index := 0#32
  let c3072_3556 : Index := 3072#32
  ![v9349.toNat, 0, 3072]
def k0_off36 (i : grid0.Coords) : Fin 3 → Nat :=
  let arg1 : BitVec 32 := BitVec.ofNat 32 (i 1).val
  let v9369 : Index := Scalar.indexCast arg1
  let c0_3566 : Index := 0#32
  let c3200_3567 : Index := 3200#32
  ![v9369.toNat, 0, 3200]
def k0_off37 (i : grid0.Coords) : Fin 3 → Nat :=
  let arg1 : BitVec 32 := BitVec.ofNat 32 (i 1).val
  let v9389 : Index := Scalar.indexCast arg1
  let c0_3577 : Index := 0#32
  let c3328_3578 : Index := 3328#32
  ![v9389.toNat, 0, 3328]
def k0_off38 (i : grid0.Coords) : Fin 3 → Nat :=
  let arg1 : BitVec 32 := BitVec.ofNat 32 (i 1).val
  let v9409 : Index := Scalar.indexCast arg1
  let c0_3588 : Index := 0#32
  let c3456_3589 : Index := 3456#32
  ![v9409.toNat, 0, 3456]
def k0_off39 (i : grid0.Coords) : Fin 3 → Nat :=
  let arg1 : BitVec 32 := BitVec.ofNat 32 (i 1).val
  let v9429 : Index := Scalar.indexCast arg1
  let c0_3599 : Index := 0#32
  let c3584_3600 : Index := 3584#32
  ![v9429.toNat, 0, 3584]
def k0_off40 (i : grid0.Coords) : Fin 3 → Nat :=
  let arg1 : BitVec 32 := BitVec.ofNat 32 (i 1).val
  let v9449 : Index := Scalar.indexCast arg1
  let c0_3610 : Index := 0#32
  let c3712_3611 : Index := 3712#32
  ![v9449.toNat, 0, 3712]
def k0_off41 (i : grid0.Coords) : Fin 3 → Nat :=
  let arg1 : BitVec 32 := BitVec.ofNat 32 (i 1).val
  let v9469 : Index := Scalar.indexCast arg1
  let c0_3621 : Index := 0#32
  let c3840_3622 : Index := 3840#32
  ![v9469.toNat, 0, 3840]
def k0_off42 (i : grid0.Coords) : Fin 3 → Nat :=
  let arg1 : BitVec 32 := BitVec.ofNat 32 (i 1).val
  let v9489 : Index := Scalar.indexCast arg1
  let c0_3632 : Index := 0#32
  let c3968_3633 : Index := 3968#32
  ![v9489.toNat, 0, 3968]
def k0_off43 (i : grid0.Coords) : Fin 3 → Nat :=
  let arg1 : BitVec 32 := BitVec.ofNat 32 (i 1).val
  let v9509 : Index := Scalar.indexCast arg1
  let c0_3643 : Index := 0#32
  let c4096_3644 : Index := 4096#32
  ![v9509.toNat, 0, 4096]
def k0_off44 (i : grid0.Coords) : Fin 3 → Nat :=
  let arg1 : BitVec 32 := BitVec.ofNat 32 (i 1).val
  let v9529 : Index := Scalar.indexCast arg1
  let c0_3654 : Index := 0#32
  let c4224_3655 : Index := 4224#32
  ![v9529.toNat, 0, 4224]
def k0_off45 (i : grid0.Coords) : Fin 3 → Nat :=
  let arg1 : BitVec 32 := BitVec.ofNat 32 (i 1).val
  let v9549 : Index := Scalar.indexCast arg1
  let c0_3665 : Index := 0#32
  let c4352_3666 : Index := 4352#32
  ![v9549.toNat, 0, 4352]
def k0_off46 (i : grid0.Coords) : Fin 3 → Nat :=
  let arg1 : BitVec 32 := BitVec.ofNat 32 (i 1).val
  let v9569 : Index := Scalar.indexCast arg1
  let c0_3676 : Index := 0#32
  let c4480_3677 : Index := 4480#32
  ![v9569.toNat, 0, 4480]
def k0_off47 (i : grid0.Coords) : Fin 3 → Nat :=
  let arg1 : BitVec 32 := BitVec.ofNat 32 (i 1).val
  let v9589 : Index := Scalar.indexCast arg1
  let c0_3687 : Index := 0#32
  let c4608_3688 : Index := 4608#32
  ![v9589.toNat, 0, 4608]
def k0_off48 (i : grid0.Coords) : Fin 3 → Nat :=
  let arg1 : BitVec 32 := BitVec.ofNat 32 (i 1).val
  let v9609 : Index := Scalar.indexCast arg1
  let c0_3698 : Index := 0#32
  let c4736_3699 : Index := 4736#32
  ![v9609.toNat, 0, 4736]
def k0_off49 (i : grid0.Coords) : Fin 3 → Nat :=
  let arg1 : BitVec 32 := BitVec.ofNat 32 (i 1).val
  let v9629 : Index := Scalar.indexCast arg1
  let c0_3709 : Index := 0#32
  let c4864_3710 : Index := 4864#32
  ![v9629.toNat, 0, 4864]
def k0_off50 (i : grid0.Coords) : Fin 3 → Nat :=
  let arg1 : BitVec 32 := BitVec.ofNat 32 (i 1).val
  let v9649 : Index := Scalar.indexCast arg1
  let c0_3720 : Index := 0#32
  let c4992_3721 : Index := 4992#32
  ![v9649.toNat, 0, 4992]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x5120 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x40x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x5120 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x40x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x5120 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x40x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x128x5120 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S3x2x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x3x2x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "inv_d" => some ((1 / 5120 : ℝ) : EReal)
  | _ => none
-- ==== ReferenceIdeal.lean ====
abbrev S2x896x5120 : Shape := ⟨3, ![2, 896, 5120]⟩
abbrev S2x896x40 : Shape := ⟨3, ![2, 896, 40]⟩
abbrev S2x5120 : Shape := ⟨2, ![2, 5120]⟩
abbrev S3x2x5120 : Shape := ⟨3, ![3, 2, 5120]⟩
abbrev S7x3x2x5120 : Shape := ⟨4, ![7, 3, 2, 5120]⟩
abbrev S2x896x40x128 : Shape := ⟨4, ![2, 896, 40, 128]⟩
abbrev S2x896x40x1 : Shape := ⟨4, ![2, 896, 40, 1]⟩
abbrev S2x896 : Shape := ⟨2, ![2, 896]⟩
abbrev S2x896x1 : Shape := ⟨3, ![2, 896, 1]⟩
abbrev S2x7x128x5120 : Shape := ⟨4, ![2, 7, 128, 5120]⟩
abbrev S2x7x5120 : Shape := ⟨3, ![2, 7, 5120]⟩
abbrev S7x2x5120 : Shape := ⟨3, ![7, 2, 5120]⟩
abbrev S7x1x2x5120 : Shape := ⟨4, ![7, 1, 2, 5120]⟩
abbrev S2x1x5120 : Shape := ⟨3, ![2, 1, 5120]⟩

abbrev nBuf : Space → Nat
  | .hbm => 14
  | .vmem => 11
  | .smem => 0
  | _ => 0

abbrev bufTy : (tb : Table) → Fin (tcTables nBuf tb) → BufTy
  | .hbm, ⟨0, _⟩ => ⟨S2x896x5120, .i8⟩
  | .hbm, ⟨1, _⟩ => ⟨S2x896x40, .f32⟩
  | .hbm, ⟨2, _⟩ => ⟨S2x896x5120, .bf16⟩
  | .hbm, ⟨3, _⟩ => ⟨S2x896x5120, .i8⟩
  | .hbm, ⟨4, _⟩ => ⟨S2x896x40, .f32⟩
  | .hbm, ⟨5, _⟩ => ⟨S2x896x5120, .i8⟩
  | .hbm, ⟨6, _⟩ => ⟨S2x896x40, .f32⟩
  | .hbm, ⟨7, _⟩ => ⟨S2x5120, .f32⟩
  | .hbm, ⟨8, _⟩ => ⟨S2x896x5120, .fp8e4m3⟩
  | .hbm, ⟨9, _⟩ => ⟨S2x896x5120, .fp8e5m2⟩
  | .hbm, ⟨10, _⟩ => ⟨S2x896x5120, .fp8e5m2⟩
  | .hbm, ⟨11, _⟩ => ⟨S2x896x5120, .bf16⟩
  | .hbm, ⟨12, _⟩ => ⟨S3x2x5120, .f32⟩
  | .hbm, ⟨13, _⟩ => ⟨S7x3x2x5120, .f32⟩
  | .local _ .vmem, ⟨0, _⟩ => ⟨S2x896x5120, .fp8e4m3⟩
  | .local _ .vmem, ⟨1, _⟩ => ⟨S2x896x40, .f32⟩
  | .local _ .vmem, ⟨2, _⟩ => ⟨S2x896x5120, .bf16⟩
  | .local _ .vmem, ⟨3, _⟩ => ⟨S2x896x5120, .fp8e5m2⟩
  | .local _ .vmem, ⟨4, _⟩ => ⟨S2x896x40, .f32⟩
  | .local _ .vmem, ⟨5, _⟩ => ⟨S2x896x5120, .fp8e5m2⟩
  | .local _ .vmem, ⟨6, _⟩ => ⟨S2x896x40, .f32⟩
  | .local _ .vmem, ⟨7, _⟩ => ⟨S2x5120, .f32⟩
  | .local _ .vmem, ⟨8, _⟩ => ⟨S2x896x5120, .bf16⟩
  | .local _ .vmem, ⟨9, _⟩ => ⟨S3x2x5120, .f32⟩
  | .local _ .vmem, ⟨10, _⟩ => ⟨S7x3x2x5120, .f32⟩
  | _, _ => ⟨S2x896x5120, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S2x896x5120 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x896x40 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x896x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x896x5120 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x896x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x896x5120 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x896x40 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x896x5120 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x2x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S7x3x2x5120 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.BitsRun.lean ====
/- The kernel read on bits: its body runs, at every point of the grid, without a fault. -/
module

public import proofs.«01_k».proof.Proof.Gen.Kernel.Frame
public import proofs.«01_k».proof.Proof.Gen.Kernel.Skeleton

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 2 % 7 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points before point 2 — by arithmetic of the point. -/
theorem hcond0_1 : ∀ t : Fin cfg0.N, cond0_1 (grid0.coords t) ↔ t.val < 2 :=
  (fun t => by
    have ht : t.val < 14 := Nat.lt_of_lt_of_eq t.isLt N_0
    have e0 : (grid0.coords t 0).val = t.val / 2 % 7 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val < 2)

/-- The condition of the body's `scf.if` 2 (`k0_h3`), from the grid coordinates (the skeleton's scalar
    chain substituted). -/
abbrev cond0_2 (i : grid0.Coords) : Prop := k0_cond3 i = 1#1
/-- It holds at the points from point 2 on — by arithmetic of the point. -/
theorem hcond0_2 : ∀ t : Fin cfg0.N, cond0_2 (grid0.coords t) ↔ 2 ≤ t.val :=
  (fun t => by
    have ht : t.val < 14 := Nat.lt_of_lt_of_eq t.isLt N_0
    have e0 : (grid0.coords t 0).val = t.val / 2 % 7 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ 2 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x5120 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x5120 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x40x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x5120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x5120 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x2x5120 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3x2x5120 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x5120 .bf16 := Memref.whole cc0_scratch0
abbrev scM0_1 : Memref sig .tc .vmem S128x5120 .bf16 := Memref.whole cc0_scratch1
abbrev scM0_2 : Memref sig .tc .vmem S128x5120 .bf16 := Memref.whole cc0_scratch2
abbrev scM0_3 : Memref sig .tc .vmem S128x5120 .bf16 := Memref.whole cc0_scratch3
abbrev scM0_4 : Memref sig .tc .vmem S2x8x5120 .f32 := Memref.whole cc0_scratch4
abbrev scM0_5 : Memref sig .tc .vmem S2x16x5120 .bf16 := Memref.whole cc0_scratch5
abbrev scM0_6 : Memref sig .tc .vmem S2x128x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-- The combinations of the three conditions that the grid meets: at the first point, at the second, later. -/
def Case (i : grid0.Coords) : Prop :=
  (cond0_0 i ∧ cond0_1 i ∧ ¬cond0_2 i) ∨ (¬cond0_0 i ∧ cond0_1 i ∧ ¬cond0_2 i) ∨ (¬cond0_0 i ∧ ¬cond0_1 i ∧ cond0_2 i)

/-- Every point is one of them. -/
theorem case_of (t : Fin cfg0.N) : Case (grid0.coords t) := by
  have hN : t.val < 14 := lt_of_lt_of_eq t.isLt (show cfg0.N = 14 from N_0)
  unfold Case
  rw [hcond0_0, hcond0_1, hcond0_2]
  omega

set_option maxHeartbeats 60000000 in
/-- The body on whole staging memrefs, at any point: the inputs' buffers are left as they were, the outputs' and the scratch
    buffers at some contents. -/
theorem run_body (c : Dev nD) (i : grid0.Coords) (arg2 : Memref sig .tc .vmem S1x128x5120 .fp8e4m3) (harg2 : arg2.IsWhole) (arg3 : Memref sig .tc .vmem S1x40x128 .f32) (harg3 : arg3.IsWhole) (arg4 : Memref sig .tc .vmem S1x128x5120 .bf16) (harg4 : arg4.IsWhole) (arg5 : Memref sig .tc .vmem S1x128x5120 .fp8e5m2) (harg5 : arg5.IsWhole) (arg6 : Memref sig .tc .vmem S1x40x128 .f32) (harg6 : arg6.IsWhole) (arg7 : Memref sig .tc .vmem S1x128x5120 .fp8e5m2) (harg7 : arg7.IsWhole) (arg8 : Memref sig .tc .vmem S1x40x128 .f32) (harg8 : arg8.IsWhole) (arg9 : Memref sig .tc .vmem S2x5120 .f32) (harg9 : arg9.IsWhole) (arg10 : Memref sig .tc .vmem S32x128 .bf16) (harg10 : arg10.IsWhole) (arg11 : Memref sig .tc .vmem S1x128x5120 .bf16) (harg11 : arg11.IsWhole) (arg12 : Memref sig .tc .vmem S3x2x5120 .f32) (harg12 : arg12.IsWhole) (arg13 : Memref sig .tc .vmem S1x3x2x5120 .f32) (harg13 : arg13.IsWhole) (arg14 : Memref sig .tc .vmem S128x5120 .bf16) (harg14 : arg14.IsWhole) (arg15 : Memref sig .tc .vmem S128x5120 .bf16) (harg15 : arg15.IsWhole) (arg16 : Memref sig .tc .vmem S128x5120 .bf16) (harg16 : arg16.IsWhole) (arg17 : Memref sig .tc .vmem S128x5120 .bf16) (harg17 : arg17.IsWhole) (arg18 : Memref sig .tc .vmem S2x8x5120 .f32) (harg18 : arg18.IsWhole) (arg19 : Memref sig .tc .vmem S2x16x5120 .bf16) (harg19 : arg19.IsWhole) (arg20 : Memref sig .tc .vmem S2x128x128 .f32) (harg20 : arg20.IsWhole) (hc : Case i)
    (x0 : Vec F S1x128x5120 .fp8e4m3) (x1 : Vec F S1x40x128 .f32) (x2 : Vec F S1x128x5120 .bf16) (x3 : Vec F S1x128x5120 .fp8e5m2) (x4 : Vec F S1x40x128 .f32) (x5 : Vec F S1x128x5120 .fp8e5m2) (x6 : Vec F S1x40x128 .f32) (x7 : Vec F S2x5120 .f32) (x8 : Vec F S32x128 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_adaln_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
    intro E K
    simp only [cc0_adaln_bwd_eq_skeleton]; unfold cc0_adaln_bwd_skel
    simp only [k0_part302_eq_skeleton, k0_part2_eq_skeleton, k0_part1_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part303_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part304_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part305_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part306_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton, k0_part297_eq_skeleton, k0_part298_eq_skeleton, k0_part299_eq_skeleton, k0_part300_eq_skeleton, k0_part301_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    rcases hc with ⟨hc0, hc1, hc2⟩ | ⟨hc0, hc1, hc2⟩ | ⟨hc0, hc1, hc2⟩
    all_goals
      sl_exec (disch := first | sl_exact hc0 | sl_exact hc1 | sl_exact hc2)
      sl_step
      iapply Hk
      isplitl [H0]
      · iexists _; isplitr; · ipureintro; exact harg2.read_unread _
        iexact H0
      isplitl [H1]
      · iexists _; isplitr; · ipureintro; exact harg3.read_unread _
        iexact H1
      isplitl [H2]
      · iexists _; isplitr; · ipureintro; exact harg4.read_unread _
        iexact H2
      isplitl [H3]
      · iexists _; isplitr; · ipureintro; exact harg5.read_unread _
        iexact H3
      isplitl [H4]
      · iexists _; isplitr; · ipureintro; exact harg6.read_unread _
        iexact H4
      isplitl [H5]
      · iexists _; isplitr; · ipureintro; exact harg7.read_unread _
        iexact H5
      isplitl [H6]
      · iexists _; isplitr; · ipureintro; exact harg8.read_unread _
        iexact H6
      isplitl [H7]
      · iexists _; isplitr; · ipureintro; exact harg9.read_unread _
        iexact H7
      isplitl [H8]
      · iexists _; isplitr; · ipureintro; exact harg10.read_unread _
        iexact H8
      isplitl [H9]
      · iexists _, _; isplitr; swap; · iexact H9
        ipureintro; rfl
      isplitl [H10]
      · iexists _, _; isplitr; swap; · iexact H10
        ipureintro; rfl
      isplitl [H11]
      · iexists _, _; isplitr; swap; · iexact H11
        ipureintro; rfl
      isplitl [HS0]
      · iexists _, _; isplitr; swap; · iexact HS0
        ipureintro; rfl
      isplitl [HS1]
      · iexists _, _; isplitr; swap; · iexact HS1
        ipureintro; rfl
      isplitl [HS2]
      · iexists _, _; isplitr; swap; · iexact HS2
        ipureintro; rfl
      isplitl [HS3]
      · iexists _, _; isplitr; swap; · iexact HS3
        ipureintro; rfl
      isplitl [HS4]
      · iexists _, _; isplitr; swap; · iexact HS4
        ipureintro; rfl
      isplitl [HS5]
      · iexists _, _; isplitr; swap; · iexact HS5
        ipureintro; rfl
      iexists _, _; isplitr; swap; · iexact HS6
      ipureintro; rfl

end Cert.Kernel.Hand

end
-- ==== Proof.BitsFrame.lean ====
/- The kernel read on bits: its frame. Nothing is said of what it leaves in its results. -/
module

public import proofs.«01_k».proof.Proof.BitsRun
public import Idealize.ShloMosaic.Lib.Claim

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The output windows this certificate FORGETS (9, 10, 11): nothing reads what the kernel leaves in them, so nothing
    of it is named (Lib/Pipeline/Dat.lean `Dat.toRForget`). -/
def forgets0 : Fin 12 → Bool := fun w => w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d))

set_option maxHeartbeats 4800000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 14 := lt_of_lt_of_eq t.isLt (show cfg0.N = 14 from N_0)
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run_body c (grid0.coords t) _ _ _ _ _ _ _ _ _ _ _ _ _ _ _ _ _ _ _ _ _ _ _ _ _ _ _ _ _ _ _ _ _ _ _ _ _ _ (case_of t) (iblk m c 0 t) (iblk m c 1 t) (iblk m c 2 t) (iblk m c 3 t) (iblk m c 4 t) (iblk m c 5 t) (iblk m c 6 t) (iblk m c 7 t) (iblk m c 8 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 9, 10, 11) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- What the launch says of the arrays and of the other buffers, read at the eight arguments. -/
theorem kept {r : PUnit × MemSt nD τ sig (Elt F)}
    (h : Pipeline.RDat.FramePost (cfgs 0) (fun c => (dats m 0 c).toRForget forgets0) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    (Pipeline.RDat.FramePost.arr_in h c 2 rfl).trans ((A_eq m c 2).trans (V_main_arg2 m c)),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    (Pipeline.RDat.FramePost.arr_in h c 7 rfl).trans ((A_eq m c 7).trans (V_main_arg7 m c))⟩

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => kept m h c) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel.Hand

end
-- ==== Proof.Roll.lean ====
/- The kernel's body with its unrolled loops rolled up again: the same operations in the same order, each loop a
    recursion over its counter.  `Proof/BodyEq.lean` proves that the printed body is this one. -/
module

public import proofs.«01_k».proof.KernelIdeal
public import proofs.«01_k».proof.Proof.Gen.KernelIdeal

@[expose] public section

noncomputable section

namespace Cert.KernelIdeal.Roll

open Idealize.ShloMosaic Idealize.SL.Sem

variable {F : FTy → Type} [FloatOps F] [Named F]

/-- The body's effects. -/
abbrev Eff (F : FTy → Type) := TpuEff nD τ sig (Elt F) Λ₀ .tc

/-- `j` rounds of a loop from counter `k` on, a state handed from round to round. -/
def rounds {σ : Type} (n : Nat) (body : Fin n → σ → Prog (Eff F) σ) (j : Nat) : (k : Nat) → k + j = n → σ → Prog (Eff F) σ :=
  Nat.rec (motive := fun j => (k : Nat) → k + j = n → σ → Prog (Eff F) σ) (fun _ _ s => .ret s)
    (fun _ ih k h s => (body ⟨k, by omega⟩ s).bind fun s' => ih (k + 1) (by omega) s') j

/-- The loop `for k in range(n)`. -/
abbrev loop {σ : Type} (n : Nat) (body : Fin n → σ → Prog (Eff F) σ) (s : σ) : Prog (Eff F) σ :=
  rounds n body n 0 (Nat.zero_add n) s

/-! ## The blocks of the loops: 32 rows by 128 columns -/

theorem inb3 : ∀ (r : Fin 4) (c : Fin 40) (a), (![0, 32 * r.val, 128 * c.val] : Fin 3 → Nat) a + S1x32x128.size a ≤ S1x128x5120.size a := by
  decide +kernel
theorem inb2 : ∀ (r : Fin 4) (c : Fin 40) (a), (![32 * r.val, 128 * c.val] : Fin 2 → Nat) a + S32x128.size a ≤ S128x5120.size a := by
  decide +kernel
theorem inbS : ∀ (p : Fin 2) (r : Fin 4) (a), (![p.val, 32 * r.val, 0] : Fin 3 → Nat) a + S1x32x128.size a ≤ S2x128x128.size a := by
  decide +kernel

/-- Block `(r, c)` of a window's `[1, 128, 5120]` block, -/
abbrev rect3 (r : Fin 4) (c : Fin 40) : Rect S1x128x5120 := Rect.unit (s := S1x128x5120) ![0, 32 * r.val, 128 * c.val] S1x32x128.size (inb3 r c)
/-- of a `[128, 5120]` scratch, -/
abbrev rect2 (r : Fin 4) (c : Fin 40) : Rect S128x5120 := Rect.unit (s := S128x5120) ![32 * r.val, 128 * c.val] S32x128.size (inb2 r c)
/-- and row group `r` of plane `p` of the scratch of partial sums. -/
abbrev rectS (p : Fin 2) (r : Fin 4) : Rect S2x128x128 := Rect.unit (s := S2x128x128) ![p.val, 32 * r.val, 0] S1x32x128.size (inbS p r)

theorem packed3 : ∀ (r : Fin 4) (c : Fin 40), (rect3 r c).PackedRows (EltTy.packing .bf16) := by decide +kernel
theorem packed2 : ∀ (r : Fin 4) (c : Fin 40), (rect2 r c).PackedRows (EltTy.packing .bf16) := by decide +kernel

theorem slcX : ∀ (r : Fin 4) (c : Fin 40), S128x128.Slices ![32 * r.val, c.val] S32x1 := by decide +kernel
theorem slcH : ∀ (r : Fin 4) (c : Fin 40), S128x128.Slices ![32 * r.val, 40 + c.val] S32x1 := by decide +kernel
theorem slcY : ∀ (r : Fin 4) (c : Fin 40), S128x128.Slices ![32 * r.val, 80 + c.val] S32x1 := by decide +kernel
theorem slcR : ∀ (r : Fin 4), S128x1.Slices ![32 * r.val, 0] S32x1 := by decide +kernel
theorem slcQ : ∀ (q : Fin 2), S32x128.Slices ![16 * q.val, 0] S16x128 := by decide +kernel

theorem inbM : ∀ (i : grid0.Coords) (c : Fin 40) (a),
    (![(Scalar.indexCast (BitVec.ofNat 32 (i 1).val)).toNat, 0, 128 * c.val] : Fin 3 → Nat) a + S1x8x128.size a ≤ S2x8x5120.size a := by
  decide +kernel

variable [Facts]
open Facts

open Shapes1.Facts₀ Shapes2.Facts₀ K0.Facts₀ in
/-- The first point's preparation: the two rows `1 + mod_scale`, each repeated over eight rows and each split in three. -/
def prep (arg9 : Memref sig .tc .vmem S2x5120 .f32) (harg9 : arg9.IsWhole) (arg18 : Memref sig .tc .vmem S2x8x5120 .f32) (harg18 : arg18.IsWhole)
    (arg19 : Memref sig .tc .vmem S2x16x5120 .bf16) (harg19 : arg19.IsWhole) : Prog (Eff F) PUnit := do
  let v12090 : Vec F S2x5120 .f32 ← Prog.lift (.load arg9 (Rect.unit (s := S2x5120) ![0, 0] S2x5120.size inb_S2x5120_S2x5120_0_0).toLoadRect (View.loadsAt_vmem h_S2x5120))
  have cst_5047 : F .f32 := Scalar.ofBits .f32 0x3F800000#32
  have v12091 : FVec F S2x5120 .f32 := broadcast S2x5120 cst_5047
  have v12092 : FVec F S2x5120 .f32 := addf v12091 v12090
  have v12093 : FVec F S1x5120 .f32 := extractStridedSlice S1x5120 ![0, 0] v12092 slices_S2x5120_o0_0_S1x5120
  have v12094 : FVec F S1x5120 .f32 := shapeCast S1x5120 v12093 shapeCasts_S1x5120_S1x5120
  have v12095 : FVec F S8x5120 .f32 := broadcastTo S8x5120 v12094 broadcasts_S1x5120_S8x5120
  let v12096 : Vec F S1x8x5120 .f32 ← Prog.lift (.load arg18 (Rect.unit (s := S2x8x5120) ![0, 0, 0] S1x8x5120.size inb_S2x8x5120_S1x8x5120_0_0_0).toLoadRect (View.loadsAt_vmem h_S1x8x5120))
  have v12097 : FVec F S8x5120 .f32 := shapeCast S8x5120 v12096 shapeCasts_S1x8x5120_S8x5120
  have v12098 : FVec F S1x8x5120 .f32 := shapeCast S1x8x5120 v12095 shapeCasts_S8x5120_S1x8x5120
  Prog.lift (.store arg18 (Rect.unit (s := S2x8x5120) ![0, 0, 0] S1x8x5120.size inb_S2x8x5120_S1x8x5120_0_0_0) v12098 Finset.univ (View.stores_vmem_bits_univ h_S1x8x5120 rfl) (.inl rfl))
  have v12099 : FVec F S1x5120 .f32 := extractStridedSlice S1x5120 ![0, 0] v12092 slices_S2x5120_o0_0_S1x5120
  have v12100 : FVec F S1x5120 .bf16 := truncf .bf16 v12099 bitsLt_bf16_f32
  have v12101 : FVec F S1x5120 .f32 := extf .f32 v12100 bitsLt_bf16_f32
  have v12102 : FVec F S1x5120 .f32 := subf v12099 v12101
  have v12103 : FVec F S1x5120 .bf16 := truncf .bf16 v12102 bitsLt_bf16_f32
  have v12104 : FVec F S1x5120 .f32 := extf .f32 v12103 bitsLt_bf16_f32
  have v12105 : FVec F S1x5120 .f32 := subf v12102 v12104
  have v12106 : FVec F S1x5120 .bf16 := truncf .bf16 v12105 bitsLt_bf16_f32
  have cst_5051 : F .bf16 := Scalar.ofBits .bf16 0x0000#16
  have v12107 : FVec F S13x5120 .bf16 := broadcast S13x5120 cst_5051
  have v12108 : FVec F S16x5120 .bf16 := concatenate S16x5120 0 [⟨S1x5120, v12100⟩, ⟨S1x5120, v12103⟩, ⟨S1x5120, v12106⟩, ⟨S13x5120, v12107⟩] concatenates_S1x5120_S1x5120_S1x5120_S13x5120_S16x5120_d0
  let v12109 : Vec F S1x16x5120 .bf16 ← Prog.lift (.load arg19 (Rect.unit (s := S2x16x5120) ![0, 0, 0] S1x16x5120.size inb_S2x16x5120_S1x16x5120_0_0_0).toLoadRect (View.loadsAt_vmem h_S1x16x5120))
  have v12110 : FVec F S16x5120 .bf16 := shapeCast S16x5120 v12109 shapeCasts_S1x16x5120_S16x5120
  have v12111 : FVec F S1x16x5120 .bf16 := shapeCast S1x16x5120 v12108 shapeCasts_S16x5120_S1x16x5120
  Prog.lift (.store arg19 (Rect.unit (s := S2x16x5120) ![0, 0, 0] S1x16x5120.size inb_S2x16x5120_S1x16x5120_0_0_0) v12111 Finset.univ (View.stores_vmem h_S1x16x5120 (harg19.storeExact_slice rfl _ packedbf16_S2x16x5120_S1x16x5120_0_0_0) (fun _ => rfl)) (.inl rfl))
  have v12112 : FVec F S1x5120 .f32 := extractStridedSlice S1x5120 ![1, 0] v12092 slices_S2x5120_o1_0_S1x5120
  have v12113 : FVec F S1x5120 .f32 := shapeCast S1x5120 v12112 shapeCasts_S1x5120_S1x5120
  have v12114 : FVec F S8x5120 .f32 := broadcastTo S8x5120 v12113 broadcasts_S1x5120_S8x5120
  let v12115 : Vec F S1x8x5120 .f32 ← Prog.lift (.load arg18 (Rect.unit (s := S2x8x5120) ![1, 0, 0] S1x8x5120.size inb_S2x8x5120_S1x8x5120_1_0_0).toLoadRect (View.loadsAt_vmem h_S1x8x5120))
  have v12116 : FVec F S8x5120 .f32 := shapeCast S8x5120 v12115 shapeCasts_S1x8x5120_S8x5120
  have v12117 : FVec F S1x8x5120 .f32 := shapeCast S1x8x5120 v12114 shapeCasts_S8x5120_S1x8x5120
  Prog.lift (.store arg18 (Rect.unit (s := S2x8x5120) ![1, 0, 0] S1x8x5120.size inb_S2x8x5120_S1x8x5120_1_0_0) v12117 Finset.univ (View.stores_vmem_bits_univ h_S1x8x5120 rfl) (.inl rfl))
  have v12118 : FVec F S1x5120 .f32 := extractStridedSlice S1x5120 ![1, 0] v12092 slices_S2x5120_o1_0_S1x5120
  have v12119 : FVec F S1x5120 .bf16 := truncf .bf16 v12118 bitsLt_bf16_f32
  have v12120 : FVec F S1x5120 .f32 := extf .f32 v12119 bitsLt_bf16_f32
  have v12121 : FVec F S1x5120 .f32 := subf v12118 v12120
  have v12122 : FVec F S1x5120 .bf16 := truncf .bf16 v12121 bitsLt_bf16_f32
  have v12123 : FVec F S1x5120 .f32 := extf .f32 v12122 bitsLt_bf16_f32
  have v12124 : FVec F S1x5120 .f32 := subf v12121 v12123
  have v12125 : FVec F S1x5120 .bf16 := truncf .bf16 v12124 bitsLt_bf16_f32
  have cst_5058 : F .bf16 := Scalar.ofBits .bf16 0x0000#16
  have v12126 : FVec F S13x5120 .bf16 := broadcast S13x5120 cst_5058
  have v12127 : FVec F S16x5120 .bf16 := concatenate S16x5120 0 [⟨S1x5120, v12119⟩, ⟨S1x5120, v12122⟩, ⟨S1x5120, v12125⟩, ⟨S13x5120, v12126⟩] concatenates_S1x5120_S1x5120_S1x5120_S13x5120_S16x5120_d0
  let v12128 : Vec F S1x16x5120 .bf16 ← Prog.lift (.load arg19 (Rect.unit (s := S2x16x5120) ![1, 0, 0] S1x16x5120.size inb_S2x16x5120_S1x16x5120_1_0_0).toLoadRect (View.loadsAt_vmem h_S1x16x5120))
  have v12129 : FVec F S16x5120 .bf16 := shapeCast S16x5120 v12128 shapeCasts_S1x16x5120_S16x5120
  have v12130 : FVec F S1x16x5120 .bf16 := shapeCast S1x16x5120 v12127 shapeCasts_S16x5120_S1x16x5120
  Prog.lift (.store arg19 (Rect.unit (s := S2x16x5120) ![1, 0, 0] S1x16x5120.size inb_S2x16x5120_S1x16x5120_1_0_0) v12130 Finset.univ (View.stores_vmem h_S1x16x5120 (harg19.storeExact_slice rfl _ packedbf16_S2x16x5120_S1x16x5120_1_0_0) (fun _ => rfl)) (.inl rfl))

open Shapes1.Facts₀ Shapes2.Facts₀ K0.Facts₀ in
/-- The scales of the point's 128 tokens: columns 0–39 of `x`, 40–79 of `dh`, 80–119 of `dy`; and the block of ones. -/
def scales (arg3 : Memref sig .tc .vmem S1x40x128 .f32) (arg8 : Memref sig .tc .vmem S1x40x128 .f32) (arg6 : Memref sig .tc .vmem S1x40x128 .f32)
    (arg10 : Memref sig .tc .vmem S32x128 .bf16) : Prog (Eff F) (FVec F S128x128 .bf16 × FVec F S32x128 .bf16) := do
  let v5 : Vec F S1x40x128 .f32 ← Prog.lift (.load arg3 (Rect.unit (s := S1x40x128) ![0, 0, 0] S1x40x128.size inb_S1x40x128_S1x40x128_0_0_0).toLoadRect (View.loadsAt_vmem h_S1x40x128))
  have v6 : FVec F S40x128 .f32 := shapeCast S40x128 v5 shapeCasts_S1x40x128_S40x128
  let v7 : Vec F S1x40x128 .f32 ← Prog.lift (.load arg8 (Rect.unit (s := S1x40x128) ![0, 0, 0] S1x40x128.size inb_S1x40x128_S1x40x128_0_0_0).toLoadRect (View.loadsAt_vmem h_S1x40x128))
  have v8 : FVec F S40x128 .f32 := shapeCast S40x128 v7 shapeCasts_S1x40x128_S40x128
  let v9 : Vec F S1x40x128 .f32 ← Prog.lift (.load arg6 (Rect.unit (s := S1x40x128) ![0, 0, 0] S1x40x128.size inb_S1x40x128_S1x40x128_0_0_0).toLoadRect (View.loadsAt_vmem h_S1x40x128))
  have v10 : FVec F S40x128 .f32 := shapeCast S40x128 v9 shapeCasts_S1x40x128_S40x128
  have cst : F .f32 := Scalar.ofBits .f32 0x00000000#32
  have v11 : FVec F S8x128 .f32 := broadcast S8x128 cst
  have v12 : FVec F S128x128 .f32 := concatenate S128x128 0 [⟨S40x128, v6⟩, ⟨S40x128, v8⟩, ⟨S40x128, v10⟩, ⟨S8x128, v11⟩] concatenates_S40x128_S40x128_S40x128_S8x128_S128x128_d0
  have v13 : FVec F S128x128 .f32 := transpose S128x128 [1, 0] v12 transposes_S128x128_p1_0_S128x128
  have v14 : FVec F S128x128 .bf16 := truncf .bf16 v13 bitsLt_bf16_f32
  let v15 : Vec F S32x128 .bf16 ← Prog.lift (.load arg10 (Rect.unit (s := S32x128) ![0, 0] S32x128.size inb_S32x128_S32x128_0_0).toLoadRect (View.loadsAt_vmem h_S32x128))
  have v16 : FVec F S32x128 .bf16 := shapeCast S32x128 v15 shapeCasts_S32x128_S32x128
  pure (v14, v16)

section
open Shapes1.Facts₀ Shapes2.Facts₀ K0.Facts₀

/-- A column of scales spread over a block. -/
def spread (v : FVec F S32x1 .bf16) : FVec F S32x128 .bf16 :=
  broadcastTo S32x128 (shapeCast S32x1 v shapeCasts_S32x1_S32x1) broadcasts_S32x1_S32x128

/-- A block of `x`, dequantized. -/
def xBlk (sw : FVec F S128x128 .bf16) (r : Fin 4) (c : Fin 40) (v : Vec F S1x32x128 .fp8e4m3) : FVec F S32x128 .bf16 :=
  mulf (extf .bf16 (shapeCast S32x128 v shapeCasts_S1x32x128_S32x128) bitsLt_fp8e4m3_bf16)
    (spread (extractStridedSlice S32x1 ![32 * r.val, c.val] sw (slcX r c)))

/-- A block of `dh`, dequantized. -/
def hBlk (sw : FVec F S128x128 .bf16) (r : Fin 4) (c : Fin 40) (v : Vec F S1x32x128 .fp8e5m2) : FVec F S32x128 .bf16 :=
  mulf (extf .bf16 (shapeCast S32x128 v shapeCasts_S1x32x128_S32x128) bitsLt_fp8e5m2_bf16)
    (spread (extractStridedSlice S32x1 ![32 * r.val, 40 + c.val] sw (slcH r c)))

/-- A block of `dy`, dequantized. -/
def yBlk (sw : FVec F S128x128 .bf16) (r : Fin 4) (c : Fin 40) (v : Vec F S1x32x128 .fp8e5m2) : FVec F S32x128 .bf16 :=
  mulf (extf .bf16 (shapeCast S32x128 v shapeCasts_S1x32x128_S32x128) bitsLt_fp8e5m2_bf16)
    (spread (extractStridedSlice S32x1 ![32 * r.val, 80 + c.val] sw (slcY r c)))

/-- Load block `(r, c)` of a window, -/
def ld3 {e : EltTy} (a : Memref sig .tc .vmem S1x128x5120 e) (r : Fin 4) (c : Fin 40) : Prog (Eff F) (Vec F S1x32x128 e) :=
  Prog.lift (.load a (rect3 r c).toLoadRect (View.loadsAt_vmem h_S1x32x128))
/-- load block `(r, c)` of a scratch, -/
def ld2 {e : EltTy} (a : Memref sig .tc .vmem S128x5120 e) (r : Fin 4) (c : Fin 40) : Prog (Eff F) (Vec F S32x128 e) :=
  Prog.lift (.load a (rect2 r c).toLoadRect (View.loadsAt_vmem h_S32x128))
/-- store it (behind a load of the place, whose value nothing reads). -/
def st2 (a : Memref sig .tc .vmem S128x5120 .bf16) (ha : a.IsWhole) (r : Fin 4) (c : Fin 40) (v : FVec F S32x128 .bf16) : Prog (Eff F) PUnit := do
  let _ ← ld2 (F := F) a r c
  Prog.lift (.store a (rect2 r c) (shapeCast S32x128 v shapeCasts_S32x128_S32x128) Finset.univ
    (View.stores_vmem h_S32x128 (ha.storeExact_slice rfl _ (packed2 r c)) (fun _ => rfl)) (.inl rfl))

/-- The running sums of `x` and of `x²`, none before the first block. -/
abbrev Sums (F : FTy → Type) := Option (FVec F S32x128 .f32 × FVec F S32x128 .f32)

/-- One block of the first loop. -/
def l1Block (arg2 : Memref sig .tc .vmem S1x128x5120 .fp8e4m3) (arg7 : Memref sig .tc .vmem S1x128x5120 .fp8e5m2)
    (arg14 : Memref sig .tc .vmem S128x5120 .bf16) (harg14 : arg14.IsWhole) (arg15 : Memref sig .tc .vmem S128x5120 .bf16) (harg15 : arg15.IsWhole)
    (arg16 : Memref sig .tc .vmem S128x5120 .bf16) (harg16 : arg16.IsWhole) (sw : FVec F S128x128 .bf16) (one : FVec F S32x128 .bf16)
    (r : Fin 4) (c : Fin 40) (s : Sums F) : Prog (Eff F) (Sums F) := do
  let vx ← ld3 arg2 r c
  let vh ← ld3 arg7 r c
  st2 arg14 harg14 r c (xBlk sw r c vx)
  st2 arg15 harg15 r c (hBlk sw r c vh)
  st2 arg16 harg16 r c (mulf (xBlk sw r c vx) (hBlk sw r c vh))
  let xf : FVec F S32x128 .f32 := extf .f32 (xBlk sw r c vx) bitsLt_bf16_f32
  let t1 := mulf xf (extf .f32 one bitsLt_bf16_f32)
  let t2 := mulf xf xf
  pure (some (s.elim (t1, t2) fun p => (addf p.1 t1, addf p.2 t2)))

/-- Store a plane's partial sums of row group `r`. -/
def stS (arg20 : Memref sig .tc .vmem S2x128x128 .f32) (p : Fin 2) (r : Fin 4) (v : FVec F S32x128 .f32) : Prog (Eff F) PUnit := do
  let _ : Vec F S1x32x128 .f32 ← Prog.lift (.load arg20 (rectS p r).toLoadRect (View.loadsAt_vmem h_S1x32x128))
  Prog.lift (.store arg20 (rectS p r) (shapeCast S1x32x128 v shapeCasts_S32x128_S1x32x128) Finset.univ
    (View.stores_vmem_bits_univ h_S1x32x128 rfl) (.inl rfl))

/-- One row group of the first loop. -/
def l1Row (arg2 : Memref sig .tc .vmem S1x128x5120 .fp8e4m3) (arg7 : Memref sig .tc .vmem S1x128x5120 .fp8e5m2)
    (arg14 : Memref sig .tc .vmem S128x5120 .bf16) (harg14 : arg14.IsWhole) (arg15 : Memref sig .tc .vmem S128x5120 .bf16) (harg15 : arg15.IsWhole)
    (arg16 : Memref sig .tc .vmem S128x5120 .bf16) (harg16 : arg16.IsWhole) (arg20 : Memref sig .tc .vmem S2x128x128 .f32)
    (sw : FVec F S128x128 .bf16) (one : FVec F S32x128 .bf16) (r : Fin 4) (_ : PUnit) : Prog (Eff F) PUnit := do
  let s ← loop 40 (l1Block arg2 arg7 arg14 harg14 arg15 harg15 arg16 harg16 sw one r) none
  let p := s.getD (extf .f32 one bitsLt_bf16_f32, extf .f32 one bitsLt_bf16_f32)
  stS arg20 0 r p.1
  stS arg20 1 r p.2

/-- One block of the second loop: `dy` dequantized and kept, and with it the block of `f`. -/
def l2Block (arg5 : Memref sig .tc .vmem S1x128x5120 .fp8e5m2) (arg4 : Memref sig .tc .vmem S1x128x5120 .bf16)
    (arg17 : Memref sig .tc .vmem S128x5120 .bf16) (harg17 : arg17.IsWhole) (sw : FVec F S128x128 .bf16) (c : Fin 40) (r : Fin 4) :
    Prog (Eff F) (FVec F S32x128 .bf16 × FVec F S32x128 .bf16) := do
  let vy ← ld3 arg5 r c
  st2 arg17 harg17 r c (yBlk sw r c vy)
  let vf : Vec F S1x32x128 .bf16 ← ld3 arg4 r c
  pure (yBlk sw r c vy, shapeCast S32x128 vf shapeCasts_S1x32x128_S32x128)

/-- The product of half `q` of two blocks. -/
def half (q : Fin 2) (yf : FVec F S32x128 .bf16 × FVec F S32x128 .bf16) : FVec F S16x128 .f32 :=
  mulf (extf .f32 (extractStridedSlice S16x128 ![16 * q.val, 0] yf.1 (slcQ q)) bitsLt_bf16_f32)
    (extf .f32 (extractStridedSlice S16x128 ![16 * q.val, 0] yf.2 (slcQ q)) bitsLt_bf16_f32)

/-- A column block's share of the gate's gradient: the eight half products summed, and the sum's sixteen rows. -/
def gateOf (a b c d : FVec F S32x128 .bf16 × FVec F S32x128 .bf16) : FVec F S1x128 .f32 :=
  shapeCast S1x128 (multiReduction .add [0] S128
    (addf (addf (addf (addf (addf (addf (addf (half 0 a) (half 1 a)) (half 0 b)) (half 1 b)) (half 0 c)) (half 1 c)) (half 0 d)) (half 1 d))
    0x00000000#32 reduces_S16x128_S128 (.inl rfl) rfl) shapeCasts_S128_S1x128

/-- One column block of the second loop, its share of the gate's gradient noted at its number. -/
def l2Col (arg5 : Memref sig .tc .vmem S1x128x5120 .fp8e5m2) (arg4 : Memref sig .tc .vmem S1x128x5120 .bf16)
    (arg17 : Memref sig .tc .vmem S128x5120 .bf16) (harg17 : arg17.IsWhole) (sw : FVec F S128x128 .bf16) (c : Fin 40)
    (dg : Nat → FVec F S1x128 .f32) : Prog (Eff F) (Nat → FVec F S1x128 .f32) := do
  let a ← l2Block arg5 arg4 arg17 harg17 sw c 0
  let b ← l2Block arg5 arg4 arg17 harg17 sw c 1
  let d ← l2Block arg5 arg4 arg17 harg17 sw c 2
  let e ← l2Block arg5 arg4 arg17 harg17 sw c 3
  pure fun k => bif Nat.beq k c.val then gateOf a b d e else dg k

/-- The column blocks `k, …, k + j - 1` as a list. -/
def colList (dg : Nat → FVec F S1x128 .f32) (j : Nat) : Nat → List ((s : Shape) × (s.Idx → F .f32)) :=
  Nat.rec (motive := fun _ => Nat → List ((s : Shape) × (s.Idx → F .f32))) (fun _ => []) (fun _ ih k => ⟨S1x128, dg k⟩ :: ih (k + 1)) j
end

open Shapes1.Facts₀ Shapes2.Facts₀ K0.Facts₀ in
/-- The middle: the statistics of the rows, the block's three rows of results and their stores into the block's own result. -/
def mid (i : grid0.Coords) (arg13 : Memref sig .tc .vmem S1x3x2x5120 .f32) (arg15 : Memref sig .tc .vmem S128x5120 .bf16)
    (arg16 : Memref sig .tc .vmem S128x5120 .bf16) (arg19 : Memref sig .tc .vmem S2x16x5120 .bf16) (arg20 : Memref sig .tc .vmem S2x128x128 .f32)
    (dg : Nat → FVec F S1x128 .f32) :
    Prog (Eff F) (Σ' (_ : FVec F S128x1 .f32) (_ : FVec F S128x1 .f32) (_ : FVec F S128x1 .f32) (_ : FVec F S1x5120 .f32) (_ : FVec F S1x5120 .f32), FVec F S1x5120 .f32) := do
  let arg1 : BitVec 32 := BitVec.ofNat 32 (i 1).val
  let v8713 : Vec F S1x128x128 .f32 ← Prog.lift (.load arg20 (Rect.unit (s := S2x128x128) ![0, 0, 0] S1x128x128.size inb_S2x128x128_S1x128x128_0_0_0).toLoadRect (View.loadsAt_vmem h_S1x128x128))
  have v8714 : FVec F S128x128 .f32 := shapeCast S128x128 v8713 shapeCasts_S1x128x128_S128x128
  have cst_3236 : FVec F S128 .f32 := constant S128 .f32 0x00000000#32
  have v8715 : FVec F S128 .f32 := multiReduction .add [1] S128 v8714 0x00000000#32 reduces_S128x128_S128 (.inl rfl) rfl
  have v8716 : FVec F S128x1 .f32 := shapeCast S128x1 v8715 shapeCasts_S128_S128x1
  have cst_3237 : F .f32 := Named.named κ "inv_d" 0x394CCCCD#32
  have v8717 : FVec F S128x1 .f32 := broadcast S128x1 cst_3237
  have v8718 : FVec F S128x1 .f32 := mulf v8716 v8717
  let v8719 : Vec F S1x128x128 .f32 ← Prog.lift (.load arg20 (Rect.unit (s := S2x128x128) ![1, 0, 0] S1x128x128.size inb_S2x128x128_S1x128x128_1_0_0).toLoadRect (View.loadsAt_vmem h_S1x128x128))
  have v8720 : FVec F S128x128 .f32 := shapeCast S128x128 v8719 shapeCasts_S1x128x128_S128x128
  have cst_3241 : FVec F S128 .f32 := constant S128 .f32 0x00000000#32
  have v8721 : FVec F S128 .f32 := multiReduction .add [1] S128 v8720 0x00000000#32 reduces_S128x128_S128 (.inl rfl) rfl
  have v8722 : FVec F S128x1 .f32 := shapeCast S128x1 v8721 shapeCasts_S128_S128x1
  have cst_3242 : F .f32 := Named.named κ "inv_d" 0x394CCCCD#32
  have v8723 : FVec F S128x1 .f32 := broadcast S128x1 cst_3242
  have v8724 : FVec F S128x1 .f32 := mulf v8722 v8723
  have v8725 : FVec F S128x1 .f32 := mulf v8718 v8718
  have v8726 : FVec F S128x1 .f32 := subf v8724 v8725
  have cst_3243 : F .f32 := Scalar.ofBits .f32 0x00000000#32
  have v8727 : FVec F S128x1 .f32 := broadcast S128x1 cst_3243
  have v8728 : FVec F S128x1 .f32 := maximumf v8726 v8727
  have cst_3244 : F .f32 := Scalar.ofBits .f32 0x358637BD#32
  have v8729 : FVec F S128x1 .f32 := broadcast S128x1 cst_3244
  have v8730 : FVec F S128x1 .f32 := addf v8728 v8729
  have v8731 : FVec F S128x1 .f32 := rsqrt v8730
  let v8732 : Vec F S128x5120 .bf16 ← Prog.lift (.load arg15 (Rect.unit (s := S128x5120) ![0, 0] S128x5120.size inb_S128x5120_S128x5120_0_0).toLoadRect (View.loadsAt_vmem h_S128x5120))
  let v8733 : Index := Scalar.indexCast arg1
  let v8734 : Vec F S1x16x5120 .bf16 ← Prog.lift (.load arg19 (Rect.unit (s := S2x16x5120) (k0_off1 i) S1x16x5120.size (k0_off1_inb i)).toLoadRect (View.loadsAt_vmem h_S1x16x5120))
  have v8735 : FVec F S16x5120 .bf16 := shapeCast S16x5120 v8734 shapeCasts_S1x16x5120_S16x5120
  have cst_3249 : FVec F S128x16 .f32 := constant S128x16 .f32 0x00000000#32
  have v8736 : FVec F S128x16 .f32 := matmul dot_S128x5120_S16x5120_S128x16_1_1_0_0_n_n none v8732 v8735 cst_3249
  have cst_3250 : FVec F S128 .f32 := constant S128 .f32 0x00000000#32
  have v8737 : FVec F S128 .f32 := multiReduction .add [1] S128 v8736 0x00000000#32 reduces_S128x16_S128 (.inl rfl) rfl
  have v8738 : FVec F S128x1 .f32 := shapeCast S128x1 v8737 shapeCasts_S128_S128x1
  let v8739 : Vec F S128x5120 .bf16 ← Prog.lift (.load arg16 (Rect.unit (s := S128x5120) ![0, 0] S128x5120.size inb_S128x5120_S128x5120_0_0).toLoadRect (View.loadsAt_vmem h_S128x5120))
  let v8740 : Index := Scalar.indexCast arg1
  let v8741 : Vec F S1x16x5120 .bf16 ← Prog.lift (.load arg19 (Rect.unit (s := S2x16x5120) (k0_off1 i) S1x16x5120.size (k0_off1_inb i)).toLoadRect (View.loadsAt_vmem h_S1x16x5120))
  have v8742 : FVec F S16x5120 .bf16 := shapeCast S16x5120 v8741 shapeCasts_S1x16x5120_S16x5120
  have cst_3255 : FVec F S128x16 .f32 := constant S128x16 .f32 0x00000000#32
  have v8743 : FVec F S128x16 .f32 := matmul dot_S128x5120_S16x5120_S128x16_1_1_0_0_n_n none v8739 v8742 cst_3255
  have cst_3256 : FVec F S128 .f32 := constant S128 .f32 0x00000000#32
  have v8744 : FVec F S128 .f32 := multiReduction .add [1] S128 v8743 0x00000000#32 reduces_S128x16_S128 (.inl rfl) rfl
  have v8745 : FVec F S128x1 .f32 := shapeCast S128x1 v8744 shapeCasts_S128_S128x1
  have cst_3257 : F .f32 := Named.named κ "inv_d" 0x394CCCCD#32
  have v8746 : FVec F S128x1 .f32 := broadcast S128x1 cst_3257
  have v8747 : FVec F S128x1 .f32 := mulf v8738 v8746
  have v8748 : FVec F S128x1 .f32 := mulf v8718 v8738
  have v8749 : FVec F S128x1 .f32 := subf v8745 v8748
  have v8750 : FVec F S128x1 .f32 := mulf v8731 v8749
  have cst_3258 : F .f32 := Named.named κ "inv_d" 0x394CCCCD#32
  have v8751 : FVec F S128x1 .f32 := broadcast S128x1 cst_3258
  have v8752 : FVec F S128x1 .f32 := mulf v8750 v8751
  have v8753 : FVec F S128x1 .f32 := mulf v8731 v8731
  have v8754 : FVec F S128x1 .f32 := mulf v8753 v8752
  have v8755 : FVec F S128x1 .f32 := mulf v8754 v8718
  have v8756 : FVec F S128x1 .f32 := mulf v8731 v8747
  have v8757 : FVec F S128x1 .f32 := subf v8755 v8756
  have v8758 : IVec S128x128 32 := iota .tc S128x128 32 [1] iota_S128x128_d1_w32
  have v8759 : FVec F S128x1 .bf16 := truncf .bf16 v8731 bitsLt_bf16_f32
  have v8760 : FVec F S128x1 .f32 := extf .f32 v8759 bitsLt_bf16_f32
  have v8761 : FVec F S128x1 .f32 := subf v8731 v8760
  have v8762 : FVec F S128x1 .bf16 := truncf .bf16 v8761 bitsLt_bf16_f32
  have v8763 : FVec F S128x1 .f32 := extf .f32 v8762 bitsLt_bf16_f32
  have v8764 : FVec F S128x1 .f32 := subf v8761 v8763
  have v8765 : FVec F S128x1 .bf16 := truncf .bf16 v8764 bitsLt_bf16_f32
  have v8766 : FVec F S128x1 .f32 := extf .f32 v8759 bitsLt_bf16_f32
  have v8767 : FVec F S128x1 .f32 := extf .f32 v8762 bitsLt_bf16_f32
  have v8768 : FVec F S128x1 .f32 := extf .f32 v8765 bitsLt_bf16_f32
  have cst_3259 : F .f32 := Scalar.ofBits .f32 0x00000000#32
  have v8769 : FVec F S128x1 .f32 := broadcast S128x1 cst_3259
  have v8770 : FVec F S128x1 .f32 := subf v8769 v8731
  have v8771 : FVec F S128x1 .f32 := mulf v8770 v8718
  have v8772 : FVec F S128x1 .bf16 := truncf .bf16 v8771 bitsLt_bf16_f32
  have v8773 : FVec F S128x1 .f32 := extf .f32 v8772 bitsLt_bf16_f32
  have v8774 : FVec F S128x1 .f32 := subf v8771 v8773
  have v8775 : FVec F S128x1 .bf16 := truncf .bf16 v8774 bitsLt_bf16_f32
  have v8776 : FVec F S128x1 .f32 := extf .f32 v8775 bitsLt_bf16_f32
  have v8777 : FVec F S128x1 .f32 := subf v8774 v8776
  have v8778 : FVec F S128x1 .bf16 := truncf .bf16 v8777 bitsLt_bf16_f32
  have v8779 : FVec F S128x1 .f32 := extf .f32 v8772 bitsLt_bf16_f32
  have v8780 : FVec F S128x1 .f32 := extf .f32 v8775 bitsLt_bf16_f32
  have v8781 : FVec F S128x1 .f32 := extf .f32 v8778 bitsLt_bf16_f32
  let c0_i32_3260 : BitVec 32 := 0#32
  have v8782 : IVec S128x128 32 := broadcast S128x128 c0_i32_3260
  have v8783 : IVec S128x128 1 := cmpi .eq v8758 v8782
  let c1_i32 : BitVec 32 := 1#32
  have v8784 : IVec S128x128 32 := broadcast S128x128 c1_i32
  have v8785 : IVec S128x128 1 := cmpi .eq v8758 v8784
  let c2_i32 : BitVec 32 := 2#32
  have v8786 : IVec S128x128 32 := broadcast S128x128 c2_i32
  have v8787 : IVec S128x128 1 := cmpi .eq v8758 v8786
  let c3_i32 : BitVec 32 := 3#32
  have v8788 : IVec S128x128 32 := broadcast S128x128 c3_i32
  have v8789 : IVec S128x128 1 := cmpi .eq v8758 v8788
  have cst_3261 : F .f32 := Scalar.ofBits .f32 0x00000000#32
  have v8790 : FVec F S128x1 .f32 := shapeCast S128x1 v8781 shapeCasts_S128x1_S128x1
  have v8791 : FVec F S128x128 .f32 := broadcastTo S128x128 v8790 broadcasts_S128x1_S128x128
  have v8792 : FVec F S128x128 .f32 := broadcast S128x128 cst_3261
  have v8793 : FVec F S128x128 .f32 := select v8789 v8791 v8792
  have v8794 : FVec F S128x1 .f32 := shapeCast S128x1 v8780 shapeCasts_S128x1_S128x1
  have v8795 : FVec F S128x128 .f32 := broadcastTo S128x128 v8794 broadcasts_S128x1_S128x128
  have v8796 : FVec F S128x128 .f32 := select v8787 v8795 v8793
  have v8797 : FVec F S128x1 .f32 := shapeCast S128x1 v8779 shapeCasts_S128x1_S128x1
  have v8798 : FVec F S128x128 .f32 := broadcastTo S128x128 v8797 broadcasts_S128x1_S128x128
  have v8799 : FVec F S128x128 .f32 := select v8785 v8798 v8796
  have cst_3262 : F .f32 := Scalar.ofBits .f32 0x3F800000#32
  have v8800 : FVec F S128x128 .f32 := broadcast S128x128 cst_3262
  have v8801 : FVec F S128x128 .f32 := select v8783 v8800 v8799
  let c1_i32_3263 : BitVec 32 := 1#32
  have v8802 : IVec S128x128 32 := broadcast S128x128 c1_i32_3263
  have v8803 : IVec S128x128 1 := cmpi .eq v8758 v8802
  let c2_i32_3264 : BitVec 32 := 2#32
  have v8804 : IVec S128x128 32 := broadcast S128x128 c2_i32_3264
  have v8805 : IVec S128x128 1 := cmpi .eq v8758 v8804
  let c3_i32_3265 : BitVec 32 := 3#32
  have v8806 : IVec S128x128 32 := broadcast S128x128 c3_i32_3265
  have v8807 : IVec S128x128 1 := cmpi .eq v8758 v8806
  have cst_3266 : F .f32 := Scalar.ofBits .f32 0x00000000#32
  have v8808 : FVec F S128x1 .f32 := shapeCast S128x1 v8768 shapeCasts_S128x1_S128x1
  have v8809 : FVec F S128x128 .f32 := broadcastTo S128x128 v8808 broadcasts_S128x1_S128x128
  have v8810 : FVec F S128x128 .f32 := broadcast S128x128 cst_3266
  have v8811 : FVec F S128x128 .f32 := select v8807 v8809 v8810
  have v8812 : FVec F S128x1 .f32 := shapeCast S128x1 v8767 shapeCasts_S128x1_S128x1
  have v8813 : FVec F S128x128 .f32 := broadcastTo S128x128 v8812 broadcasts_S128x1_S128x128
  have v8814 : FVec F S128x128 .f32 := select v8805 v8813 v8811
  have v8815 : FVec F S128x1 .f32 := shapeCast S128x1 v8766 shapeCasts_S128x1_S128x1
  have v8816 : FVec F S128x128 .f32 := broadcastTo S128x128 v8815 broadcasts_S128x1_S128x128
  have v8817 : FVec F S128x128 .f32 := select v8803 v8816 v8814
  have v8818 : FVec F S128x128 .f32 := transpose S128x128 [1, 0] v8801 transposes_S128x128_p1_0_S128x128
  have v8819 : FVec F S16x128 .f32 := extractStridedSlice S16x128 ![0, 0] v8818 slices_S128x128_o0_0_S16x128
  have v8820 : FVec F S16x128 .bf16 := truncf .bf16 v8819 bitsLt_bf16_f32
  have v8821 : FVec F S128x128 .f32 := transpose S128x128 [1, 0] v8817 transposes_S128x128_p1_0_S128x128
  have v8822 : FVec F S16x128 .f32 := extractStridedSlice S16x128 ![0, 0] v8821 slices_S128x128_o0_0_S16x128
  have v8823 : FVec F S16x128 .bf16 := truncf .bf16 v8822 bitsLt_bf16_f32
  let v8824 : Vec F S128x5120 .bf16 ← Prog.lift (.load arg15 (Rect.unit (s := S128x5120) ![0, 0] S128x5120.size inb_S128x5120_S128x5120_0_0).toLoadRect (View.loadsAt_vmem h_S128x5120))
  have cst_3269 : FVec F S16x5120 .f32 := constant S16x5120 .f32 0x00000000#32
  have v8825 : FVec F S16x5120 .f32 := matmul dot_S16x128_S128x5120_S16x5120_1_0_0_1_n_n none v8820 v8824 cst_3269
  let v8826 : Vec F S128x5120 .bf16 ← Prog.lift (.load arg16 (Rect.unit (s := S128x5120) ![0, 0] S128x5120.size inb_S128x5120_S128x5120_0_0).toLoadRect (View.loadsAt_vmem h_S128x5120))
  have cst_3272 : FVec F S16x5120 .f32 := constant S16x5120 .f32 0x00000000#32
  have v8827 : FVec F S16x5120 .f32 := matmul dot_S16x128_S128x5120_S16x5120_1_0_0_1_n_n none v8823 v8826 cst_3272
  have v8828 : FVec F S16x5120 .f32 := addf v8825 v8827
  have v8829 : FVec F S1x5120 .f32 := extractStridedSlice S1x5120 ![0, 0] v8828 slices_S16x5120_o0_0_S1x5120
  have v8830 : FVec F S1x5120 .f32 := extractStridedSlice S1x5120 ![1, 0] v8828 slices_S16x5120_o1_0_S1x5120
  have v8831 : FVec F S1x5120 .f32 := extractStridedSlice S1x5120 ![2, 0] v8828 slices_S16x5120_o2_0_S1x5120
  have v8832 : FVec F S1x5120 .f32 := addf v8830 v8831
  have v8833 : FVec F S1x5120 .f32 := extractStridedSlice S1x5120 ![3, 0] v8828 slices_S16x5120_o3_0_S1x5120
  have v8834 : FVec F S1x5120 .f32 := addf v8832 v8833
  have v8835 : FVec F S1x5120 .f32 := concatenate S1x5120 1 (colList dg 40 0) concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x5120_d1
  let v8836 : Index := Scalar.indexCast arg1
  let v8837 : Vec F S1x1x1x5120 .f32 ← Prog.lift (.load arg13 (Rect.unit (s := S1x3x2x5120) (k0_off2 i) S1x1x1x5120.size (k0_off2_inb i)).toLoadRect (View.loadsAt_vmem h_S1x1x1x5120))
  have v8838 : FVec F S1x5120 .f32 := shapeCast S1x5120 v8837 shapeCasts_S1x1x1x5120_S1x5120
  have v8839 : FVec F S1x1x1x5120 .f32 := shapeCast S1x1x1x5120 v8829 shapeCasts_S1x5120_S1x1x1x5120
  Prog.lift (.store arg13 (Rect.unit (s := S1x3x2x5120) (k0_off2 i) S1x1x1x5120.size (k0_off2_inb i)) v8839 Finset.univ (View.stores_vmem_bits_univ h_S1x1x1x5120 rfl) (.inl rfl))
  let v8840 : Index := Scalar.indexCast arg1
  let v8841 : Vec F S1x1x1x5120 .f32 ← Prog.lift (.load arg13 (Rect.unit (s := S1x3x2x5120) (k0_off3 i) S1x1x1x5120.size (k0_off3_inb i)).toLoadRect (View.loadsAt_vmem h_S1x1x1x5120))
  have v8842 : FVec F S1x5120 .f32 := shapeCast S1x5120 v8841 shapeCasts_S1x1x1x5120_S1x5120
  have v8843 : FVec F S1x1x1x5120 .f32 := shapeCast S1x1x1x5120 v8834 shapeCasts_S1x5120_S1x1x1x5120
  Prog.lift (.store arg13 (Rect.unit (s := S1x3x2x5120) (k0_off3 i) S1x1x1x5120.size (k0_off3_inb i)) v8843 Finset.univ (View.stores_vmem_bits_univ h_S1x1x1x5120 rfl) (.inl rfl))
  let v8844 : Index := Scalar.indexCast arg1
  let v8845 : Vec F S1x1x1x5120 .f32 ← Prog.lift (.load arg13 (Rect.unit (s := S1x3x2x5120) (k0_off4 i) S1x1x1x5120.size (k0_off4_inb i)).toLoadRect (View.loadsAt_vmem h_S1x1x1x5120))
  have v8846 : FVec F S1x5120 .f32 := shapeCast S1x5120 v8845 shapeCasts_S1x1x1x5120_S1x5120
  have v8847 : FVec F S1x1x1x5120 .f32 := shapeCast S1x1x1x5120 v8835 shapeCasts_S1x5120_S1x1x1x5120
  Prog.lift (.store arg13 (Rect.unit (s := S1x3x2x5120) (k0_off4 i) S1x1x1x5120.size (k0_off4_inb i)) v8847 Finset.univ (View.stores_vmem_bits_univ h_S1x1x1x5120 rfl) (.inl rfl))
  pure ⟨v8731, v8754, v8757, v8829, v8834, v8835⟩

open Shapes1.Facts₀ Shapes2.Facts₀ K0.Facts₀ in
/-- The first token block sets the sums over the blocks, -/
def setMod (i : grid0.Coords) (k0_h2 : k0_cond2 i = 1#1) (arg12 : Memref sig .tc .vmem S3x2x5120 .f32) (v8829 v8834 v8835 : FVec F S1x5120 .f32) :
    Prog (Eff F) PUnit := do
  let arg1 : BitVec 32 := BitVec.ofNat 32 (i 1).val
  let v12090 : Index := Scalar.indexCast arg1
  let v12091 : Vec F S1x1x5120 .f32 ← Prog.lift (.load arg12 (Rect.unit (s := S3x2x5120) (k0_off5 i) S1x1x5120.size (k0_off5_inb i k0_h2)).toLoadRect (View.loadsAt_vmem h_S1x1x5120))
  have v12092 : FVec F S1x5120 .f32 := shapeCast S1x5120 v12091 shapeCasts_S1x1x5120_S1x5120
  have v12093 : FVec F S1x1x5120 .f32 := shapeCast S1x1x5120 v8829 shapeCasts_S1x5120_S1x1x5120
  Prog.lift (.store arg12 (Rect.unit (s := S3x2x5120) (k0_off5 i) S1x1x5120.size (k0_off5_inb i k0_h2)) v12093 Finset.univ (View.stores_vmem_bits_univ h_S1x1x5120 rfl) (.inl rfl))
  let v12094 : Index := Scalar.indexCast arg1
  let v12095 : Vec F S1x1x5120 .f32 ← Prog.lift (.load arg12 (Rect.unit (s := S3x2x5120) (k0_off6 i) S1x1x5120.size (k0_off6_inb i k0_h2)).toLoadRect (View.loadsAt_vmem h_S1x1x5120))
  have v12096 : FVec F S1x5120 .f32 := shapeCast S1x5120 v12095 shapeCasts_S1x1x5120_S1x5120
  have v12097 : FVec F S1x1x5120 .f32 := shapeCast S1x1x5120 v8834 shapeCasts_S1x5120_S1x1x5120
  Prog.lift (.store arg12 (Rect.unit (s := S3x2x5120) (k0_off6 i) S1x1x5120.size (k0_off6_inb i k0_h2)) v12097 Finset.univ (View.stores_vmem_bits_univ h_S1x1x5120 rfl) (.inl rfl))
  let v12098 : Index := Scalar.indexCast arg1
  let v12099 : Vec F S1x1x5120 .f32 ← Prog.lift (.load arg12 (Rect.unit (s := S3x2x5120) (k0_off7 i) S1x1x5120.size (k0_off7_inb i k0_h2)).toLoadRect (View.loadsAt_vmem h_S1x1x5120))
  have v12100 : FVec F S1x5120 .f32 := shapeCast S1x5120 v12099 shapeCasts_S1x1x5120_S1x5120
  have v12101 : FVec F S1x1x5120 .f32 := shapeCast S1x1x5120 v8835 shapeCasts_S1x5120_S1x1x5120
  Prog.lift (.store arg12 (Rect.unit (s := S3x2x5120) (k0_off7 i) S1x1x5120.size (k0_off7_inb i k0_h2)) v12101 Finset.univ (View.stores_vmem_bits_univ h_S1x1x5120 rfl) (.inl rfl))

open Shapes1.Facts₀ Shapes2.Facts₀ K0.Facts₀ in
/-- and every later one adds to them. -/
def addMod (i : grid0.Coords) (k0_h3 : k0_cond3 i = 1#1) (arg12 : Memref sig .tc .vmem S3x2x5120 .f32) (v8829 v8834 v8835 : FVec F S1x5120 .f32) :
    Prog (Eff F) PUnit := do
  let arg1 : BitVec 32 := BitVec.ofNat 32 (i 1).val
  let v12090 : Index := Scalar.indexCast arg1
  let v12091 : Vec F S1x1x5120 .f32 ← Prog.lift (.load arg12 (Rect.unit (s := S3x2x5120) (k0_off8 i) S1x1x5120.size (k0_off8_inb i k0_h3)).toLoadRect (View.loadsAt_vmem h_S1x1x5120))
  have v12092 : FVec F S1x5120 .f32 := shapeCast S1x5120 v12091 shapeCasts_S1x1x5120_S1x5120
  have v12093 : FVec F S1x5120 .f32 := addf v12092 v8829
  let v12094 : Index := Scalar.indexCast arg1
  let v12095 : Vec F S1x1x5120 .f32 ← Prog.lift (.load arg12 (Rect.unit (s := S3x2x5120) (k0_off8 i) S1x1x5120.size (k0_off8_inb i k0_h3)).toLoadRect (View.loadsAt_vmem h_S1x1x5120))
  have v12096 : FVec F S1x5120 .f32 := shapeCast S1x5120 v12095 shapeCasts_S1x1x5120_S1x5120
  have v12097 : FVec F S1x1x5120 .f32 := shapeCast S1x1x5120 v12093 shapeCasts_S1x5120_S1x1x5120
  Prog.lift (.store arg12 (Rect.unit (s := S3x2x5120) (k0_off8 i) S1x1x5120.size (k0_off8_inb i k0_h3)) v12097 Finset.univ (View.stores_vmem_bits_univ h_S1x1x5120 rfl) (.inl rfl))
  let v12098 : Index := Scalar.indexCast arg1
  let v12099 : Vec F S1x1x5120 .f32 ← Prog.lift (.load arg12 (Rect.unit (s := S3x2x5120) (k0_off9 i) S1x1x5120.size (k0_off9_inb i k0_h3)).toLoadRect (View.loadsAt_vmem h_S1x1x5120))
  have v12100 : FVec F S1x5120 .f32 := shapeCast S1x5120 v12099 shapeCasts_S1x1x5120_S1x5120
  have v12101 : FVec F S1x5120 .f32 := addf v12100 v8834
  let v12102 : Index := Scalar.indexCast arg1
  let v12103 : Vec F S1x1x5120 .f32 ← Prog.lift (.load arg12 (Rect.unit (s := S3x2x5120) (k0_off9 i) S1x1x5120.size (k0_off9_inb i k0_h3)).toLoadRect (View.loadsAt_vmem h_S1x1x5120))
  have v12104 : FVec F S1x5120 .f32 := shapeCast S1x5120 v12103 shapeCasts_S1x1x5120_S1x5120
  have v12105 : FVec F S1x1x5120 .f32 := shapeCast S1x1x5120 v12101 shapeCasts_S1x5120_S1x1x5120
  Prog.lift (.store arg12 (Rect.unit (s := S3x2x5120) (k0_off9 i) S1x1x5120.size (k0_off9_inb i k0_h3)) v12105 Finset.univ (View.stores_vmem_bits_univ h_S1x1x5120 rfl) (.inl rfl))
  let v12106 : Index := Scalar.indexCast arg1
  let v12107 : Vec F S1x1x5120 .f32 ← Prog.lift (.load arg12 (Rect.unit (s := S3x2x5120) (k0_off10 i) S1x1x5120.size (k0_off10_inb i k0_h3)).toLoadRect (View.loadsAt_vmem h_S1x1x5120))
  have v12108 : FVec F S1x5120 .f32 := shapeCast S1x5120 v12107 shapeCasts_S1x1x5120_S1x5120
  have v12109 : FVec F S1x5120 .f32 := addf v12108 v8835
  let v12110 : Index := Scalar.indexCast arg1
  let v12111 : Vec F S1x1x5120 .f32 ← Prog.lift (.load arg12 (Rect.unit (s := S3x2x5120) (k0_off10 i) S1x1x5120.size (k0_off10_inb i k0_h3)).toLoadRect (View.loadsAt_vmem h_S1x1x5120))
  have v12112 : FVec F S1x5120 .f32 := shapeCast S1x5120 v12111 shapeCasts_S1x1x5120_S1x5120
  have v12113 : FVec F S1x1x5120 .f32 := shapeCast S1x1x5120 v12109 shapeCasts_S1x5120_S1x1x5120
  Prog.lift (.store arg12 (Rect.unit (s := S3x2x5120) (k0_off10 i) S1x1x5120.size (k0_off10_inb i k0_h3)) v12113 Finset.univ (View.stores_vmem_bits_univ h_S1x1x5120 rfl) (.inl rfl))

section
open Shapes1.Facts₀ Shapes2.Facts₀ K0.Facts₀

/-- Rows `32r … 32r + 31` of a column of row statistics, spread over a block. -/
def spreadR (v : FVec F S128x1 .f32) (r : Fin 4) : FVec F S32x128 .f32 :=
  broadcastTo S32x128 (shapeCast S32x1 (extractStridedSlice S32x1 ![32 * r.val, 0] v (slcR r)) shapeCasts_S32x1_S32x1) broadcasts_S32x1_S32x128

/-- One block of the last loop. -/
def l3Block (i : grid0.Coords) (arg11 : Memref sig .tc .vmem S1x128x5120 .bf16) (harg11 : arg11.IsWhole)
    (arg14 arg15 arg17 : Memref sig .tc .vmem S128x5120 .bf16) (arg18 : Memref sig .tc .vmem S2x8x5120 .f32)
    (rs aa cc : FVec F S32x128 .f32) (r : Fin 4) (c : Fin 40) (_ : PUnit) : Prog (Eff F) PUnit := do
  let x : Vec F S32x128 .bf16 ← ld2 arg14 r c
  let h : Vec F S32x128 .bf16 ← ld2 arg15 r c
  let y : Vec F S32x128 .bf16 ← ld2 arg17 r c
  let m : Vec F S1x8x128 .f32 ← Prog.lift (.load arg18 (Rect.unit (s := S2x8x5120)
    ![(Scalar.indexCast (BitVec.ofNat 32 (i 1).val)).toNat, 0, 128 * c.val] S1x8x128.size (inbM i c)).toLoadRect (View.loadsAt_vmem h_S1x8x128))
  let m8 : FVec F S8x128 .f32 := shapeCast S8x128 m shapeCasts_S1x8x128_S8x128
  let m32 : FVec F S32x128 .f32 := concatenate S32x128 0 [⟨S8x128, m8⟩, ⟨S8x128, m8⟩, ⟨S8x128, m8⟩, ⟨S8x128, m8⟩] concatenates_S8x128_S8x128_S8x128_S8x128_S32x128_d0
  let g : FVec F S32x128 .f32 := mulf (extf .f32 h bitsLt_bf16_f32) m32
  let d : FVec F S32x128 .f32 := subf (addf (addf (extf .f32 y bitsLt_bf16_f32) cc) (mulf rs g)) (mulf aa (extf .f32 x bitsLt_bf16_f32))
  let _ : Vec F S1x32x128 .bf16 ← ld3 arg11 r c
  Prog.lift (.store arg11 (rect3 r c) (shapeCast S1x32x128 (truncf .bf16 d bitsLt_bf16_f32) shapeCasts_S32x128_S1x32x128) Finset.univ
    (View.stores_vmem h_S1x32x128 (harg11.storeExact_slice rfl _ (packed3 r c)) (fun _ => rfl)) (.inl rfl))

/-- One row group of the last loop. -/
def l3Row (i : grid0.Coords) (arg11 : Memref sig .tc .vmem S1x128x5120 .bf16) (harg11 : arg11.IsWhole)
    (arg14 arg15 arg17 : Memref sig .tc .vmem S128x5120 .bf16) (arg18 : Memref sig .tc .vmem S2x8x5120 .f32)
    (rstd a cst : FVec F S128x1 .f32) (r : Fin 4) (_ : PUnit) : Prog (Eff F) PUnit :=
  loop 40 (l3Block i arg11 harg11 arg14 arg15 arg17 arg18 (spreadR rstd r) (spreadR a r) (spreadR cst r) r) ⟨⟩
end

/-- The zero row no column block's number ever reads. -/
def dg0 : Nat → FVec F S1x128 .f32 := fun _ => constant S1x128 .f32 0x00000000#32

/-- The body after the first point's preparation, what becomes of the sums over the blocks left open. -/
def main (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (mod : FVec F S1x5120 .f32 → FVec F S1x5120 .f32 → FVec F S1x5120 .f32 → Prog (Eff F) PUnit) : Prog (Eff F) PUnit := do
  let p ← scales arg3 arg8 arg6 arg10
  loop 4 (l1Row arg2 arg7 arg14 harg14 arg15 harg15 arg16 harg16 arg20 p.1 p.2) ⟨⟩
  let dg ← loop 40 (l2Col arg5 arg4 arg17 harg17 p.1) dg0
  let ⟨rstd, a, cst, o0, o1, o2⟩ ← mid i arg13 arg15 arg16 arg19 arg20 dg
  mod o0 o1 o2
  loop 4 (l3Row i arg11 harg11 arg14 arg15 arg17 arg18 rstd a cst) ⟨⟩

end Cert.KernelIdeal.Roll

end
-- ==== Proof.Own.lean ====
/- Loads, stores and counted loops over memrefs that are owned through their contents: a load hands the
    contents of its rectangle on, a store leaves contents that read the payload inside its rectangle and what was there
    before outside. -/
module

public import proofs.«01_k».proof.Proof.Roll
public import Idealize.ShloMosaic.Lib.Tactic
public import Idealize.ShloMosaic.Lib.Pipeline.Kit
public import Idealize.ShloMosaic.Lib.Pipeline.FrameBody

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Facts]

local notation "𝕄" => MT nD τ sig Unit (Elt F) ℕ (UR sig nD τ) ℕ

/-- The weakest precondition of a piece of the body on core `c`. -/
abbrev run {α : Type} (c : Dev nD) (E : Set ℕ) (p : Prog (Eff F) α) (K : α → sProp 𝕄) : sProp 𝕄 :=
  wp frame (wpE (defs₀ (F := F)) Variants.none (c : Thread nD τ) none) E p K

/-- The memref `a` on core `c`, held whole at contents `d`. -/
abbrev own (c : Dev nD) {s : Shape} {e : EltTy} (a : Memref sig .tc .vmem s e) (d : s.Idx → Elt F e) : sProp 𝕄 :=
  owns (c : Thread nD τ) a fullShare d

/-- The memref held at contents nothing says. -/
abbrev any (c : Dev nD) {s : Shape} {e : EltTy} (a : Memref sig .tc .vmem s e) : sProp 𝕄 :=
  iprop(∃ d : s.Idx → Elt F e, own c a d)

/-- `d'` is `d` with the rectangle `r` overwritten by `w`. -/
def Put {s : Shape} {e : EltTy} (r : Rect s) (w : r.shape.Idx → Elt F e) (d d' : s.Idx → Elt F e) : Prop :=
  (∀ x, d' (r.emb x) = w x) ∧ ∀ y, y ∉ r.set → d' y = d y

variable (c : Dev nD) (E : Set ℕ)

theorem run_bind {α β : Type} (p : Prog (Eff F) α) (k : α → Prog (Eff F) β) (K : β → sProp 𝕄) :
    run c E (p.bind k) K = run c E p (fun a => run c E (k a) K) := wp_bind _ _ _ p k K

theorem run_seq {α β : Type} (p : Prog (Eff F) α) (k : α → Prog (Eff F) β) (K : β → sProp 𝕄) :
    run c E (p >>= k) K = run c E p (fun a => run c E (k a) K) := wp_bind _ _ _ p k K

theorem run_pure {α : Type} (a : α) (K : α → sProp 𝕄) : K a ⊢ run c E (pure a : Prog (Eff F) α) K := le_wp_ret _ _ _ a K

theorem run_ret {α : Type} (a : α) (K : α → sProp 𝕄) : K a ⊢ run c E (.ret a : Prog (Eff F) α) K := le_wp_ret _ _ _ a K

/-- A load through a rectangle. -/
theorem run_load {s : Shape} {e : EltTy} (a : Memref sig .tc .vmem s e) (r : Rect s) (hl : a.view.LoadsAt r.toLoadRect)
    (d : s.Idx → Elt F e) (K : (r.shape.Idx → Elt F e) → sProp 𝕄) :
    iprop(own c a d ∗ (own c a d -∗ K fun x => d (r.emb x))) ⊢ run c E (Prog.lift (.load a r.toLoadRect hl)) K := by
  unfold run own owns
  iintro ⟨⟨%f, %hf, H⟩, Hk⟩
  iapply (wp_load_rect (defs := defs₀ (F := F)) Variants.none (c : Thread nD τ) none E (m := a) (r := r) (hl := hl) (f := f)
    (View.set_slice_subset _ r)) $$ H
  iintro H
  iapply (le_wp_ret _ _ _ _ _)
  subst hf
  rw [← show (fun x => a.view.read (Elt F) f (r.emb x)) = (a.access r).read (Elt F) f from rfl]
  iapply Hk
  iexists f
  isplitr
  · ipureintro; rfl
  · iexact H

/-- A store through a rectangle. -/
theorem run_store {s : Shape} {e : EltTy} (a : Memref sig .tc .vmem s e) (r : Rect s) (w : r.shape.Idx → Elt F e)
    (hx : (a.access r).Stores Finset.univ) (hm : Finset.univ = Finset.univ ∨ ∀ x, r.stride x = 1)
    (d : s.Idx → Elt F e) (K : PUnit → sProp 𝕄) :
    iprop(own c a d ∗ (∀ d', ⌜Put r w d d'⌝ -∗ own c a d' -∗ K ⟨⟩))
      ⊢ run c E (Prog.lift (.store a r w Finset.univ hx hm)) K := by
  unfold run own owns
  iintro ⟨⟨%f, %hf, H⟩, Hk⟩
  iapply (wp_store (defs := defs₀ (F := F)) Variants.none (c : Thread nD τ) none E (m := a) (r := r) (w := w) (Mk := Finset.univ)
    (hx := hx) (hm := hm) (f := f) (View.set_slice_subset _ r)) $$ H
  iintro H
  iapply (le_wp_ret _ _ _ _ _)
  subst hf
  iapply Hk $$ %(a.view.read (Elt F) ((a.view.slice r).write (Elt F) f w Finset.univ))
  · ipureintro
    refine ⟨fun x => View.read_slice_write_emb r _ w (Finset.mem_univ x), fun y hy => ?_⟩
    exact View.read_slice_write_of_not_mem r _ _ _ (by rwa [Rect.map_emb_univ])
  · iexists _
    isplitr; swap
    · iexact H
    · ipureintro; rfl

/-- A counted loop: an invariant that every round keeps holds at the end. -/
theorem run_rounds {σ : Type} (n : Nat) (body : Fin n → σ → Prog (Eff F) σ) (I : Nat → σ → sProp 𝕄)
    (h : ∀ (k : Fin n) (s : σ) (K : σ → sProp 𝕄), iprop(I k.val s ∗ (∀ s', I (k.val + 1) s' -∗ K s')) ⊢ run c E (body k s) K) :
    ∀ (j k : Nat) (hk : k + j = n) (s : σ) (K : σ → sProp 𝕄),
      iprop(I k s ∗ (∀ s', I n s' -∗ K s')) ⊢ run c E (rounds n body j k hk s) K := by
  intro j
  induction j with
  | zero =>
    intro k hk s K
    obtain rfl : k = n := by omega
    refine BIBase.Entails.trans ?_ (run_ret c E s K)
    iintro ⟨H, Hk⟩
    iapply Hk
    iexact H
  | succ j ih =>
    intro k hk s K
    show _ ⊢ run c E ((body ⟨k, by omega⟩ s).bind fun s' => rounds n body j (k + 1) (by omega) s') K
    rw [run_bind]
    refine BIBase.Entails.trans ?_ (h ⟨k, by omega⟩ s _)
    iintro ⟨H, Hk⟩
    isplitl [H]
    · iexact H
    · iintro %s' H
      iapply (ih (k + 1) _ s' K)
      isplitl [H]
      · iexact H
      · iexact Hk

theorem run_loop {σ : Type} (n : Nat) (body : Fin n → σ → Prog (Eff F) σ) (I : Nat → σ → sProp 𝕄)
    (h : ∀ (k : Fin n) (s : σ) (K : σ → sProp 𝕄), iprop(I k.val s ∗ (∀ s', I (k.val + 1) s' -∗ K s')) ⊢ run c E (body k s) K)
    (s : σ) (K : σ → sProp 𝕄) : iprop(I 0 s ∗ (∀ s', I n s' -∗ K s')) ⊢ run c E (loop n body s) K :=
  run_rounds c E n body I h n 0 (Nat.zero_add n) s K

end Cert.KernelIdeal.Roll

end
-- ==== Proof.Block.lean ====
/- What one round of each of the body's loops does to the memrefs it owns. -/
module

public import proofs.«01_k».proof.Proof.Own
public import Idealize.ShloMosaic.Lib.Pipeline.Value
public import Idealize.ShloMosaic.Lib.Writes

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Facts]

local notation "𝕄" => MT nD τ sig Unit (Elt F) ℕ (UR sig nD τ) ℕ

variable (c : Dev nD) (E : Set ℕ)

open Shapes1.Facts₀ Shapes2.Facts₀ K0.Facts₀

/-- Block `(r, c)` of a window's contents. -/
def blk3 {e : EltTy} (x : Vec F S1x128x5120 e) (r : Fin 4) (k : Fin 40) : Vec F S1x32x128 e := fun y => x ((rect3 r k).emb y)

theorem ld3_spec {e : EltTy} (a : Memref sig .tc .vmem S1x128x5120 e) (r : Fin 4) (k : Fin 40) (x : Vec F S1x128x5120 e)
    (K : Vec F S1x32x128 e → sProp 𝕄) :
    iprop(own c a x ∗ (own c a x -∗ K (blk3 x r k))) ⊢ run c E (ld3 a r k) K :=
  run_load c E a (rect3 r k) _ x K

theorem st2_spec (a : Memref sig .tc .vmem S128x5120 .bf16) (ha : a.IsWhole) (r : Fin 4) (k : Fin 40) (v : FVec F S32x128 .bf16)
    (d : Vec F S128x5120 .bf16) (K : PUnit → sProp 𝕄) :
    iprop(own c a d ∗ (∀ d', ⌜Put (rect2 r k) (shapeCast S32x128 v shapeCasts_S32x128_S32x128) d d'⌝ -∗ own c a d' -∗ K ⟨⟩))
      ⊢ run c E (st2 a ha r k v) K := by
  unfold st2
  rw [run_seq]
  refine BIBase.Entails.trans ?_ (run_load c E a (rect2 r k) _ d _)
  iintro ⟨H, Hk⟩
  isplitl [H]
  · iexact H
  · iintro H
    iapply (run_store c E a (rect2 r k) _ _ _ d K)
    isplitl [H]
    · iexact H
    · iexact Hk

/-- What one block adds to the running sums: the block times the ones, and its square. -/
def pairT (one x : FVec F S32x128 .bf16) : FVec F S32x128 .f32 × FVec F S32x128 .f32 :=
  (mulf (extf .f32 x bitsLt_bf16_f32) (extf .f32 one bitsLt_bf16_f32), mulf (extf .f32 x bitsLt_bf16_f32) (extf .f32 x bitsLt_bf16_f32))

/-- The running sums with one block's added. -/
def addSums (s : Sums F) (t : FVec F S32x128 .f32 × FVec F S32x128 .f32) : Sums F :=
  some (s.elim t fun p => (addf p.1 t.1, addf p.2 t.2))

/-- The running sums after `n` blocks. -/
def sumsTo (t : Fin 40 → FVec F S32x128 .f32 × FVec F S32x128 .f32) : Nat → Sums F
  | 0 => none
  | n + 1 => if h : n < 40 then addSums (sumsTo t n) (t ⟨n, h⟩) else sumsTo t n

theorem sumsTo_succ (t : Fin 40 → FVec F S32x128 .f32 × FVec F S32x128 .f32) (k : Fin 40) : sumsTo t (k.val + 1) = addSums (sumsTo t k.val) (t k) :=
  dif_pos k.isLt

section Blocks

variable (sw : FVec F S128x128 .bf16) (one : FVec F S32x128 .bf16) (x2 : Vec F S1x128x5120 .fp8e4m3) (x7 x5 : Vec F S1x128x5120 .fp8e5m2)

/-- The blocks of `x`, dequantized, -/
def xAll (r : Fin 4) (k : Fin 40) : FVec F S32x128 .bf16 := xBlk sw r k (blk3 x2 r k)
/-- of `dh`, -/
def hAll (r : Fin 4) (k : Fin 40) : FVec F S32x128 .bf16 := hBlk sw r k (blk3 x7 r k)
/-- of `dy`, -/
def yAll (r : Fin 4) (k : Fin 40) : FVec F S32x128 .bf16 := yBlk sw r k (blk3 x5 r k)
/-- and the products of the first two. -/
def pAll (r : Fin 4) (k : Fin 40) : FVec F S32x128 .bf16 := mulf (xAll sw x2 r k) (hAll sw x7 r k)

/-- The sums over a row group's 40 blocks. -/
def sumsOf (r : Fin 4) : Sums F := sumsTo (fun k => pairT one (xAll sw x2 r k)) 40

/-- A plane of the sums' scratch: of `x` and of `x²`. -/
def planeOf (p : Fin 2) (r : Fin 4) : FVec F S32x128 .f32 :=
  if p = 0 then ((sumsOf sw one x2 r).getD (extf .f32 one bitsLt_bf16_f32, extf .f32 one bitsLt_bf16_f32)).1
  else ((sumsOf sw one x2 r).getD (extf .f32 one bitsLt_bf16_f32, extf .f32 one bitsLt_bf16_f32)).2
end Blocks

theorem l1Block_spec (arg2 : Memref sig .tc .vmem S1x128x5120 .fp8e4m3) (arg7 : Memref sig .tc .vmem S1x128x5120 .fp8e5m2)
    (arg14 : Memref sig .tc .vmem S128x5120 .bf16) (harg14 : arg14.IsWhole) (arg15 : Memref sig .tc .vmem S128x5120 .bf16) (harg15 : arg15.IsWhole)
    (arg16 : Memref sig .tc .vmem S128x5120 .bf16) (harg16 : arg16.IsWhole) (sw : FVec F S128x128 .bf16) (one : FVec F S32x128 .bf16)
    (r : Fin 4) (k : Fin 40) (s : Sums F) (x2 : Vec F S1x128x5120 .fp8e4m3) (x7 : Vec F S1x128x5120 .fp8e5m2) (d14 d15 d16 : Vec F S128x5120 .bf16)
    (K : Sums F → sProp 𝕄) :
    iprop(own c arg2 x2 ∗ own c arg7 x7 ∗ own c arg14 d14 ∗ own c arg15 d15 ∗ own c arg16 d16
        ∗ (∀ e14 e15 e16, ⌜Put (rect2 r k) (shapeCast S32x128 (xAll sw x2 r k) shapeCasts_S32x128_S32x128) d14 e14
              ∧ Put (rect2 r k) (shapeCast S32x128 (hAll sw x7 r k) shapeCasts_S32x128_S32x128) d15 e15
              ∧ Put (rect2 r k) (shapeCast S32x128 (pAll sw x2 x7 r k) shapeCasts_S32x128_S32x128) d16 e16⌝ -∗
            iprop(own c arg2 x2 ∗ own c arg7 x7 ∗ own c arg14 e14 ∗ own c arg15 e15 ∗ own c arg16 e16) -∗ K (addSums s (pairT one (xAll sw x2 r k)))))
      ⊢ run c E (l1Block arg2 arg7 arg14 harg14 arg15 harg15 arg16 harg16 sw one r k s) K := by
  unfold l1Block
  simp only [run_seq]
  iintro ⟨H2, H7, H14, H15, H16, Hk⟩
  iapply (ld3_spec c E arg2 r k x2 _)
  isplitl [H2]; · iexact H2
  iintro H2
  iapply (ld3_spec c E arg7 r k x7 _)
  isplitl [H7]; · iexact H7
  iintro H7
  iapply (st2_spec c E arg14 harg14 r k _ d14 _)
  isplitl [H14]; · iexact H14
  iintro %e14 %h14 H14
  iapply (st2_spec c E arg15 harg15 r k _ d15 _)
  isplitl [H15]; · iexact H15
  iintro %e15 %h15 H15
  iapply (st2_spec c E arg16 harg16 r k _ d16 _)
  isplitl [H16]; · iexact H16
  iintro %e16 %h16 H16
  iapply (run_pure c E (addSums s (pairT one (xAll sw x2 r k))) K)
  iapply Hk $$ %e14 %e15 %e16
  · ipureintro
    exact ⟨h14, h15, h16⟩
  isplitl [H2]; · iexact H2
  isplitl [H7]; · iexact H7
  isplitl [H14]; · iexact H14
  isplitl [H15]; · iexact H15
  iexact H16

/-! ## The first loop -/

/-- Blocks of a scratch that have different numbers have no element in common. -/
theorem rect2_disjoint (r r' : Fin 4) (k k' : Fin 40) (h : ¬ (r' = r ∧ k' = k)) (x : (rect2 r' k').shape.Idx) :
    (rect2 r' k').emb x ∉ (rect2 r k).set := by
  have h0 : ((rect2 r' k').emb x 0).val = 32 * r'.val + 1 * (x 0).val := rfl
  have h1 : ((rect2 r' k').emb x 1).val = 128 * k'.val + 1 * (x 1).val := rfl
  have b0 : (x 0).val < 32 := (x 0).isLt
  have b1 : (x 1).val < 128 := (x 1).isLt
  by_cases hr : r' = r
  · have hk : k'.val ≠ k.val := fun e => h ⟨hr, Fin.ext e⟩
    refine Rect.not_mem_set_of_axis (rect2 r k) _ 1 (128 * k.val) 128 rfl rfl rfl ?_
    rw [h1]; omega
  · have hr' : r'.val ≠ r.val := fun e => hr (Fin.ext e)
    refine Rect.not_mem_set_of_axis (rect2 r k) _ 0 (32 * r.val) 32 rfl rfl rfl ?_
    rw [h0]; omega

/-- The scratch `d` holds the blocks `f`, in the blocks of which `P` says so. -/
def Filled (f : Fin 4 → Fin 40 → FVec F S32x128 .bf16) (P : Fin 4 → Fin 40 → Prop) (d : Vec F S128x5120 .bf16) : Prop :=
  ∀ (r : Fin 4) (k : Fin 40), P r k → ∀ x, d ((rect2 r k).emb x) = f r k x

/-- The blocks before number `n`, row group by row group. -/
def Before (n : Nat) (r : Fin 4) (k : Fin 40) : Prop := 40 * r.val + k.val < n

/-- A scratch holds all the blocks `f`. -/
abbrev Full (f : Fin 4 → Fin 40 → FVec F S32x128 .bf16) (d : Vec F S128x5120 .bf16) : Prop := Filled f (fun _ _ => True) d

theorem Filled.put {f : Fin 4 → Fin 40 → FVec F S32x128 .bf16} {P P' : Fin 4 → Fin 40 → Prop} {r : Fin 4} {k : Fin 40} {d d' : Vec F S128x5120 .bf16}
    (hd : Filled f P d) (h : Put (rect2 r k) (shapeCast S32x128 (f r k) shapeCasts_S32x128_S32x128) d d')
    (hP : ∀ r' k', P' r' k' → ¬ (r' = r ∧ k' = k) → P r' k') : Filled f P' d' := by
  intro r' k' hn x
  by_cases e : r' = r ∧ k' = k
  · obtain ⟨rfl, rfl⟩ := e
    rw [h.1 x, shapeCast_self]
  · rw [h.2 _ (rect2_disjoint r r' k k' e x)]
    exact hd r' k' (hP r' k' hn e) x

theorem before_step (r : Fin 4) (k : Fin 40) (r' : Fin 4) (k' : Fin 40) (h : Before (40 * r.val + (k.val + 1)) r' k') (hne : ¬ (r' = r ∧ k' = k)) :
    Before (40 * r.val + k.val) r' k' := by
  unfold Before at h ⊢
  have := k'.isLt
  have := k.isLt
  by_cases hr : r' = r
  · have hk : k'.val ≠ k.val := fun e' => hne ⟨hr, Fin.ext e'⟩
    subst hr; omega
  · have hr' : r'.val ≠ r.val := fun e' => hr (Fin.ext e')
    omega

theorem Filled.full {f : Fin 4 → Fin 40 → FVec F S32x128 .bf16} {d : Vec F S128x5120 .bf16} (h : Filled f (Before 160) d) : Full f d :=
  fun r k _ x => h r k (by have := r.isLt; have := k.isLt; unfold Before; omega) x

/-- A store of partial sums. -/
theorem stS_spec (arg20 : Memref sig .tc .vmem S2x128x128 .f32) (p : Fin 2) (r : Fin 4) (v : FVec F S32x128 .f32) (d : Vec F S2x128x128 .f32)
    (K : PUnit → sProp 𝕄) :
    iprop(own c arg20 d ∗ (∀ d', ⌜Put (rectS p r) (shapeCast S1x32x128 v shapeCasts_S32x128_S1x32x128) d d'⌝ -∗ own c arg20 d' -∗ K ⟨⟩))
      ⊢ run c E (stS arg20 p r v) K := by
  unfold stS
  rw [run_seq]
  iintro ⟨H, Hk⟩
  iapply (run_load c E arg20 (rectS p r) _ d _)
  isplitl [H]; · iexact H
  iintro H
  iapply (run_store c E arg20 (rectS p r) _ _ _ d K)
  isplitl [H]; · iexact H
  iexact Hk

theorem rectS_disjoint (p p' : Fin 2) (r r' : Fin 4) (h : ¬ (p' = p ∧ r' = r)) (x : (rectS p' r').shape.Idx) :
    (rectS p' r').emb x ∉ (rectS p r).set := by
  have h0 : ((rectS p' r').emb x 0).val = p'.val + 1 * (x 0).val := rfl
  have h1 : ((rectS p' r').emb x 1).val = 32 * r'.val + 1 * (x 1).val := rfl
  have b0 : (x 0).val < 1 := (x 0).isLt
  have b1 : (x 1).val < 32 := (x 1).isLt
  by_cases hp : p' = p
  · have hr : r'.val ≠ r.val := fun e => h ⟨hp, Fin.ext e⟩
    refine Rect.not_mem_set_of_axis (rectS p r) _ 1 (32 * r.val) 32 rfl rfl rfl ?_
    rw [h1]; omega
  · have hp' : p'.val ≠ p.val := fun e => hp (Fin.ext e)
    refine Rect.not_mem_set_of_axis (rectS p r) _ 0 p.val 1 rfl rfl rfl ?_
    rw [h0]; omega

/-- The sums' scratch holds the planes of the row groups before number `n`. -/
def Planes (f : Fin 2 → Fin 4 → FVec F S32x128 .f32) (n : Nat) (d : Vec F S2x128x128 .f32) : Prop :=
  ∀ (p : Fin 2) (r : Fin 4), r.val < n → ∀ x, d ((rectS p r).emb x) = shapeCast S1x32x128 (f p r) shapeCasts_S32x128_S1x32x128 x

theorem Planes.put {f : Fin 2 → Fin 4 → FVec F S32x128 .f32} {r : Fin 4} {d d1 d2 : Vec F S2x128x128 .f32} (hd : Planes f r.val d)
    (h0 : Put (rectS 0 r) (shapeCast S1x32x128 (f 0 r) shapeCasts_S32x128_S1x32x128) d d1)
    (h1 : Put (rectS 1 r) (shapeCast S1x32x128 (f 1 r) shapeCasts_S32x128_S1x32x128) d1 d2) : Planes f (r.val + 1) d2 := by
  intro p r' hn x
  by_cases e1 : p = 1 ∧ r' = r
  · obtain ⟨rfl, rfl⟩ := e1
    exact h1.1 x
  rw [h1.2 _ (rectS_disjoint 1 p r r' e1 x)]
  by_cases e0 : p = 0 ∧ r' = r
  · obtain ⟨rfl, rfl⟩ := e0
    exact h0.1 x
  rw [h0.2 _ (rectS_disjoint 0 p r r' e0 x)]
  refine hd p r' ?_ x
  have : r'.val ≠ r.val := fun e => by
    obtain rfl := Fin.ext e
    rcases (show p = 0 ∨ p = 1 by omega) with rfl | rfl
    · exact e0 ⟨rfl, rfl⟩
    · exact e1 ⟨rfl, rfl⟩
  omega

/-- What the first loop owns after `n` blocks. -/
def L1 (arg2 : Memref sig .tc .vmem S1x128x5120 .fp8e4m3) (arg7 : Memref sig .tc .vmem S1x128x5120 .fp8e5m2)
    (arg14 arg15 arg16 : Memref sig .tc .vmem S128x5120 .bf16) (sw : FVec F S128x128 .bf16)
    (x2 : Vec F S1x128x5120 .fp8e4m3) (x7 : Vec F S1x128x5120 .fp8e5m2) (n : Nat) : sProp 𝕄 :=
  iprop(own c arg2 x2 ∗ own c arg7 x7 ∗ (∃ d, ⌜Filled (xAll sw x2) (Before n) d⌝ ∗ own c arg14 d) ∗ (∃ d, ⌜Filled (hAll sw x7) (Before n) d⌝ ∗ own c arg15 d)
    ∗ (∃ d, ⌜Filled (pAll sw x2 x7) (Before n) d⌝ ∗ own c arg16 d))

variable (arg2 : Memref sig .tc .vmem S1x128x5120 .fp8e4m3) (arg7 : Memref sig .tc .vmem S1x128x5120 .fp8e5m2)
  (arg14 : Memref sig .tc .vmem S128x5120 .bf16) (harg14 : arg14.IsWhole) (arg15 : Memref sig .tc .vmem S128x5120 .bf16) (harg15 : arg15.IsWhole)
  (arg16 : Memref sig .tc .vmem S128x5120 .bf16) (harg16 : arg16.IsWhole) (arg20 : Memref sig .tc .vmem S2x128x128 .f32)
  (sw : FVec F S128x128 .bf16) (one : FVec F S32x128 .bf16) (x2 : Vec F S1x128x5120 .fp8e4m3) (x7 : Vec F S1x128x5120 .fp8e5m2)

/-- The sums' scratch after `n` row groups. -/
def L1s (n : Nat) : sProp 𝕄 := iprop(∃ d, ⌜Planes (planeOf sw one x2) n d⌝ ∗ own c arg20 d)

theorem l1Row_spec (r : Fin 4) (u : PUnit) (K : PUnit → sProp 𝕄) :
    iprop((L1 c arg2 arg7 arg14 arg15 arg16 sw x2 x7 (40 * r.val) ∗ L1s c arg20 sw one x2 r.val)
        ∗ (∀ u', (L1 c arg2 arg7 arg14 arg15 arg16 sw x2 x7 (40 * (r.val + 1)) ∗ L1s c arg20 sw one x2 (r.val + 1)) -∗ K u'))
      ⊢ run c E (l1Row arg2 arg7 arg14 harg14 arg15 harg15 arg16 harg16 arg20 sw one r u) K := by
  unfold l1Row L1s
  simp only [run_seq]
  iintro ⟨⟨HL, ⟨%d, %hd, H20⟩⟩, Hk⟩
  iapply (run_loop c E 40 _ (fun n (s : Sums F) => iprop(⌜s = sumsTo (fun k => pairT one (xAll sw x2 r k)) n⌝
    ∗ L1 c arg2 arg7 arg14 arg15 arg16 sw x2 x7 (40 * r.val + n))) ?_ none _)
  · intro k s K
    unfold L1
    iintro ⟨⟨%hs, ⟨H2, H7, ⟨%d14, %g14, H14⟩, ⟨%d15, %g15, H15⟩, ⟨%d16, %g16, H16⟩⟩⟩, Hk⟩
    iapply (l1Block_spec c E arg2 arg7 arg14 harg14 arg15 harg15 arg16 harg16 sw one r k s x2 x7 d14 d15 d16 K)
    isplitl [H2]; · iexact H2
    isplitl [H7]; · iexact H7
    isplitl [H14]; · iexact H14
    isplitl [H15]; · iexact H15
    isplitl [H16]; · iexact H16
    iintro %e14 %e15 %e16 %hp ⟨H2, H7, H14, H15, H16⟩
    iapply Hk
    isplitr
    · ipureintro
      rw [hs]
      exact (sumsTo_succ _ k).symm
    isplitl [H2]; · iexact H2
    isplitl [H7]; · iexact H7
    isplitl [H14]
    · iexists e14
      isplitr
      · ipureintro; exact g14.put hp.1 (before_step r k)
      · iexact H14
    isplitl [H15]
    · iexists e15
      isplitr
      · ipureintro; exact g15.put hp.2.1 (before_step r k)
      · iexact H15
    iexists e16
    isplitr
    · ipureintro; exact g16.put hp.2.2 (before_step r k)
    · iexact H16
  isplitl [HL]
  · isplitr
    · ipureintro; rfl
    · iexact HL
  iintro %s' ⟨%hs, HL⟩
  subst hs
  iapply (stS_spec c E arg20 0 r _ d _)
  isplitl [H20]; · iexact H20
  iintro %d1 %h1 H20
  iapply (stS_spec c E arg20 1 r _ d1 _)
  isplitl [H20]; · iexact H20
  iintro %d2 %h2 H20
  iapply Hk
  isplitl [HL]
  · iexact HL
  · iexists d2
    isplitr
    · ipureintro; exact hd.put h1 h2
    · iexact H20

/-- The whole first loop leaves `x`, `dh` and their product in its scratches, and the sums in theirs. -/
theorem loop1_spec (K : PUnit → sProp 𝕄) :
    iprop((L1 c arg2 arg7 arg14 arg15 arg16 sw x2 x7 0 ∗ L1s c arg20 sw one x2 0)
        ∗ (∀ u', (L1 c arg2 arg7 arg14 arg15 arg16 sw x2 x7 160 ∗ L1s c arg20 sw one x2 4) -∗ K u'))
      ⊢ run c E (loop 4 (l1Row arg2 arg7 arg14 harg14 arg15 harg15 arg16 harg16 arg20 sw one) ⟨⟩) K :=
  run_loop c E 4 _ (fun n (_ : PUnit) => iprop(L1 c arg2 arg7 arg14 arg15 arg16 sw x2 x7 (40 * n) ∗ L1s c arg20 sw one x2 n))
    (fun r u K => l1Row_spec c E arg2 arg7 arg14 harg14 arg15 harg15 arg16 harg16 arg20 sw one x2 x7 r u K) ⟨⟩ K

/-! ## The second loop -/

variable (arg5 : Memref sig .tc .vmem S1x128x5120 .fp8e5m2) (arg4 : Memref sig .tc .vmem S1x128x5120 .bf16)
  (arg17 : Memref sig .tc .vmem S128x5120 .bf16) (harg17 : arg17.IsWhole)
  (x5 : Vec F S1x128x5120 .fp8e5m2) (x4 : Vec F S1x128x5120 .bf16)

/-- The blocks that the second loop has been through before row group `n` of column block `k`. -/
def Passed (k n : Nat) (r' : Fin 4) (k' : Fin 40) : Prop := 4 * k'.val + r'.val < 4 * k + n

theorem passed_step (k : Fin 40) (r : Fin 4) (r' : Fin 4) (k' : Fin 40) (h : Passed k.val (r.val + 1) r' k') (hne : ¬ (r' = r ∧ k' = k)) :
    Passed k.val r.val r' k' := by
  unfold Passed at h ⊢
  have := r'.isLt
  have := r.isLt
  by_cases hk : k' = k
  · have hr : r'.val ≠ r.val := fun e' => hne ⟨Fin.ext e', hk⟩
    subst hk; omega
  · have hk' : k'.val ≠ k.val := fun e' => hk (Fin.ext e')
    omega

/-- What the second loop owns there. -/
def L2 (k n : Nat) : sProp 𝕄 := iprop(own c arg5 x5 ∗ own c arg4 x4 ∗ (∃ d, ⌜Filled (yAll sw x5) (Passed k n) d⌝ ∗ own c arg17 d))

/-- The pair of blocks that the second loop multiplies. -/
def pairOf (k : Fin 40) (r : Fin 4) : FVec F S32x128 .bf16 × FVec F S32x128 .bf16 :=
  (yBlk sw r k (blk3 x5 r k), shapeCast S32x128 (blk3 x4 r k) shapeCasts_S1x32x128_S32x128)

theorem l2Block_spec (k : Fin 40) (r : Fin 4) (K : FVec F S32x128 .bf16 × FVec F S32x128 .bf16 → sProp 𝕄) :
    iprop(L2 c sw arg5 arg4 arg17 x5 x4 k.val r.val ∗ (L2 c sw arg5 arg4 arg17 x5 x4 k.val (r.val + 1) -∗ K (pairOf sw x5 x4 k r)))
      ⊢ run c E (l2Block arg5 arg4 arg17 harg17 sw k r) K := by
  unfold l2Block L2
  simp only [run_seq]
  iintro ⟨⟨H5, H4, ⟨%d, %hd, H17⟩⟩, Hk⟩
  iapply (ld3_spec c E arg5 r k x5 _)
  isplitl [H5]; · iexact H5
  iintro H5
  iapply (st2_spec c E arg17 harg17 r k _ d _)
  isplitl [H17]; · iexact H17
  iintro %d' %hp H17
  iapply (ld3_spec c E arg4 r k x4 _)
  isplitl [H4]; · iexact H4
  iintro H4
  iapply (run_pure c E _ _)
  rw [← show pairOf sw x5 x4 k r
    = (yBlk sw r k (blk3 x5 r k), shapeCast S32x128 (blk3 x4 r k) shapeCasts_S1x32x128_S32x128) from rfl]
  iapply Hk
  isplitl [H5]; · iexact H5
  isplitl [H4]; · iexact H4
  iexists d'
  isplitr
  · ipureintro; exact hd.put hp (passed_step k r)
  · iexact H17

/-- Column block `k`'s share of the gate's gradient. -/
def gateBlk (k : Fin 40) : FVec F S1x128 .f32 :=
  gateOf (pairOf sw x5 x4 k 0) (pairOf sw x5 x4 k 1) (pairOf sw x5 x4 k 2) (pairOf sw x5 x4 k 3)

/-- The whole second loop notes every column block's share, and leaves `dy` in its scratch. -/
theorem loop2_spec (K : (Nat → FVec F S1x128 .f32) → sProp 𝕄) :
    iprop(L2 c sw arg5 arg4 arg17 x5 x4 0 0
        ∗ (∀ dg, ⌜∀ k : Fin 40, dg k.val = gateBlk sw x5 x4 k⌝ -∗ L2 c sw arg5 arg4 arg17 x5 x4 40 0 -∗ K dg))
      ⊢ run c E (loop 40 (l2Col arg5 arg4 arg17 harg17 sw) dg0) K := by
  iintro ⟨H, Hk⟩
  iapply (run_loop c E 40 _ (fun n (dg : Nat → FVec F S1x128 .f32) =>
    iprop(⌜∀ k : Fin 40, k.val < n → dg k.val = gateBlk sw x5 x4 k⌝ ∗ L2 c sw arg5 arg4 arg17 x5 x4 n 0)) ?_ dg0 K)
  · intro k dg K
    unfold l2Col
    simp only [run_seq]
    iintro ⟨⟨%hdg, H⟩, Hk⟩
    iapply (l2Block_spec c E sw arg5 arg4 arg17 harg17 x5 x4 k 0 _)
    isplitl [H]; · iexact H
    iintro H
    iapply (l2Block_spec c E sw arg5 arg4 arg17 harg17 x5 x4 k 1 _)
    isplitl [H]; · iexact H
    iintro H
    iapply (l2Block_spec c E sw arg5 arg4 arg17 harg17 x5 x4 k 2 _)
    isplitl [H]; · iexact H
    iintro H
    iapply (l2Block_spec c E sw arg5 arg4 arg17 harg17 x5 x4 k 3 _)
    isplitl [H]; · iexact H
    iintro H
    iapply (run_pure c E _ _)
    iapply Hk
    isplitr
    · ipureintro
      intro k' hk'
      by_cases e : k'.val = k.val
      · obtain rfl : k' = k := Fin.ext e
        rw [show Nat.beq k'.val k'.val = true from Nat.beq_refl _]
        rfl
      · rw [show Nat.beq k'.val k.val = false from Bool.eq_false_iff.mpr fun h => e (Nat.eq_of_beq_eq_true h)]
        exact hdg k' (by omega)
    · have e : L2 c sw arg5 arg4 arg17 x5 x4 (k.val + 1) 0 = L2 c sw arg5 arg4 arg17 x5 x4 k.val ((3 : Fin 4).val + 1) := by
        unfold L2
        rw [show Passed (k.val + 1) 0 = Passed k.val ((3 : Fin 4).val + 1) from funext fun r' => funext fun k' => propext (by
          unfold Passed
          show _ < 4 * (k.val + 1) + 0 ↔ _ < 4 * k.val + (3 + 1)
          omega)]
      rw [e]
      iexact H
  isplitl [H]
  · isplitr
    · ipureintro; intro k hk; omega
    · iexact H
  · iintro %dg ⟨%hdg, H⟩
    iapply Hk $$ %dg
    · ipureintro; exact fun k => hdg k k.isLt
    · iexact H

theorem Filled.full2 {f : Fin 4 → Fin 40 → FVec F S32x128 .bf16} {d : Vec F S128x5120 .bf16} (h : Filled f (Passed 40 0) d) : Full f d :=
  fun r k _ x => h r k (by have := r.isLt; have := k.isLt; unfold Passed; omega) x

/-! ## The last loop -/

theorem ld2_full {f : Fin 4 → Fin 40 → FVec F S32x128 .bf16} (a : Memref sig .tc .vmem S128x5120 .bf16) (r : Fin 4) (k : Fin 40) (d : Vec F S128x5120 .bf16)
    (hd : Full f d) (K : Vec F S32x128 .bf16 → sProp 𝕄) :
    iprop(own c a d ∗ (own c a d -∗ K (f r k))) ⊢ run c E (ld2 a r k) K := by
  have h := run_load c E a (rect2 r k) (View.loadsAt_vmem h_S32x128) d K
  rw [show (fun x => d ((rect2 r k).emb x)) = f r k from funext fun x => hd r k trivial x] at h
  exact h

/-- Blocks of a window that have different numbers have no element in common. -/
theorem rect3_disjoint (r r' : Fin 4) (k k' : Fin 40) (h : ¬ (r' = r ∧ k' = k)) (x : (rect3 r' k').shape.Idx) :
    (rect3 r' k').emb x ∉ (rect3 r k).set := by
  have h0 : ((rect3 r' k').emb x 1).val = 32 * r'.val + 1 * (x 1).val := rfl
  have h1 : ((rect3 r' k').emb x 2).val = 128 * k'.val + 1 * (x 2).val := rfl
  have b0 : (x 1).val < 32 := (x 1).isLt
  have b1 : (x 2).val < 128 := (x 2).isLt
  by_cases hr : r' = r
  · have hk : k'.val ≠ k.val := fun e => h ⟨hr, Fin.ext e⟩
    refine Rect.not_mem_set_of_axis (rect3 r k) _ 2 (128 * k.val) 128 rfl rfl rfl ?_
    rw [h1]; omega
  · have hr' : r'.val ≠ r.val := fun e => hr (Fin.ext e)
    refine Rect.not_mem_set_of_axis (rect3 r k) _ 1 (32 * r.val) 32 rfl rfl rfl ?_
    rw [h0]; omega

/-- A window's buffer `d` holds the blocks `f` before number `n`. -/
def Filled3 (f : Fin 4 → Fin 40 → FVec F S32x128 .bf16) (n : Nat) (d : Vec F S1x128x5120 .bf16) : Prop :=
  ∀ (r : Fin 4) (k : Fin 40), Before n r k → ∀ x, d ((rect3 r k).emb x) = shapeCast S1x32x128 (f r k) shapeCasts_S32x128_S1x32x128 x

theorem Filled3.put {f : Fin 4 → Fin 40 → FVec F S32x128 .bf16} {r : Fin 4} {k : Fin 40} {d d' : Vec F S1x128x5120 .bf16}
    (hd : Filled3 f (40 * r.val + k.val) d) (h : Put (rect3 r k) (shapeCast S1x32x128 (f r k) shapeCasts_S32x128_S1x32x128) d d') :
    Filled3 f (40 * r.val + (k.val + 1)) d' := by
  intro r' k' hn x
  by_cases e : r' = r ∧ k' = k
  · obtain ⟨rfl, rfl⟩ := e
    exact h.1 x
  · rw [h.2 _ (rect3_disjoint r r' k k' e x)]
    exact hd r' k' (before_step r k r' k' hn e) x

variable (arg11 : Memref sig .tc .vmem S1x128x5120 .bf16) (harg11 : arg11.IsWhole) (arg18 : Memref sig .tc .vmem S2x8x5120 .f32)

/-- Column block `k` of the row `1 + mod_scale` of the point's batch element, over eight rows. -/
def mRow (i : grid0.Coords) (d18 : Vec F S2x8x5120 .f32) (k : Fin 40) : FVec F S8x128 .f32 :=
  shapeCast S8x128 (fun y => d18 ((Rect.unit (s := S2x8x5120)
    ![(Scalar.indexCast (BitVec.ofNat 32 (i 1).val)).toNat, 0, 128 * k.val] S1x8x128.size (inbM i k)).emb y) : Vec F S1x8x128 .f32) shapeCasts_S1x8x128_S8x128

/-- One block of `dx`: of `dy`, of the row constants, of `dh` times `1 + mod_scale`, and of `x`. -/
def outBlk (i : grid0.Coords) (d18 : Vec F S2x8x5120 .f32) (rstd a cst : FVec F S128x1 .f32) (fx fh fy : Fin 4 → Fin 40 → FVec F S32x128 .bf16)
    (r : Fin 4) (k : Fin 40) : FVec F S32x128 .bf16 :=
  truncf .bf16 (subf (addf (addf (extf .f32 (fy r k) bitsLt_bf16_f32) (spreadR cst r))
      (mulf (spreadR rstd r) (mulf (extf .f32 (fh r k) bitsLt_bf16_f32)
        (concatenate S32x128 0 [⟨S8x128, mRow i d18 k⟩, ⟨S8x128, mRow i d18 k⟩, ⟨S8x128, mRow i d18 k⟩, ⟨S8x128, mRow i d18 k⟩]
          concatenates_S8x128_S8x128_S8x128_S8x128_S32x128_d0))))
    (mulf (spreadR a r) (extf .f32 (fx r k) bitsLt_bf16_f32))) bitsLt_bf16_f32

/-- What the last loop owns before block number `n`. -/
def L3 (d14 d15 d17 : Vec F S128x5120 .bf16) (d18 : Vec F S2x8x5120 .f32) (f : Fin 4 → Fin 40 → FVec F S32x128 .bf16) (n : Nat) : sProp 𝕄 :=
  iprop((∃ d, ⌜Filled3 f n d⌝ ∗ own c arg11 d) ∗ own c arg14 d14 ∗ own c arg15 d15 ∗ own c arg17 d17 ∗ own c arg18 d18)

theorem loop3_spec (i : grid0.Coords) (rstd a cst : FVec F S128x1 .f32) (d14 d15 d17 : Vec F S128x5120 .bf16) (d18 : Vec F S2x8x5120 .f32)
    (fx fh fy : Fin 4 → Fin 40 → FVec F S32x128 .bf16) (h14 : Full fx d14) (h15 : Full fh d15) (h17 : Full fy d17) (K : PUnit → sProp 𝕄) :
    iprop(L3 c arg14 arg15 arg17 arg11 arg18 d14 d15 d17 d18 (outBlk i d18 rstd a cst fx fh fy) 0
        ∗ (∀ u', L3 c arg14 arg15 arg17 arg11 arg18 d14 d15 d17 d18 (outBlk i d18 rstd a cst fx fh fy) 160 -∗ K u'))
      ⊢ run c E (loop 4 (l3Row i arg11 harg11 arg14 arg15 arg17 arg18 rstd a cst) ⟨⟩) K := by
  refine run_loop c E 4 _ (fun n (_ : PUnit) => L3 c arg14 arg15 arg17 arg11 arg18 d14 d15 d17 d18 (outBlk i d18 rstd a cst fx fh fy) (40 * n)) (fun r u K => ?_) ⟨⟩ K
  unfold l3Row
  refine run_loop c E 40 _ (fun n (_ : PUnit) => L3 c arg14 arg15 arg17 arg11 arg18 d14 d15 d17 d18 (outBlk i d18 rstd a cst fx fh fy) (40 * r.val + n)) (fun k u K => ?_) ⟨⟩ K
  unfold l3Block L3
  simp only [run_seq]
  iintro ⟨⟨⟨%d, %hd, H11⟩, H14, H15, H17, H18⟩, Hk⟩
  iapply (ld2_full c E arg14 r k d14 h14 _)
  isplitl [H14]; · iexact H14
  iintro H14
  iapply (ld2_full c E arg15 r k d15 h15 _)
  isplitl [H15]; · iexact H15
  iintro H15
  iapply (ld2_full c E arg17 r k d17 h17 _)
  isplitl [H17]; · iexact H17
  iintro H17
  iapply (run_load c E arg18 _ _ d18 _)
  isplitl [H18]; · iexact H18
  iintro H18
  iapply (ld3_spec c E arg11 r k d _)
  isplitl [H11]; · iexact H11
  iintro H11
  iapply (run_store c E arg11 (rect3 r k) _ _ _ d _)
  isplitl [H11]; · iexact H11
  iintro %d' %hp H11
  iapply Hk
  isplitl [H11]
  · iexists d'
    isplitr
    · ipureintro; exact hd.put hp
    · iexact H11
  isplitl [H14]; · iexact H14
  isplitl [H15]; · iexact H15
  isplitl [H17]; · iexact H17
  iexact H18

end Cert.KernelIdeal.Roll

end
-- ==== Proof.Mid.lean ====
/- The middle of the body: its arithmetic as one function of what it loads, and what it leaves in the memrefs. -/
module

public import proofs.«01_k».proof.Proof.Block

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Facts]

local notation "𝕄" => MT nD τ sig Unit (Elt F) ℕ (UR sig nD τ) ℕ

variable (c : Dev nD) (E : Set ℕ)

open Shapes1.Facts₀ Shapes2.Facts₀ K0.Facts₀

/-- The middle's arithmetic: of the two planes of partial sums `v8713`, `v8719`, the products with `1 + mod_scale` and the
    two scratches `dh` (`v8824`) and `x · dh` (`v8826`), the three columns of statistics and the three rows of results. -/
def midPure (v8713 : Vec F S1x128x128 .f32) (v8719 : Vec F S1x128x128 .f32) (v8732 : Vec F S128x5120 .bf16) (v8734 : Vec F S1x16x5120 .bf16) (v8739 : Vec F S128x5120 .bf16) (v8741 : Vec F S1x16x5120 .bf16) (v8824 : Vec F S128x5120 .bf16) (v8826 : Vec F S128x5120 .bf16)
    (dg : Nat → FVec F S1x128 .f32) : Σ' (_ : FVec F S128x1 .f32) (_ : FVec F S128x1 .f32) (_ : FVec F S128x1 .f32) (_ : FVec F S1x5120 .f32) (_ : FVec F S1x5120 .f32), FVec F S1x5120 .f32 :=
  have v8714 : FVec F S128x128 .f32 := shapeCast S128x128 v8713 shapeCasts_S1x128x128_S128x128
  have cst_3236 : FVec F S128 .f32 := constant S128 .f32 0x00000000#32
  have v8715 : FVec F S128 .f32 := multiReduction .add [1] S128 v8714 0x00000000#32 reduces_S128x128_S128 (.inl rfl) rfl
  have v8716 : FVec F S128x1 .f32 := shapeCast S128x1 v8715 shapeCasts_S128_S128x1
  have cst_3237 : F .f32 := Named.named κ "inv_d" 0x394CCCCD#32
  have v8717 : FVec F S128x1 .f32 := broadcast S128x1 cst_3237
  have v8718 : FVec F S128x1 .f32 := mulf v8716 v8717
  have v8720 : FVec F S128x128 .f32 := shapeCast S128x128 v8719 shapeCasts_S1x128x128_S128x128
  have cst_3241 : FVec F S128 .f32 := constant S128 .f32 0x00000000#32
  have v8721 : FVec F S128 .f32 := multiReduction .add [1] S128 v8720 0x00000000#32 reduces_S128x128_S128 (.inl rfl) rfl
  have v8722 : FVec F S128x1 .f32 := shapeCast S128x1 v8721 shapeCasts_S128_S128x1
  have cst_3242 : F .f32 := Named.named κ "inv_d" 0x394CCCCD#32
  have v8723 : FVec F S128x1 .f32 := broadcast S128x1 cst_3242
  have v8724 : FVec F S128x1 .f32 := mulf v8722 v8723
  have v8725 : FVec F S128x1 .f32 := mulf v8718 v8718
  have v8726 : FVec F S128x1 .f32 := subf v8724 v8725
  have cst_3243 : F .f32 := Scalar.ofBits .f32 0x00000000#32
  have v8727 : FVec F S128x1 .f32 := broadcast S128x1 cst_3243
  have v8728 : FVec F S128x1 .f32 := maximumf v8726 v8727
  have cst_3244 : F .f32 := Scalar.ofBits .f32 0x358637BD#32
  have v8729 : FVec F S128x1 .f32 := broadcast S128x1 cst_3244
  have v8730 : FVec F S128x1 .f32 := addf v8728 v8729
  have v8731 : FVec F S128x1 .f32 := rsqrt v8730
  have v8735 : FVec F S16x5120 .bf16 := shapeCast S16x5120 v8734 shapeCasts_S1x16x5120_S16x5120
  have cst_3249 : FVec F S128x16 .f32 := constant S128x16 .f32 0x00000000#32
  have v8736 : FVec F S128x16 .f32 := matmul dot_S128x5120_S16x5120_S128x16_1_1_0_0_n_n none v8732 v8735 cst_3249
  have cst_3250 : FVec F S128 .f32 := constant S128 .f32 0x00000000#32
  have v8737 : FVec F S128 .f32 := multiReduction .add [1] S128 v8736 0x00000000#32 reduces_S128x16_S128 (.inl rfl) rfl
  have v8738 : FVec F S128x1 .f32 := shapeCast S128x1 v8737 shapeCasts_S128_S128x1
  have v8742 : FVec F S16x5120 .bf16 := shapeCast S16x5120 v8741 shapeCasts_S1x16x5120_S16x5120
  have cst_3255 : FVec F S128x16 .f32 := constant S128x16 .f32 0x00000000#32
  have v8743 : FVec F S128x16 .f32 := matmul dot_S128x5120_S16x5120_S128x16_1_1_0_0_n_n none v8739 v8742 cst_3255
  have cst_3256 : FVec F S128 .f32 := constant S128 .f32 0x00000000#32
  have v8744 : FVec F S128 .f32 := multiReduction .add [1] S128 v8743 0x00000000#32 reduces_S128x16_S128 (.inl rfl) rfl
  have v8745 : FVec F S128x1 .f32 := shapeCast S128x1 v8744 shapeCasts_S128_S128x1
  have cst_3257 : F .f32 := Named.named κ "inv_d" 0x394CCCCD#32
  have v8746 : FVec F S128x1 .f32 := broadcast S128x1 cst_3257
  have v8747 : FVec F S128x1 .f32 := mulf v8738 v8746
  have v8748 : FVec F S128x1 .f32 := mulf v8718 v8738
  have v8749 : FVec F S128x1 .f32 := subf v8745 v8748
  have v8750 : FVec F S128x1 .f32 := mulf v8731 v8749
  have cst_3258 : F .f32 := Named.named κ "inv_d" 0x394CCCCD#32
  have v8751 : FVec F S128x1 .f32 := broadcast S128x1 cst_3258
  have v8752 : FVec F S128x1 .f32 := mulf v8750 v8751
  have v8753 : FVec F S128x1 .f32 := mulf v8731 v8731
  have v8754 : FVec F S128x1 .f32 := mulf v8753 v8752
  have v8755 : FVec F S128x1 .f32 := mulf v8754 v8718
  have v8756 : FVec F S128x1 .f32 := mulf v8731 v8747
  have v8757 : FVec F S128x1 .f32 := subf v8755 v8756
  have v8758 : IVec S128x128 32 := iota .tc S128x128 32 [1] iota_S128x128_d1_w32
  have v8759 : FVec F S128x1 .bf16 := truncf .bf16 v8731 bitsLt_bf16_f32
  have v8760 : FVec F S128x1 .f32 := extf .f32 v8759 bitsLt_bf16_f32
  have v8761 : FVec F S128x1 .f32 := subf v8731 v8760
  have v8762 : FVec F S128x1 .bf16 := truncf .bf16 v8761 bitsLt_bf16_f32
  have v8763 : FVec F S128x1 .f32 := extf .f32 v8762 bitsLt_bf16_f32
  have v8764 : FVec F S128x1 .f32 := subf v8761 v8763
  have v8765 : FVec F S128x1 .bf16 := truncf .bf16 v8764 bitsLt_bf16_f32
  have v8766 : FVec F S128x1 .f32 := extf .f32 v8759 bitsLt_bf16_f32
  have v8767 : FVec F S128x1 .f32 := extf .f32 v8762 bitsLt_bf16_f32
  have v8768 : FVec F S128x1 .f32 := extf .f32 v8765 bitsLt_bf16_f32
  have cst_3259 : F .f32 := Scalar.ofBits .f32 0x00000000#32
  have v8769 : FVec F S128x1 .f32 := broadcast S128x1 cst_3259
  have v8770 : FVec F S128x1 .f32 := subf v8769 v8731
  have v8771 : FVec F S128x1 .f32 := mulf v8770 v8718
  have v8772 : FVec F S128x1 .bf16 := truncf .bf16 v8771 bitsLt_bf16_f32
  have v8773 : FVec F S128x1 .f32 := extf .f32 v8772 bitsLt_bf16_f32
  have v8774 : FVec F S128x1 .f32 := subf v8771 v8773
  have v8775 : FVec F S128x1 .bf16 := truncf .bf16 v8774 bitsLt_bf16_f32
  have v8776 : FVec F S128x1 .f32 := extf .f32 v8775 bitsLt_bf16_f32
  have v8777 : FVec F S128x1 .f32 := subf v8774 v8776
  have v8778 : FVec F S128x1 .bf16 := truncf .bf16 v8777 bitsLt_bf16_f32
  have v8779 : FVec F S128x1 .f32 := extf .f32 v8772 bitsLt_bf16_f32
  have v8780 : FVec F S128x1 .f32 := extf .f32 v8775 bitsLt_bf16_f32
  have v8781 : FVec F S128x1 .f32 := extf .f32 v8778 bitsLt_bf16_f32
  let c0_i32_3260 : BitVec 32 := 0#32
  have v8782 : IVec S128x128 32 := broadcast S128x128 c0_i32_3260
  have v8783 : IVec S128x128 1 := cmpi .eq v8758 v8782
  let c1_i32 : BitVec 32 := 1#32
  have v8784 : IVec S128x128 32 := broadcast S128x128 c1_i32
  have v8785 : IVec S128x128 1 := cmpi .eq v8758 v8784
  let c2_i32 : BitVec 32 := 2#32
  have v8786 : IVec S128x128 32 := broadcast S128x128 c2_i32
  have v8787 : IVec S128x128 1 := cmpi .eq v8758 v8786
  let c3_i32 : BitVec 32 := 3#32
  have v8788 : IVec S128x128 32 := broadcast S128x128 c3_i32
  have v8789 : IVec S128x128 1 := cmpi .eq v8758 v8788
  have cst_3261 : F .f32 := Scalar.ofBits .f32 0x00000000#32
  have v8790 : FVec F S128x1 .f32 := shapeCast S128x1 v8781 shapeCasts_S128x1_S128x1
  have v8791 : FVec F S128x128 .f32 := broadcastTo S128x128 v8790 broadcasts_S128x1_S128x128
  have v8792 : FVec F S128x128 .f32 := broadcast S128x128 cst_3261
  have v8793 : FVec F S128x128 .f32 := select v8789 v8791 v8792
  have v8794 : FVec F S128x1 .f32 := shapeCast S128x1 v8780 shapeCasts_S128x1_S128x1
  have v8795 : FVec F S128x128 .f32 := broadcastTo S128x128 v8794 broadcasts_S128x1_S128x128
  have v8796 : FVec F S128x128 .f32 := select v8787 v8795 v8793
  have v8797 : FVec F S128x1 .f32 := shapeCast S128x1 v8779 shapeCasts_S128x1_S128x1
  have v8798 : FVec F S128x128 .f32 := broadcastTo S128x128 v8797 broadcasts_S128x1_S128x128
  have v8799 : FVec F S128x128 .f32 := select v8785 v8798 v8796
  have cst_3262 : F .f32 := Scalar.ofBits .f32 0x3F800000#32
  have v8800 : FVec F S128x128 .f32 := broadcast S128x128 cst_3262
  have v8801 : FVec F S128x128 .f32 := select v8783 v8800 v8799
  let c1_i32_3263 : BitVec 32 := 1#32
  have v8802 : IVec S128x128 32 := broadcast S128x128 c1_i32_3263
  have v8803 : IVec S128x128 1 := cmpi .eq v8758 v8802
  let c2_i32_3264 : BitVec 32 := 2#32
  have v8804 : IVec S128x128 32 := broadcast S128x128 c2_i32_3264
  have v8805 : IVec S128x128 1 := cmpi .eq v8758 v8804
  let c3_i32_3265 : BitVec 32 := 3#32
  have v8806 : IVec S128x128 32 := broadcast S128x128 c3_i32_3265
  have v8807 : IVec S128x128 1 := cmpi .eq v8758 v8806
  have cst_3266 : F .f32 := Scalar.ofBits .f32 0x00000000#32
  have v8808 : FVec F S128x1 .f32 := shapeCast S128x1 v8768 shapeCasts_S128x1_S128x1
  have v8809 : FVec F S128x128 .f32 := broadcastTo S128x128 v8808 broadcasts_S128x1_S128x128
  have v8810 : FVec F S128x128 .f32 := broadcast S128x128 cst_3266
  have v8811 : FVec F S128x128 .f32 := select v8807 v8809 v8810
  have v8812 : FVec F S128x1 .f32 := shapeCast S128x1 v8767 shapeCasts_S128x1_S128x1
  have v8813 : FVec F S128x128 .f32 := broadcastTo S128x128 v8812 broadcasts_S128x1_S128x128
  have v8814 : FVec F S128x128 .f32 := select v8805 v8813 v8811
  have v8815 : FVec F S128x1 .f32 := shapeCast S128x1 v8766 shapeCasts_S128x1_S128x1
  have v8816 : FVec F S128x128 .f32 := broadcastTo S128x128 v8815 broadcasts_S128x1_S128x128
  have v8817 : FVec F S128x128 .f32 := select v8803 v8816 v8814
  have v8818 : FVec F S128x128 .f32 := transpose S128x128 [1, 0] v8801 transposes_S128x128_p1_0_S128x128
  have v8819 : FVec F S16x128 .f32 := extractStridedSlice S16x128 ![0, 0] v8818 slices_S128x128_o0_0_S16x128
  have v8820 : FVec F S16x128 .bf16 := truncf .bf16 v8819 bitsLt_bf16_f32
  have v8821 : FVec F S128x128 .f32 := transpose S128x128 [1, 0] v8817 transposes_S128x128_p1_0_S128x128
  have v8822 : FVec F S16x128 .f32 := extractStridedSlice S16x128 ![0, 0] v8821 slices_S128x128_o0_0_S16x128
  have v8823 : FVec F S16x128 .bf16 := truncf .bf16 v8822 bitsLt_bf16_f32
  have cst_3269 : FVec F S16x5120 .f32 := constant S16x5120 .f32 0x00000000#32
  have v8825 : FVec F S16x5120 .f32 := matmul dot_S16x128_S128x5120_S16x5120_1_0_0_1_n_n none v8820 v8824 cst_3269
  have cst_3272 : FVec F S16x5120 .f32 := constant S16x5120 .f32 0x00000000#32
  have v8827 : FVec F S16x5120 .f32 := matmul dot_S16x128_S128x5120_S16x5120_1_0_0_1_n_n none v8823 v8826 cst_3272
  have v8828 : FVec F S16x5120 .f32 := addf v8825 v8827
  have v8829 : FVec F S1x5120 .f32 := extractStridedSlice S1x5120 ![0, 0] v8828 slices_S16x5120_o0_0_S1x5120
  have v8830 : FVec F S1x5120 .f32 := extractStridedSlice S1x5120 ![1, 0] v8828 slices_S16x5120_o1_0_S1x5120
  have v8831 : FVec F S1x5120 .f32 := extractStridedSlice S1x5120 ![2, 0] v8828 slices_S16x5120_o2_0_S1x5120
  have v8832 : FVec F S1x5120 .f32 := addf v8830 v8831
  have v8833 : FVec F S1x5120 .f32 := extractStridedSlice S1x5120 ![3, 0] v8828 slices_S16x5120_o3_0_S1x5120
  have v8834 : FVec F S1x5120 .f32 := addf v8832 v8833
  have v8835 : FVec F S1x5120 .f32 := concatenate S1x5120 1 (colList dg 40 0) concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x5120_d1
  ⟨v8731, v8754, v8757, v8829, v8834, v8835⟩

/-- The middle, its arithmetic in one place. -/
def mid' (i : grid0.Coords) (arg13 : Memref sig .tc .vmem S1x3x2x5120 .f32) (arg15 : Memref sig .tc .vmem S128x5120 .bf16)
    (arg16 : Memref sig .tc .vmem S128x5120 .bf16) (arg19 : Memref sig .tc .vmem S2x16x5120 .bf16) (arg20 : Memref sig .tc .vmem S2x128x128 .f32)
    (dg : Nat → FVec F S1x128 .f32) :
    Prog (Eff F) (Σ' (_ : FVec F S128x1 .f32) (_ : FVec F S128x1 .f32) (_ : FVec F S128x1 .f32) (_ : FVec F S1x5120 .f32) (_ : FVec F S1x5120 .f32), FVec F S1x5120 .f32) := do
  let arg1 : BitVec 32 := BitVec.ofNat 32 (i 1).val
  let v8713 : Vec F S1x128x128 .f32 ← Prog.lift (.load arg20 (Rect.unit (s := S2x128x128) ![0, 0, 0] S1x128x128.size inb_S2x128x128_S1x128x128_0_0_0).toLoadRect (View.loadsAt_vmem h_S1x128x128))
  let v8719 : Vec F S1x128x128 .f32 ← Prog.lift (.load arg20 (Rect.unit (s := S2x128x128) ![1, 0, 0] S1x128x128.size inb_S2x128x128_S1x128x128_1_0_0).toLoadRect (View.loadsAt_vmem h_S1x128x128))
  let v8732 : Vec F S128x5120 .bf16 ← Prog.lift (.load arg15 (Rect.unit (s := S128x5120) ![0, 0] S128x5120.size inb_S128x5120_S128x5120_0_0).toLoadRect (View.loadsAt_vmem h_S128x5120))
  let v8734 : Vec F S1x16x5120 .bf16 ← Prog.lift (.load arg19 (Rect.unit (s := S2x16x5120) (k0_off1 i) S1x16x5120.size (k0_off1_inb i)).toLoadRect (View.loadsAt_vmem h_S1x16x5120))
  let v8739 : Vec F S128x5120 .bf16 ← Prog.lift (.load arg16 (Rect.unit (s := S128x5120) ![0, 0] S128x5120.size inb_S128x5120_S128x5120_0_0).toLoadRect (View.loadsAt_vmem h_S128x5120))
  let v8741 : Vec F S1x16x5120 .bf16 ← Prog.lift (.load arg19 (Rect.unit (s := S2x16x5120) (k0_off1 i) S1x16x5120.size (k0_off1_inb i)).toLoadRect (View.loadsAt_vmem h_S1x16x5120))
  let v8824 : Vec F S128x5120 .bf16 ← Prog.lift (.load arg15 (Rect.unit (s := S128x5120) ![0, 0] S128x5120.size inb_S128x5120_S128x5120_0_0).toLoadRect (View.loadsAt_vmem h_S128x5120))
  let v8826 : Vec F S128x5120 .bf16 ← Prog.lift (.load arg16 (Rect.unit (s := S128x5120) ![0, 0] S128x5120.size inb_S128x5120_S128x5120_0_0).toLoadRect (View.loadsAt_vmem h_S128x5120))
  let r := midPure v8713 v8719 v8732 v8734 v8739 v8741 v8824 v8826 dg
  let v8837 : Vec F S1x1x1x5120 .f32 ← Prog.lift (.load arg13 (Rect.unit (s := S1x3x2x5120) (k0_off2 i) S1x1x1x5120.size (k0_off2_inb i)).toLoadRect (View.loadsAt_vmem h_S1x1x1x5120))
  have v8838 : FVec F S1x5120 .f32 := shapeCast S1x5120 v8837 shapeCasts_S1x1x1x5120_S1x5120
  have v8839 : FVec F S1x1x1x5120 .f32 := shapeCast S1x1x1x5120 r.2.2.2.1 shapeCasts_S1x5120_S1x1x1x5120
  Prog.lift (.store arg13 (Rect.unit (s := S1x3x2x5120) (k0_off2 i) S1x1x1x5120.size (k0_off2_inb i)) v8839 Finset.univ (View.stores_vmem_bits_univ h_S1x1x1x5120 rfl) (.inl rfl))
  let v8840 : Index := Scalar.indexCast arg1
  let v8841 : Vec F S1x1x1x5120 .f32 ← Prog.lift (.load arg13 (Rect.unit (s := S1x3x2x5120) (k0_off3 i) S1x1x1x5120.size (k0_off3_inb i)).toLoadRect (View.loadsAt_vmem h_S1x1x1x5120))
  have v8842 : FVec F S1x5120 .f32 := shapeCast S1x5120 v8841 shapeCasts_S1x1x1x5120_S1x5120
  have v8843 : FVec F S1x1x1x5120 .f32 := shapeCast S1x1x1x5120 r.2.2.2.2.1 shapeCasts_S1x5120_S1x1x1x5120
  Prog.lift (.store arg13 (Rect.unit (s := S1x3x2x5120) (k0_off3 i) S1x1x1x5120.size (k0_off3_inb i)) v8843 Finset.univ (View.stores_vmem_bits_univ h_S1x1x1x5120 rfl) (.inl rfl))
  let v8844 : Index := Scalar.indexCast arg1
  let v8845 : Vec F S1x1x1x5120 .f32 ← Prog.lift (.load arg13 (Rect.unit (s := S1x3x2x5120) (k0_off4 i) S1x1x1x5120.size (k0_off4_inb i)).toLoadRect (View.loadsAt_vmem h_S1x1x1x5120))
  have v8846 : FVec F S1x5120 .f32 := shapeCast S1x5120 v8845 shapeCasts_S1x1x1x5120_S1x5120
  have v8847 : FVec F S1x1x1x5120 .f32 := shapeCast S1x1x1x5120 r.2.2.2.2.2 shapeCasts_S1x5120_S1x1x1x5120
  Prog.lift (.store arg13 (Rect.unit (s := S1x3x2x5120) (k0_off4 i) S1x1x1x5120.size (k0_off4_inb i)) v8847 Finset.univ (View.stores_vmem_bits_univ h_S1x1x1x5120 rfl) (.inl rfl))
  pure r

theorem mid_eq (i : grid0.Coords) (arg13 : Memref sig .tc .vmem S1x3x2x5120 .f32) (arg15 : Memref sig .tc .vmem S128x5120 .bf16)
    (arg16 : Memref sig .tc .vmem S128x5120 .bf16) (arg19 : Memref sig .tc .vmem S2x16x5120 .bf16) (arg20 : Memref sig .tc .vmem S2x128x128 .f32)
    (dg : Nat → FVec F S1x128 .f32) : mid i arg13 arg15 arg16 arg19 arg20 dg = mid' i arg13 arg15 arg16 arg19 arg20 dg := by
  sl_kernel_rfl

end Cert.KernelIdeal.Roll

end
-- ==== Proof.Straight.lean ====
/- The straight-line pieces of the body: the scales, the first point's preparation, the middle, and the two ways a
    point's rows of results reach the sums over the blocks. -/
module

public import proofs.«01_k».proof.Proof.Mid

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Facts]

local notation "𝕄" => MT nD τ sig Unit (Elt F) ℕ (UR sig nD τ) ℕ

variable (c : Dev nD) (E : Set ℕ)

open Shapes1.Facts₀ Shapes2.Facts₀ K0.Facts₀

/-! ## The scales -/

/-- A window's whole block of scales, as one row per group of 128 columns. -/
def rows40 (x : Vec F S1x40x128 .f32) : FVec F S40x128 .f32 :=
  shapeCast S40x128 (fun y => x ((Rect.unit (s := S1x40x128) ![0, 0, 0] S1x40x128.size inb_S1x40x128_S1x40x128_0_0_0).emb y) : Vec F S1x40x128 .f32)
    shapeCasts_S1x40x128_S40x128

/-- The scales of the point's tokens, one row per token: `x`'s in columns 0–39, `dh`'s in 40–79, `dy`'s in 80–119. -/
def swOf (x3 x8 x6 : Vec F S1x40x128 .f32) : FVec F S128x128 .bf16 :=
  truncf .bf16 (transpose S128x128 [1, 0] (concatenate S128x128 0
    [⟨S40x128, rows40 x3⟩, ⟨S40x128, rows40 x8⟩, ⟨S40x128, rows40 x6⟩, ⟨S8x128, broadcast S8x128 (Scalar.ofBits .f32 0x00000000#32 : F .f32)⟩]
    concatenates_S40x128_S40x128_S40x128_S8x128_S128x128_d0) transposes_S128x128_p1_0_S128x128) bitsLt_bf16_f32

/-- The block of ones, as loaded. -/
def oneOf (x10 : Vec F S32x128 .bf16) : FVec F S32x128 .bf16 :=
  shapeCast S32x128 (fun y => x10 ((Rect.unit (s := S32x128) ![0, 0] S32x128.size inb_S32x128_S32x128_0_0).emb y) : Vec F S32x128 .bf16) shapeCasts_S32x128_S32x128

theorem scales_spec (arg3 arg8 arg6 : Memref sig .tc .vmem S1x40x128 .f32) (arg10 : Memref sig .tc .vmem S32x128 .bf16)
    (x3 x8 x6 : Vec F S1x40x128 .f32) (x10 : Vec F S32x128 .bf16) (K : FVec F S128x128 .bf16 × FVec F S32x128 .bf16 → sProp 𝕄) :
    iprop(own c arg3 x3 ∗ own c arg8 x8 ∗ own c arg6 x6 ∗ own c arg10 x10
        ∗ (∀ p, ⌜p.1 = swOf x3 x8 x6 ∧ p.2 = oneOf x10⌝ -∗ iprop(own c arg3 x3 ∗ own c arg8 x8 ∗ own c arg6 x6 ∗ own c arg10 x10) -∗ K p))
      ⊢ run c E (scales arg3 arg8 arg6 arg10) K := by
  unfold scales
  simp only [run_seq]
  iintro ⟨H3, H8, H6, H10, Hk⟩
  iapply (run_load c E arg3 _ _ x3 _)
  isplitl [H3]; · iexact H3
  iintro H3
  iapply (run_load c E arg8 _ _ x8 _)
  isplitl [H8]; · iexact H8
  iintro H8
  iapply (run_load c E arg6 _ _ x6 _)
  isplitl [H6]; · iexact H6
  iintro H6
  iapply (run_load c E arg10 _ _ x10 _)
  isplitl [H10]; · iexact H10
  iintro H10
  iapply (run_pure c E _ _)
  iapply Hk $$ %_
  · ipureintro; exact ⟨rfl, rfl⟩
  isplitl [H3]; · iexact H3
  isplitl [H8]; · iexact H8
  isplitl [H6]; · iexact H6
  iexact H10

/-! ## The first point's preparation -/

/-- The rows `1 + mod_scale`. -/
def modRows (x9 : Vec F S2x5120 .f32) : FVec F S2x5120 .f32 :=
  addf (broadcast S2x5120 (Scalar.ofBits .f32 0x3F800000#32 : F .f32))
    (fun y => x9 ((Rect.unit (s := S2x5120) ![0, 0] S2x5120.size inb_S2x5120_S2x5120_0_0).emb y) : Vec F S2x5120 .f32)

/-- Batch element 0's row, -/
def modRow0 (x9 : Vec F S2x5120 .f32) : FVec F S1x5120 .f32 := extractStridedSlice S1x5120 ![0, 0] (modRows x9) slices_S2x5120_o0_0_S1x5120
/-- batch element 1's row. -/
def modRow1 (x9 : Vec F S2x5120 .f32) : FVec F S1x5120 .f32 := extractStridedSlice S1x5120 ![1, 0] (modRows x9) slices_S2x5120_o1_0_S1x5120

/-- A row over eight rows. -/
def eight (v : FVec F S1x5120 .f32) : FVec F S1x8x5120 .f32 :=
  shapeCast S1x8x5120 (broadcastTo S8x5120 (shapeCast S1x5120 v shapeCasts_S1x5120_S1x5120) broadcasts_S1x5120_S8x5120) shapeCasts_S8x5120_S1x8x5120

/-- A row as the sum of three rows of low precision: the row, -/
def split0 (v : FVec F S1x5120 .f32) : FVec F S1x5120 .bf16 := truncf .bf16 v bitsLt_bf16_f32
/-- what that leaves, -/
def left1 (v : FVec F S1x5120 .f32) : FVec F S1x5120 .f32 := subf v (extf .f32 (split0 v) bitsLt_bf16_f32)

/-- the three rows above rows of zeros. -/
def sixteen (v : FVec F S1x5120 .f32) : FVec F S1x16x5120 .bf16 :=
  shapeCast S1x16x5120 (concatenate S16x5120 0 [⟨S1x5120, split0 v⟩, ⟨S1x5120, split0 (left1 v)⟩, ⟨S1x5120, split0 (left1 (left1 v))⟩,
    ⟨S13x5120, broadcast S13x5120 (Scalar.ofBits .bf16 0x0000#16 : F .bf16)⟩] concatenates_S1x5120_S1x5120_S1x5120_S13x5120_S16x5120_d0) shapeCasts_S16x5120_S1x16x5120

/-- What the first point writes to the two scratches. -/
def Prep (x9 : Vec F S2x5120 .f32) (e18 : Vec F S2x8x5120 .f32) (e19 : Vec F S2x16x5120 .bf16) : Prop :=
  (∃ d d1, Put (Rect.unit (s := S2x8x5120) ![0, 0, 0] S1x8x5120.size inb_S2x8x5120_S1x8x5120_0_0_0) (eight (modRow0 x9)) d d1
    ∧ Put (Rect.unit (s := S2x8x5120) ![1, 0, 0] S1x8x5120.size inb_S2x8x5120_S1x8x5120_1_0_0) (eight (modRow1 x9)) d1 e18)
  ∧ ∃ d d1, Put (Rect.unit (s := S2x16x5120) ![0, 0, 0] S1x16x5120.size inb_S2x16x5120_S1x16x5120_0_0_0) (sixteen (modRow0 x9)) d d1
    ∧ Put (Rect.unit (s := S2x16x5120) ![1, 0, 0] S1x16x5120.size inb_S2x16x5120_S1x16x5120_1_0_0) (sixteen (modRow1 x9)) d1 e19

theorem prep_spec (arg9 : Memref sig .tc .vmem S2x5120 .f32) (harg9 : arg9.IsWhole) (arg18 : Memref sig .tc .vmem S2x8x5120 .f32) (harg18 : arg18.IsWhole)
    (arg19 : Memref sig .tc .vmem S2x16x5120 .bf16) (harg19 : arg19.IsWhole) (x9 : Vec F S2x5120 .f32) (K : PUnit → sProp 𝕄) :
    iprop(own c arg9 x9 ∗ any (F := F) c arg18 ∗ any (F := F) c arg19
        ∗ (∀ e18 e19, ⌜Prep x9 e18 e19⌝ -∗ iprop(own c arg9 x9 ∗ own c arg18 e18 ∗ own c arg19 e19) -∗ K ⟨⟩))
      ⊢ run c E (prep arg9 harg9 arg18 harg18 arg19 harg19) K := by
  unfold prep
  simp only [run_seq]
  iintro ⟨H9, ⟨%d18, H18⟩, ⟨%d19, H19⟩, Hk⟩
  iapply (run_load c E arg9 _ _ x9 _)
  isplitl [H9]; · iexact H9
  iintro H9
  iapply (run_load c E arg18 _ _ d18 _)
  isplitl [H18]; · iexact H18
  iintro H18
  iapply (run_store c E arg18 _ _ _ _ d18 _)
  isplitl [H18]; · iexact H18
  iintro %a18 %h18 H18
  iapply (run_load c E arg19 _ _ d19 _)
  isplitl [H19]; · iexact H19
  iintro H19
  iapply (run_store c E arg19 _ _ _ _ d19 _)
  isplitl [H19]; · iexact H19
  iintro %a19 %h19 H19
  iapply (run_load c E arg18 _ _ a18 _)
  isplitl [H18]; · iexact H18
  iintro H18
  iapply (run_store c E arg18 _ _ _ _ a18 _)
  isplitl [H18]; · iexact H18
  iintro %e18 %g18 H18
  iapply (run_load c E arg19 _ _ a19 _)
  isplitl [H19]; · iexact H19
  iintro H19
  iapply (run_store c E arg19 _ _ _ _ a19 _)
  isplitl [H19]; · iexact H19
  iintro %e19 %g19 H19
  iapply Hk $$ %e18 %e19
  · ipureintro
    exact ⟨⟨d18, a18, h18, g18⟩, ⟨d19, a19, h19, g19⟩⟩
  isplitl [H9]; · iexact H9
  isplitl [H18]; · iexact H18
  iexact H19

/-! ## The middle -/

/-- What the middle's columns and rows are called. -/
abbrev MidOut (F : FTy → Type) := Σ' (_ : FVec F S128x1 .f32) (_ : FVec F S128x1 .f32) (_ : FVec F S128x1 .f32) (_ : FVec F S1x5120 .f32) (_ : FVec F S1x5120 .f32), FVec F S1x5120 .f32

/-- A whole scratch, as loaded; -/
def whole (d : Vec F S128x5120 .bf16) : Vec F S128x5120 .bf16 :=
  fun y => d ((Rect.unit (s := S128x5120) ![0, 0] S128x5120.size inb_S128x5120_S128x5120_0_0).emb y)
/-- the batch element's slab of the splits of `1 + mod_scale`; -/
def slab (i : grid0.Coords) (d : Vec F S2x16x5120 .bf16) : Vec F S1x16x5120 .bf16 :=
  fun y => d ((Rect.unit (s := S2x16x5120) (k0_off1 i) S1x16x5120.size (k0_off1_inb i)).emb y)
/-- the plane of sums of `x`, -/
def plane0 (d : Vec F S2x128x128 .f32) : Vec F S1x128x128 .f32 :=
  fun y => d ((Rect.unit (s := S2x128x128) ![0, 0, 0] S1x128x128.size inb_S2x128x128_S1x128x128_0_0_0).emb y)
/-- the plane of sums of `x²`. -/
def plane1 (d : Vec F S2x128x128 .f32) : Vec F S1x128x128 .f32 :=
  fun y => d ((Rect.unit (s := S2x128x128) ![1, 0, 0] S1x128x128.size inb_S2x128x128_S1x128x128_1_0_0).emb y)

/-- `r` is the middle's outcome of scratches that hold `dh`, `x · dh` and the sums, of the gate's shares, and of the splits `d19`. -/
def Mids (i : grid0.Coords) (sw : FVec F S128x128 .bf16) (one : FVec F S32x128 .bf16) (x2 : Vec F S1x128x5120 .fp8e4m3) (x7 x5 : Vec F S1x128x5120 .fp8e5m2)
    (x4 : Vec F S1x128x5120 .bf16) (d19 : Vec F S2x16x5120 .bf16) (r : MidOut F) : Prop :=
  ∃ (d15 d16 : Vec F S128x5120 .bf16) (d20 : Vec F S2x128x128 .f32) (dg : Nat → FVec F S1x128 .f32),
    Full (hAll sw x7) d15 ∧ Full (pAll sw x2 x7) d16 ∧ Planes (planeOf sw one x2) 4 d20 ∧ (∀ k : Fin 40, dg k.val = gateBlk sw x5 x4 k)
    ∧ r = midPure (plane0 d20) (plane1 d20) (whole d15) (slab i d19) (whole d16) (slab i d19) (whole d15) (whole d16) dg

/-- The three rows of batch element `i 1` of the block's own result are overwritten; the other batch element's are kept. -/
def Put13 (i : grid0.Coords) (o0 o1 o2 : FVec F S1x5120 .f32) (d d' : Vec F S1x3x2x5120 .f32) : Prop :=
  ∃ (d1 d2 : Vec F S1x3x2x5120 .f32),
    Put (Rect.unit (s := S1x3x2x5120) (k0_off2 i) S1x1x1x5120.size (k0_off2_inb i)) (shapeCast S1x1x1x5120 o0 shapeCasts_S1x5120_S1x1x1x5120) d d1
    ∧ Put (Rect.unit (s := S1x3x2x5120) (k0_off3 i) S1x1x1x5120.size (k0_off3_inb i)) (shapeCast S1x1x1x5120 o1 shapeCasts_S1x5120_S1x1x1x5120) d1 d2
    ∧ Put (Rect.unit (s := S1x3x2x5120) (k0_off4 i) S1x1x1x5120.size (k0_off4_inb i)) (shapeCast S1x1x1x5120 o2 shapeCasts_S1x5120_S1x1x1x5120) d2 d'

theorem mid_spec (i : grid0.Coords) (arg13 : Memref sig .tc .vmem S1x3x2x5120 .f32) (arg15 : Memref sig .tc .vmem S128x5120 .bf16)
    (arg16 : Memref sig .tc .vmem S128x5120 .bf16) (arg19 : Memref sig .tc .vmem S2x16x5120 .bf16) (arg20 : Memref sig .tc .vmem S2x128x128 .f32)
    (dg : Nat → FVec F S1x128 .f32) (d15 d16 : Vec F S128x5120 .bf16) (d19 : Vec F S2x16x5120 .bf16) (d20 : Vec F S2x128x128 .f32)
    (d13 : Vec F S1x3x2x5120 .f32) (K : MidOut F → sProp 𝕄) :
    iprop(own c arg13 d13 ∗ own c arg15 d15 ∗ own c arg16 d16 ∗ own c arg19 d19 ∗ own c arg20 d20
        ∗ (∀ r d13', ⌜r = midPure (plane0 d20) (plane1 d20) (whole d15) (slab i d19) (whole d16) (slab i d19) (whole d15) (whole d16) dg
              ∧ Put13 i r.2.2.2.1 r.2.2.2.2.1 r.2.2.2.2.2 d13 d13'⌝ -∗
            iprop(own c arg13 d13' ∗ own c arg15 d15 ∗ own c arg16 d16 ∗ own c arg19 d19 ∗ own c arg20 d20) -∗ K r))
      ⊢ run c E (mid i arg13 arg15 arg16 arg19 arg20 dg) K := by
  rw [mid_eq]
  unfold mid'
  simp only [run_seq]
  iintro ⟨H13, H15, H16, H19, H20, Hk⟩
  iapply (run_load c E arg20 _ _ d20 _)
  isplitl [H20]; · iexact H20
  iintro H20
  iapply (run_load c E arg20 _ _ d20 _)
  isplitl [H20]; · iexact H20
  iintro H20
  iapply (run_load c E arg15 _ _ d15 _)
  isplitl [H15]; · iexact H15
  iintro H15
  iapply (run_load c E arg19 _ _ d19 _)
  isplitl [H19]; · iexact H19
  iintro H19
  iapply (run_load c E arg16 _ _ d16 _)
  isplitl [H16]; · iexact H16
  iintro H16
  iapply (run_load c E arg19 _ _ d19 _)
  isplitl [H19]; · iexact H19
  iintro H19
  iapply (run_load c E arg15 _ _ d15 _)
  isplitl [H15]; · iexact H15
  iintro H15
  iapply (run_load c E arg16 _ _ d16 _)
  isplitl [H16]; · iexact H16
  iintro H16
  iapply (run_load c E arg13 _ _ d13 _)
  isplitl [H13]; · iexact H13
  iintro H13
  iapply (run_store c E arg13 _ _ _ _ d13 _)
  isplitl [H13]; · iexact H13
  iintro %d1 %h1 H13
  iapply (run_load c E arg13 _ _ d1 _)
  isplitl [H13]; · iexact H13
  iintro H13
  iapply (run_store c E arg13 _ _ _ _ d1 _)
  isplitl [H13]; · iexact H13
  iintro %d2 %h2 H13
  iapply (run_load c E arg13 _ _ d2 _)
  isplitl [H13]; · iexact H13
  iintro H13
  iapply (run_store c E arg13 _ _ _ _ d2 _)
  isplitl [H13]; · iexact H13
  iintro %d3 %h3 H13
  iapply (run_pure c E _ _)
  iapply Hk $$ %_ %d3
  · ipureintro
    exact ⟨rfl, ⟨d1, d2, h1, h2, h3⟩⟩
  isplitl [H13]; · iexact H13
  isplitl [H15]; · iexact H15
  isplitl [H16]; · iexact H16
  isplitl [H19]; · iexact H19
  iexact H20

/-! ## The sums over the blocks -/

/-- Rows of batch element `i 1` set. -/
def Put12 (i : grid0.Coords) (k0_h2 : k0_cond2 i = 1#1) (o0 o1 o2 : FVec F S1x5120 .f32) (d d' : Vec F S3x2x5120 .f32) : Prop :=
  ∃ (d1 d2 : Vec F S3x2x5120 .f32),
    Put (Rect.unit (s := S3x2x5120) (k0_off5 i) S1x1x5120.size (k0_off5_inb i k0_h2)) (shapeCast S1x1x5120 o0 shapeCasts_S1x5120_S1x1x5120) d d1
    ∧ Put (Rect.unit (s := S3x2x5120) (k0_off6 i) S1x1x5120.size (k0_off6_inb i k0_h2)) (shapeCast S1x1x5120 o1 shapeCasts_S1x5120_S1x1x5120) d1 d2
    ∧ Put (Rect.unit (s := S3x2x5120) (k0_off7 i) S1x1x5120.size (k0_off7_inb i k0_h2)) (shapeCast S1x1x5120 o2 shapeCasts_S1x5120_S1x1x5120) d2 d'

theorem setMod_spec (i : grid0.Coords) (k0_h2 : k0_cond2 i = 1#1) (arg12 : Memref sig .tc .vmem S3x2x5120 .f32) (o0 o1 o2 : FVec F S1x5120 .f32)
    (d : Vec F S3x2x5120 .f32) (K : PUnit → sProp 𝕄) :
    iprop(own c arg12 d ∗ (∀ d', ⌜Put12 i k0_h2 o0 o1 o2 d d'⌝ -∗ own c arg12 d' -∗ K ⟨⟩))
      ⊢ run c E (setMod i k0_h2 arg12 o0 o1 o2) K := by
  unfold setMod
  simp only [run_seq]
  iintro ⟨H, Hk⟩
  iapply (run_load c E arg12 _ _ d _)
  isplitl [H]; · iexact H
  iintro H
  iapply (run_store c E arg12 _ _ _ _ d _)
  isplitl [H]; · iexact H
  iintro %d1 %h1 H
  iapply (run_load c E arg12 _ _ d1 _)
  isplitl [H]; · iexact H
  iintro H
  iapply (run_store c E arg12 _ _ _ _ d1 _)
  isplitl [H]; · iexact H
  iintro %d2 %h2 H
  iapply (run_load c E arg12 _ _ d2 _)
  isplitl [H]; · iexact H
  iintro H
  iapply (run_store c E arg12 _ _ _ _ d2 _)
  isplitl [H]; · iexact H
  iintro %d3 %h3 H
  iapply Hk $$ %d3
  · ipureintro
    exact ⟨d1, d2, h1, h2, h3⟩
  iexact H

/-- Rows of batch element `i 1` added to. -/
def Add12 (i : grid0.Coords) (k0_h3 : k0_cond3 i = 1#1) (o0 o1 o2 : FVec F S1x5120 .f32) (d d' : Vec F S3x2x5120 .f32) : Prop :=
  ∃ (d1 d2 : Vec F S3x2x5120 .f32),
    Put (Rect.unit (s := S3x2x5120) (k0_off8 i) S1x1x5120.size (k0_off8_inb i k0_h3))
      (shapeCast S1x1x5120 (addf (shapeCast S1x5120 (fun x => d ((Rect.unit (s := S3x2x5120) (k0_off8 i) S1x1x5120.size (k0_off8_inb i k0_h3)).emb x) : Vec F S1x1x5120 .f32)
        shapeCasts_S1x1x5120_S1x5120) o0) shapeCasts_S1x5120_S1x1x5120) d d1
    ∧ Put (Rect.unit (s := S3x2x5120) (k0_off9 i) S1x1x5120.size (k0_off9_inb i k0_h3))
      (shapeCast S1x1x5120 (addf (shapeCast S1x5120 (fun x => d1 ((Rect.unit (s := S3x2x5120) (k0_off9 i) S1x1x5120.size (k0_off9_inb i k0_h3)).emb x) : Vec F S1x1x5120 .f32)
        shapeCasts_S1x1x5120_S1x5120) o1) shapeCasts_S1x5120_S1x1x5120) d1 d2
    ∧ Put (Rect.unit (s := S3x2x5120) (k0_off10 i) S1x1x5120.size (k0_off10_inb i k0_h3))
      (shapeCast S1x1x5120 (addf (shapeCast S1x5120 (fun x => d2 ((Rect.unit (s := S3x2x5120) (k0_off10 i) S1x1x5120.size (k0_off10_inb i k0_h3)).emb x) : Vec F S1x1x5120 .f32)
        shapeCasts_S1x1x5120_S1x5120) o2) shapeCasts_S1x5120_S1x1x5120) d2 d'

theorem addMod_spec (i : grid0.Coords) (k0_h3 : k0_cond3 i = 1#1) (arg12 : Memref sig .tc .vmem S3x2x5120 .f32) (o0 o1 o2 : FVec F S1x5120 .f32)
    (d : Vec F S3x2x5120 .f32) (K : PUnit → sProp 𝕄) :
    iprop(own c arg12 d ∗ (∀ d', ⌜Add12 i k0_h3 o0 o1 o2 d d'⌝ -∗ own c arg12 d' -∗ K ⟨⟩))
      ⊢ run c E (addMod i k0_h3 arg12 o0 o1 o2) K := by
  unfold addMod
  simp only [run_seq]
  iintro ⟨H, Hk⟩
  iapply (run_load c E arg12 _ _ d _)
  isplitl [H]; · iexact H
  iintro H
  iapply (run_load c E arg12 _ _ d _)
  isplitl [H]; · iexact H
  iintro H
  iapply (run_store c E arg12 _ _ _ _ d _)
  isplitl [H]; · iexact H
  iintro %d1 %h1 H
  iapply (run_load c E arg12 _ _ d1 _)
  isplitl [H]; · iexact H
  iintro H
  iapply (run_load c E arg12 _ _ d1 _)
  isplitl [H]; · iexact H
  iintro H
  iapply (run_store c E arg12 _ _ _ _ d1 _)
  isplitl [H]; · iexact H
  iintro %d2 %h2 H
  iapply (run_load c E arg12 _ _ d2 _)
  isplitl [H]; · iexact H
  iintro H
  iapply (run_load c E arg12 _ _ d2 _)
  isplitl [H]; · iexact H
  iintro H
  iapply (run_store c E arg12 _ _ _ _ d2 _)
  isplitl [H]; · iexact H
  iintro %d3 %h3 H
  iapply Hk $$ %d3
  · ipureintro
    exact ⟨d1, d2, h1, h2, h3⟩
  iexact H

end Cert.KernelIdeal.Roll

end
-- ==== Proof.MidParts.lean ====
/- The middle's arithmetic in parts: the statistics of a token, its constants of `dx`, and the row `dscale`. -/
module

public import proofs.«01_k».proof.Proof.Straight

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F] [Facts]

local notation "𝕄" => MT nD τ sig Unit (Elt F) ℕ (UR sig nD τ) ℕ

variable (c : Dev nD) (E : Set ℕ)

open Shapes1.Facts₀ Shapes2.Facts₀ K0.Facts₀

/-- The tokens' means of `x`, of the plane of sums `v8713`. -/
def meanOf (v8713 : Vec F S1x128x128 .f32) : FVec F S128x1 .f32 :=
  have v8714 : FVec F S128x128 .f32 := shapeCast S128x128 v8713 shapeCasts_S1x128x128_S128x128
  have cst_3236 : FVec F S128 .f32 := constant S128 .f32 0x00000000#32
  have v8715 : FVec F S128 .f32 := multiReduction .add [1] S128 v8714 0x00000000#32 reduces_S128x128_S128 (.inl rfl) rfl
  have v8716 : FVec F S128x1 .f32 := shapeCast S128x1 v8715 shapeCasts_S128_S128x1
  have cst_3237 : F .f32 := Named.named κ "inv_d" 0x394CCCCD#32
  have v8717 : FVec F S128x1 .f32 := broadcast S128x1 cst_3237
  have v8718 : FVec F S128x1 .f32 := mulf v8716 v8717
  v8718

/-- The tokens' reciprocal standard deviations, of the means and of the plane of sums of squares. -/
def rstdOf (v8718 : FVec F S128x1 .f32) (v8719 : Vec F S1x128x128 .f32) : FVec F S128x1 .f32 :=
  have v8720 : FVec F S128x128 .f32 := shapeCast S128x128 v8719 shapeCasts_S1x128x128_S128x128
  have cst_3241 : FVec F S128 .f32 := constant S128 .f32 0x00000000#32
  have v8721 : FVec F S128 .f32 := multiReduction .add [1] S128 v8720 0x00000000#32 reduces_S128x128_S128 (.inl rfl) rfl
  have v8722 : FVec F S128x1 .f32 := shapeCast S128x1 v8721 shapeCasts_S128_S128x1
  have cst_3242 : F .f32 := Named.named κ "inv_d" 0x394CCCCD#32
  have v8723 : FVec F S128x1 .f32 := broadcast S128x1 cst_3242
  have v8724 : FVec F S128x1 .f32 := mulf v8722 v8723
  have v8725 : FVec F S128x1 .f32 := mulf v8718 v8718
  have v8726 : FVec F S128x1 .f32 := subf v8724 v8725
  have cst_3243 : F .f32 := Scalar.ofBits .f32 0x00000000#32
  have v8727 : FVec F S128x1 .f32 := broadcast S128x1 cst_3243
  have v8728 : FVec F S128x1 .f32 := maximumf v8726 v8727
  have cst_3244 : F .f32 := Scalar.ofBits .f32 0x358637BD#32
  have v8729 : FVec F S128x1 .f32 := broadcast S128x1 cst_3244
  have v8730 : FVec F S128x1 .f32 := addf v8728 v8729
  have v8731 : FVec F S128x1 .f32 := rsqrt v8730
  v8731

/-- The tokens' sums of a scratch times `1 + mod_scale`. -/
def dotOf (v8732 : Vec F S128x5120 .bf16) (v8734 : Vec F S1x16x5120 .bf16) : FVec F S128x1 .f32 :=
  have v8735 : FVec F S16x5120 .bf16 := shapeCast S16x5120 v8734 shapeCasts_S1x16x5120_S16x5120
  have cst_3249 : FVec F S128x16 .f32 := constant S128x16 .f32 0x00000000#32
  have v8736 : FVec F S128x16 .f32 := matmul dot_S128x5120_S16x5120_S128x16_1_1_0_0_n_n none v8732 v8735 cst_3249
  have cst_3250 : FVec F S128 .f32 := constant S128 .f32 0x00000000#32
  have v8737 : FVec F S128 .f32 := multiReduction .add [1] S128 v8736 0x00000000#32 reduces_S128x16_S128 (.inl rfl) rfl
  have v8738 : FVec F S128x1 .f32 := shapeCast S128x1 v8737 shapeCasts_S128_S128x1
  v8738

/-- The factor of `x` in `dx`. -/
def aOf (mu rs d1 d2 : FVec F S128x1 .f32) : FVec F S128x1 .f32 :=
  mulf (mulf rs rs) (mulf (mulf rs (subf d2 (mulf mu d1))) (broadcast S128x1 (Named.named κ "inv_d" 0x394CCCCD#32 : F .f32)))

/-- The constant of a token in `dx`. -/
def cstOf (mu rs d1 d2 : FVec F S128x1 .f32) : FVec F S128x1 .f32 :=
  subf (mulf (aOf mu rs d1 d2) mu) (mulf rs (mulf d1 (broadcast S128x1 (Named.named κ "inv_d" 0x394CCCCD#32 : F .f32))))

/-- The row `dscale`, of the means, of the reciprocal standard deviations, and of the two scratches. -/
def rowOne (v8718 v8731 : FVec F S128x1 .f32) (v8824 v8826 : Vec F S128x5120 .bf16) : FVec F S1x5120 .f32 :=
  have v8758 : IVec S128x128 32 := iota .tc S128x128 32 [1] iota_S128x128_d1_w32
  have v8759 : FVec F S128x1 .bf16 := truncf .bf16 v8731 bitsLt_bf16_f32
  have v8760 : FVec F S128x1 .f32 := extf .f32 v8759 bitsLt_bf16_f32
  have v8761 : FVec F S128x1 .f32 := subf v8731 v8760
  have v8762 : FVec F S128x1 .bf16 := truncf .bf16 v8761 bitsLt_bf16_f32
  have v8763 : FVec F S128x1 .f32 := extf .f32 v8762 bitsLt_bf16_f32
  have v8764 : FVec F S128x1 .f32 := subf v8761 v8763
  have v8765 : FVec F S128x1 .bf16 := truncf .bf16 v8764 bitsLt_bf16_f32
  have v8766 : FVec F S128x1 .f32 := extf .f32 v8759 bitsLt_bf16_f32
  have v8767 : FVec F S128x1 .f32 := extf .f32 v8762 bitsLt_bf16_f32
  have v8768 : FVec F S128x1 .f32 := extf .f32 v8765 bitsLt_bf16_f32
  have cst_3259 : F .f32 := Scalar.ofBits .f32 0x00000000#32
  have v8769 : FVec F S128x1 .f32 := broadcast S128x1 cst_3259
  have v8770 : FVec F S128x1 .f32 := subf v8769 v8731
  have v8771 : FVec F S128x1 .f32 := mulf v8770 v8718
  have v8772 : FVec F S128x1 .bf16 := truncf .bf16 v8771 bitsLt_bf16_f32
  have v8773 : FVec F S128x1 .f32 := extf .f32 v8772 bitsLt_bf16_f32
  have v8774 : FVec F S128x1 .f32 := subf v8771 v8773
  have v8775 : FVec F S128x1 .bf16 := truncf .bf16 v8774 bitsLt_bf16_f32
  have v8776 : FVec F S128x1 .f32 := extf .f32 v8775 bitsLt_bf16_f32
  have v8777 : FVec F S128x1 .f32 := subf v8774 v8776
  have v8778 : FVec F S128x1 .bf16 := truncf .bf16 v8777 bitsLt_bf16_f32
  have v8779 : FVec F S128x1 .f32 := extf .f32 v8772 bitsLt_bf16_f32
  have v8780 : FVec F S128x1 .f32 := extf .f32 v8775 bitsLt_bf16_f32
  have v8781 : FVec F S128x1 .f32 := extf .f32 v8778 bitsLt_bf16_f32
  let c0_i32_3260 : BitVec 32 := 0#32
  have v8782 : IVec S128x128 32 := broadcast S128x128 c0_i32_3260
  have v8783 : IVec S128x128 1 := cmpi .eq v8758 v8782
  let c1_i32 : BitVec 32 := 1#32
  have v8784 : IVec S128x128 32 := broadcast S128x128 c1_i32
  have v8785 : IVec S128x128 1 := cmpi .eq v8758 v8784
  let c2_i32 : BitVec 32 := 2#32
  have v8786 : IVec S128x128 32 := broadcast S128x128 c2_i32
  have v8787 : IVec S128x128 1 := cmpi .eq v8758 v8786
  let c3_i32 : BitVec 32 := 3#32
  have v8788 : IVec S128x128 32 := broadcast S128x128 c3_i32
  have v8789 : IVec S128x128 1 := cmpi .eq v8758 v8788
  have cst_3261 : F .f32 := Scalar.ofBits .f32 0x00000000#32
  have v8790 : FVec F S128x1 .f32 := shapeCast S128x1 v8781 shapeCasts_S128x1_S128x1
  have v8791 : FVec F S128x128 .f32 := broadcastTo S128x128 v8790 broadcasts_S128x1_S128x128
  have v8792 : FVec F S128x128 .f32 := broadcast S128x128 cst_3261
  have v8793 : FVec F S128x128 .f32 := select v8789 v8791 v8792
  have v8794 : FVec F S128x1 .f32 := shapeCast S128x1 v8780 shapeCasts_S128x1_S128x1
  have v8795 : FVec F S128x128 .f32 := broadcastTo S128x128 v8794 broadcasts_S128x1_S128x128
  have v8796 : FVec F S128x128 .f32 := select v8787 v8795 v8793
  have v8797 : FVec F S128x1 .f32 := shapeCast S128x1 v8779 shapeCasts_S128x1_S128x1
  have v8798 : FVec F S128x128 .f32 := broadcastTo S128x128 v8797 broadcasts_S128x1_S128x128
  have v8799 : FVec F S128x128 .f32 := select v8785 v8798 v8796
  have cst_3262 : F .f32 := Scalar.ofBits .f32 0x3F800000#32
  have v8800 : FVec F S128x128 .f32 := broadcast S128x128 cst_3262
  have v8801 : FVec F S128x128 .f32 := select v8783 v8800 v8799
  let c1_i32_3263 : BitVec 32 := 1#32
  have v8802 : IVec S128x128 32 := broadcast S128x128 c1_i32_3263
  have v8803 : IVec S128x128 1 := cmpi .eq v8758 v8802
  let c2_i32_3264 : BitVec 32 := 2#32
  have v8804 : IVec S128x128 32 := broadcast S128x128 c2_i32_3264
  have v8805 : IVec S128x128 1 := cmpi .eq v8758 v8804
  let c3_i32_3265 : BitVec 32 := 3#32
  have v8806 : IVec S128x128 32 := broadcast S128x128 c3_i32_3265
  have v8807 : IVec S128x128 1 := cmpi .eq v8758 v8806
  have cst_3266 : F .f32 := Scalar.ofBits .f32 0x00000000#32
  have v8808 : FVec F S128x1 .f32 := shapeCast S128x1 v8768 shapeCasts_S128x1_S128x1
  have v8809 : FVec F S128x128 .f32 := broadcastTo S128x128 v8808 broadcasts_S128x1_S128x128
  have v8810 : FVec F S128x128 .f32 := broadcast S128x128 cst_3266
  have v8811 : FVec F S128x128 .f32 := select v8807 v8809 v8810
  have v8812 : FVec F S128x1 .f32 := shapeCast S128x1 v8767 shapeCasts_S128x1_S128x1
  have v8813 : FVec F S128x128 .f32 := broadcastTo S128x128 v8812 broadcasts_S128x1_S128x128
  have v8814 : FVec F S128x128 .f32 := select v8805 v8813 v8811
  have v8815 : FVec F S128x1 .f32 := shapeCast S128x1 v8766 shapeCasts_S128x1_S128x1
  have v8816 : FVec F S128x128 .f32 := broadcastTo S128x128 v8815 broadcasts_S128x1_S128x128
  have v8817 : FVec F S128x128 .f32 := select v8803 v8816 v8814
  have v8818 : FVec F S128x128 .f32 := transpose S128x128 [1, 0] v8801 transposes_S128x128_p1_0_S128x128
  have v8819 : FVec F S16x128 .f32 := extractStridedSlice S16x128 ![0, 0] v8818 slices_S128x128_o0_0_S16x128
  have v8820 : FVec F S16x128 .bf16 := truncf .bf16 v8819 bitsLt_bf16_f32
  have v8821 : FVec F S128x128 .f32 := transpose S128x128 [1, 0] v8817 transposes_S128x128_p1_0_S128x128
  have v8822 : FVec F S16x128 .f32 := extractStridedSlice S16x128 ![0, 0] v8821 slices_S128x128_o0_0_S16x128
  have v8823 : FVec F S16x128 .bf16 := truncf .bf16 v8822 bitsLt_bf16_f32
  have cst_3269 : FVec F S16x5120 .f32 := constant S16x5120 .f32 0x00000000#32
  have v8825 : FVec F S16x5120 .f32 := matmul dot_S16x128_S128x5120_S16x5120_1_0_0_1_n_n none v8820 v8824 cst_3269
  have cst_3272 : FVec F S16x5120 .f32 := constant S16x5120 .f32 0x00000000#32
  have v8827 : FVec F S16x5120 .f32 := matmul dot_S16x128_S128x5120_S16x5120_1_0_0_1_n_n none v8823 v8826 cst_3272
  have v8828 : FVec F S16x5120 .f32 := addf v8825 v8827
  have v8829 : FVec F S1x5120 .f32 := extractStridedSlice S1x5120 ![0, 0] v8828 slices_S16x5120_o0_0_S1x5120
  have v8830 : FVec F S1x5120 .f32 := extractStridedSlice S1x5120 ![1, 0] v8828 slices_S16x5120_o1_0_S1x5120
  have v8831 : FVec F S1x5120 .f32 := extractStridedSlice S1x5120 ![2, 0] v8828 slices_S16x5120_o2_0_S1x5120
  have v8832 : FVec F S1x5120 .f32 := addf v8830 v8831
  have v8833 : FVec F S1x5120 .f32 := extractStridedSlice S1x5120 ![3, 0] v8828 slices_S16x5120_o3_0_S1x5120
  have v8834 : FVec F S1x5120 .f32 := addf v8832 v8833
  v8834

theorem mid_rstd (v1 v2 : Vec F S1x128x128 .f32) (v3 : Vec F S128x5120 .bf16) (v4 : Vec F S1x16x5120 .bf16) (v5 : Vec F S128x5120 .bf16)
    (v6 : Vec F S1x16x5120 .bf16) (v7 v8 : Vec F S128x5120 .bf16) (dg : Nat → FVec F S1x128 .f32) :
    (midPure v1 v2 v3 v4 v5 v6 v7 v8 dg).1 = rstdOf (meanOf v1) v2 := rfl

theorem mid_a (v1 v2 : Vec F S1x128x128 .f32) (v3 : Vec F S128x5120 .bf16) (v4 : Vec F S1x16x5120 .bf16) (v5 : Vec F S128x5120 .bf16)
    (v6 : Vec F S1x16x5120 .bf16) (v7 v8 : Vec F S128x5120 .bf16) (dg : Nat → FVec F S1x128 .f32) :
    (midPure v1 v2 v3 v4 v5 v6 v7 v8 dg).2.1 = aOf (meanOf v1) (rstdOf (meanOf v1) v2) (dotOf v3 v4) (dotOf v5 v6) := rfl

theorem mid_cst (v1 v2 : Vec F S1x128x128 .f32) (v3 : Vec F S128x5120 .bf16) (v4 : Vec F S1x16x5120 .bf16) (v5 : Vec F S128x5120 .bf16)
    (v6 : Vec F S1x16x5120 .bf16) (v7 v8 : Vec F S128x5120 .bf16) (dg : Nat → FVec F S1x128 .f32) :
    (midPure v1 v2 v3 v4 v5 v6 v7 v8 dg).2.2.1 = cstOf (meanOf v1) (rstdOf (meanOf v1) v2) (dotOf v3 v4) (dotOf v5 v6) := rfl

theorem mid_one (v1 v2 : Vec F S1x128x128 .f32) (v3 : Vec F S128x5120 .bf16) (v4 : Vec F S1x16x5120 .bf16) (v5 : Vec F S128x5120 .bf16)
    (v6 : Vec F S1x16x5120 .bf16) (v7 v8 : Vec F S128x5120 .bf16) (dg : Nat → FVec F S1x128 .f32) :
    (midPure v1 v2 v3 v4 v5 v6 v7 v8 dg).2.2.2.2.1 = rowOne (meanOf v1) (rstdOf (meanOf v1) v2) v7 v8 := rfl

end Cert.KernelIdeal.Roll

end
-- ==== Proof.Sums.lean ====
/- The sums that both programs leave in the rows `dshift` and `dgate`, and the dequantized codes, over extended reals. -/
module

public import Idealize.ShloMosaic.Lib.Pointwise
public import Idealize.ShloMosaic.PureOps.Ideal

@[expose] public section

noncomputable section

namespace Cert.Sums

open Idealize.ShloMosaic

/-- Token `τ` of block `n`. -/
def tok (n : Fin 7) (τ : Fin 128) : Fin 896 := ⟨n.val * 128 + τ.val, by omega⟩

/-- The group of 128 columns that column `j` is in. -/
def grp (j : Fin 5120) : Fin 40 := ⟨j.val / 128, by omega⟩

/-- The dequantized codes `c` of scales `s`, of a token at a column. -/
def deq (c : (⟨3, ![2, 896, 5120]⟩ : Shape).Idx → EReal) (s : (⟨3, ![2, 896, 40]⟩ : Shape).Idx → EReal) (b : Fin 2) (t : Fin 896) (j : Fin 5120) : EReal :=
  c (ix3 b t j) * s (ix3 b t (grp j))

/-- `dshift` of block `n`, batch element `b`, at column `j`: `dh`, dequantized, summed over the block's tokens. -/
def dshift (h : (⟨3, ![2, 896, 5120]⟩ : Shape).Idx → EReal) (s : (⟨3, ![2, 896, 40]⟩ : Shape).Idx → EReal) (n : Fin 7) (b : Fin 2) (j : Fin 5120) : EReal :=
  ∑ τ : Fin 128, h (ix3 b (tok n τ) j) * s (ix3 b (tok n τ) (grp j))

/-- `dgate`: `dy`, dequantized, times `f`, summed over the block's tokens. -/
def dgate (y : (⟨3, ![2, 896, 5120]⟩ : Shape).Idx → EReal) (s : (⟨3, ![2, 896, 40]⟩ : Shape).Idx → EReal) (f : (⟨3, ![2, 896, 5120]⟩ : Shape).Idx → EReal)
    (n : Fin 7) (b : Fin 2) (j : Fin 5120) : EReal :=
  ∑ τ : Fin 128, y (ix3 b (tok n τ) j) * s (ix3 b (tok n τ) (grp j)) * f (ix3 b (tok n τ) j)

end Cert.Sums

end
-- ==== Proof.KerVal.lean ====
/- What a point of the kernel computes, over extended reals. -/
module

public import proofs.«01_k».proof.Proof.MidParts
public import proofs.«01_k».proof.Proof.Sums

@[expose] public section

noncomputable section

namespace Cert.KernelIdeal.Roll

open Idealize.ShloMosaic Idealize.ShloMosaic.TcCoe

variable [Facts]

open Shapes1.Facts₀ Shapes2.Facts₀ K0.Facts₀

variable (x3 x8 x6 : Vec Ideal S1x40x128 .f32) (x7 x5 : Vec Ideal S1x128x5120 .fp8e5m2) (x4 : Vec Ideal S1x128x5120 .bf16)

/-- Token `p` of row group `r`, -/
def row4 (r : Fin 4) (p : Fin 32) : Fin 128 := ⟨32 * r.val + p.val, by omega⟩
/-- and column `q` of column block `k`. -/
def col40 (k : Fin 40) (q : Fin 128) : Fin 5120 := ⟨128 * k.val + q.val, by omega⟩

theorem emb40 (h) (x : S1x40x128.Idx) : (Rect.unit (s := S1x40x128) ![0, 0, 0] S1x40x128.size h).emb x = x := by
  funext a
  apply Fin.ext
  match a with
  | ⟨0, _⟩ => show 0 + 1 * (x 0).val = (x 0).val; omega
  | ⟨1, _⟩ => show 0 + 1 * (x 1).val = (x 1).val; omega
  | ⟨2, _⟩ => show 0 + 1 * (x 2).val = (x 2).val; omega

theorem emb128 (h) (x : S128x5120.Idx) : (Rect.unit (s := S128x5120) ![0, 0] S128x5120.size h).emb x = x := by
  funext a
  apply Fin.ext
  match a with
  | ⟨0, _⟩ => show 0 + 1 * (x 0).val = (x 0).val; omega
  | ⟨1, _⟩ => show 0 + 1 * (x 1).val = (x 1).val; omega

theorem rows40_eq (x : Vec Ideal S1x40x128 .f32) (k : Fin 40) (τ : Fin 128) : rows40 x (ix2 k τ) = x (ix3 (0 : Fin 1) k τ) := by
  unfold rows40
  pointwise
  exact congrArg x (emb40 _ _)

theorem sw_h (τ : Fin 128) (k : Fin 40) (hk : 40 + k.val < 128) :
    swOf x3 x8 x6 (ix2 τ ⟨40 + k.val, hk⟩) = (x8 (ix3 (0 : Fin 1) k τ) : EReal) := by
  pointwise [swOf]
  rw [rows40_eq]

theorem sw_y (τ : Fin 128) (k : Fin 40) (hk : 80 + k.val < 128) :
    swOf x3 x8 x6 (ix2 τ ⟨80 + k.val, hk⟩) = (x6 (ix3 (0 : Fin 1) k τ) : EReal) := by
  pointwise [swOf]
  rw [dif_neg (by omega), dif_neg (by omega), dif_pos (by omega), rows40_eq]
  congr 2
  apply Fin.ext
  show 80 + k.val - 40 - 40 = k.val
  omega

theorem hBlk_at (sw : FVec Ideal S128x128 .bf16) (r : Fin 4) (k : Fin 40) (v : Vec Ideal S1x32x128 .fp8e5m2) (p : Fin 32) (q : Fin 128) :
    hBlk sw r k v (ix2 p q) = (v (ix3 (0 : Fin 1) p q) * sw (ix2 (row4 r p) ⟨40 + k.val, by omega⟩) : EReal) := by
  pointwise [hBlk, spread]
  rfl

theorem yBlk_at (sw : FVec Ideal S128x128 .bf16) (r : Fin 4) (k : Fin 40) (v : Vec Ideal S1x32x128 .fp8e5m2) (p : Fin 32) (q : Fin 128) :
    yBlk sw r k v (ix2 p q) = (v (ix3 (0 : Fin 1) p q) * sw (ix2 (row4 r p) ⟨80 + k.val, by omega⟩) : EReal) := by
  pointwise [yBlk, spread]
  rfl

theorem blk3_at {e : EltTy} (x : Vec Ideal S1x128x5120 e) (r : Fin 4) (k : Fin 40) (p : Fin 32) (q : Fin 128) :
    blk3 x r k (ix3 (0 : Fin 1) p q) = x (ix3 (0 : Fin 1) (row4 r p) (col40 k q)) := by
  unfold blk3
  congr 1
  funext a
  apply Fin.ext
  match a with
  | ⟨0, _⟩ => rfl
  | ⟨1, _⟩ => show 32 * r.val + 1 * p.val = 32 * r.val + p.val; omega
  | ⟨2, _⟩ => show 128 * k.val + 1 * q.val = 128 * k.val + q.val; omega

theorem emb_rect2 (r : Fin 4) (k : Fin 40) (p : Fin 32) (q : Fin 128) : (rect2 r k).emb (ix2 p q) = ix2 (row4 r p) (col40 k q) := by
  funext a
  apply Fin.ext
  match a with
  | ⟨0, _⟩ => show 32 * r.val + 1 * p.val = 32 * r.val + p.val; omega
  | ⟨1, _⟩ => show 128 * k.val + 1 * q.val = 128 * k.val + q.val; omega

theorem sw_x (τ : Fin 128) (k : Fin 40) (hk : k.val < 128) :
    swOf x3 x8 x6 (ix2 τ ⟨k.val, hk⟩) = (x3 (ix3 (0 : Fin 1) k τ) : EReal) := by
  pointwise [swOf]
  rw [rows40_eq]

theorem xBlk_at (sw : FVec Ideal S128x128 .bf16) (r : Fin 4) (k : Fin 40) (v : Vec Ideal S1x32x128 .fp8e4m3) (p : Fin 32) (q : Fin 128) :
    xBlk sw r k v (ix2 p q) = (v (ix3 (0 : Fin 1) p q) * sw (ix2 (row4 r p) ⟨k.val, by omega⟩) : EReal) := by
  pointwise [xBlk, spread]
  rfl

/-- A dequantized element of `x`, -/
def xv (x2 : Vec Ideal S1x128x5120 .fp8e4m3) (x3 : Vec Ideal S1x40x128 .f32) (τ : Fin 128) (j : Fin 5120) : EReal :=
  x2 (ix3 (0 : Fin 1) τ j) * x3 (ix3 (0 : Fin 1) (Sums.grp j) τ)
/-- of `dh` or `dy`, -/
def hv (x7 : Vec Ideal S1x128x5120 .fp8e5m2) (x8 : Vec Ideal S1x40x128 .f32) (τ : Fin 128) (j : Fin 5120) : EReal :=
  x7 (ix3 (0 : Fin 1) τ j) * x8 (ix3 (0 : Fin 1) (Sums.grp j) τ)
/-- and the one it is multiplied by. -/
def ov (x10 : Vec Ideal S32x128 .bf16) (τ : Fin 128) (j : Fin 5120) : EReal := x10 (ix2 (⟨τ.val % 32, by omega⟩ : Fin 32) (⟨j.val % 128, by omega⟩ : Fin 128))

/-- A token's row group and its place there, and a column's block and its place there. -/
theorem at_row (τ : Fin 128) : τ = row4 ⟨τ.val / 32, by omega⟩ ⟨τ.val % 32, by omega⟩ := Fin.ext (show τ.val = 32 * (τ.val / 32) + τ.val % 32 by omega)
theorem at_col (j : Fin 5120) : j = col40 (Sums.grp j) ⟨j.val % 128, by omega⟩ := Fin.ext (show j.val = 128 * (j.val / 128) + j.val % 128 by omega)
theorem grp_col (k : Fin 40) (q : Fin 128) : Sums.grp (col40 k q) = k := Fin.ext (show (128 * k.val + q.val) / 128 = k.val by omega)

/-- The blocks are those elements. -/
theorem xAll_at (x2 : Vec Ideal S1x128x5120 .fp8e4m3) (r : Fin 4) (k : Fin 40) (p : Fin 32) (q : Fin 128) :
    xAll (swOf x3 x8 x6) x2 r k (ix2 p q) = xv x2 x3 (row4 r p) (col40 k q) := by
  unfold xAll xv
  rw [xBlk_at, blk3_at, sw_x, grp_col]
theorem hAll_at (r : Fin 4) (k : Fin 40) (p : Fin 32) (q : Fin 128) :
    hAll (swOf x3 x8 x6) x7 r k (ix2 p q) = hv x7 x8 (row4 r p) (col40 k q) := by
  unfold hAll hv
  rw [hBlk_at, blk3_at, sw_h, grp_col]
theorem yAll_at (r : Fin 4) (k : Fin 40) (p : Fin 32) (q : Fin 128) :
    yAll (swOf x3 x8 x6) x5 r k (ix2 p q) = hv x5 x6 (row4 r p) (col40 k q) := by
  unfold yAll hv
  rw [yBlk_at, blk3_at, sw_y, grp_col]
theorem pAll_at (x2 : Vec Ideal S1x128x5120 .fp8e4m3) (r : Fin 4) (k : Fin 40) (p : Fin 32) (q : Fin 128) :
    pAll (swOf x3 x8 x6) x2 x7 r k (ix2 p q) = xv x2 x3 (row4 r p) (col40 k q) * hv x7 x8 (row4 r p) (col40 k q) := by
  rw [← xAll_at x3 x8 x6, ← hAll_at x3 x8 x6]
  rfl

/-- A full scratch at an index. -/
theorem Filled.at {f : Fin 4 → Fin 40 → FVec Ideal S32x128 .bf16} {d : Vec Ideal S128x5120 .bf16} (h : Full f d) {g : Fin 128 → Fin 5120 → EReal}
    (hg : ∀ r k p q, f r k (ix2 p q) = g (row4 r p) (col40 k q)) (τ : Fin 128) (j : Fin 5120) : d (ix2 τ j) = g τ j := by
  have e := h ⟨τ.val / 32, by omega⟩ (Sums.grp j) trivial (ix2 ⟨τ.val % 32, by omega⟩ ⟨j.val % 128, by omega⟩)
  rw [emb_rect2, hg, ← at_row, ← at_col] at e
  exact e

theorem whole_at (d : Vec Ideal S128x5120 .bf16) (τ : Fin 128) (j : Fin 5120) : whole d (ix2 τ j) = d (ix2 τ j) := congrArg d (emb128 _ _)

/-! ## The running sums -/

/-- The running sums are sums over the blocks. -/
theorem sumsTo_at (t : Fin 40 → FVec Ideal S32x128 .f32 × FVec Ideal S32x128 .f32) (n : ℕ) (hn : n < 40) :
    ∃ s, sumsTo t (n + 1) = some s
      ∧ (∀ x, s.1 x = ∑ k ∈ Finset.range (n + 1), if h : k < 40 then ((t ⟨k, h⟩).1 x : EReal) else 0)
      ∧ ∀ x, s.2 x = ∑ k ∈ Finset.range (n + 1), if h : k < 40 then ((t ⟨k, h⟩).2 x : EReal) else 0 := by
  induction n with
  | zero =>
    refine ⟨t ⟨0, hn⟩, ?_, fun x => ?_, fun x => ?_⟩
    · rw [sumsTo_succ t ⟨0, hn⟩]
      rfl
    · rw [Finset.sum_range_one, dif_pos hn]
    · rw [Finset.sum_range_one, dif_pos hn]
  | succ n ih =>
    obtain ⟨s, e, e1, e2⟩ := ih (by omega)
    refine ⟨(addf s.1 (t ⟨n + 1, hn⟩).1, addf s.2 (t ⟨n + 1, hn⟩).2), ?_, fun x => ?_, fun x => ?_⟩
    · have h := sumsTo_succ t ⟨n + 1, hn⟩
      rw [show (⟨n + 1, hn⟩ : Fin 40).val = n + 1 from rfl, e] at h
      exact h
    · rw [Finset.sum_range_succ, ← e1, dif_pos hn]
      rfl
    · rw [Finset.sum_range_succ, ← e2, dif_pos hn]
      rfl

/-- The planes are sums over the column blocks. -/
theorem plane_at (one : FVec Ideal S32x128 .bf16) (sw : FVec Ideal S128x128 .bf16) (x2 : Vec Ideal S1x128x5120 .fp8e4m3) (r : Fin 4) (x : S32x128.Idx) :
    planeOf sw one x2 0 r x = ∑ k : Fin 40, (xAll sw x2 r k x * one x : EReal)
    ∧ planeOf sw one x2 1 r x = ∑ k : Fin 40, (xAll sw x2 r k x * xAll sw x2 r k x : EReal) := by
  obtain ⟨s, e, e1, e2⟩ := sumsTo_at (fun k => pairT one (xAll sw x2 r k)) 39 (by omega)
  have h1 := e1 x
  have h2 := e2 x
  rw [Finset.sum_range] at h1 h2
  simp only [Fin.is_lt, dite_true, Nat.reduceAdd] at h1 h2
  have e' : sumsOf sw one x2 r = some s := e
  constructor
  · unfold planeOf
    rw [if_pos rfl, e']
    exact h1
  · unfold planeOf
    rw [if_neg (by decide), e']
    exact h2

theorem emb_rectS (s : Fin 2) (r : Fin 4) (p : Fin 32) (q : Fin 128) : (rectS s r).emb (ix3 (0 : Fin 1) p q) = ix3 s (row4 r p) q := by
  funext a
  apply Fin.ext
  match a with
  | ⟨0, _⟩ => show s.val + 1 * 0 = s.val; omega
  | ⟨1, _⟩ => show 32 * r.val + 1 * p.val = 32 * r.val + p.val; omega
  | ⟨2, _⟩ => show 0 + 1 * q.val = q.val; omega

theorem Planes.at {f : Fin 2 → Fin 4 → FVec Ideal S32x128 .f32} {d : Vec Ideal S2x128x128 .f32} (h : Planes f 4 d) (s : Fin 2) (τ q : Fin 128) :
    d (ix3 s τ q) = f s ⟨τ.val / 32, by omega⟩ (ix2 (⟨τ.val % 32, by omega⟩ : Fin 32) q) := by
  have e := h s ⟨τ.val / 32, by omega⟩ (show τ.val / 32 < 4 by omega) (ix3 (0 : Fin 1) (⟨τ.val % 32, by omega⟩ : Fin 32) q)
  rw [emb_rectS, ← at_row] at e
  rw [e]
  pointwise

/-- A sum over the columns of the blocks is one over the columns. -/
theorem sum_cols (f : Fin 5120 → EReal) : ∑ q : Fin 128, ∑ k : Fin 40, f (col40 k q) = ∑ j : Fin 5120, f j := by
  rw [Finset.sum_comm, ← Fintype.sum_prod_type' (f := fun (k : Fin 40) (q : Fin 128) => f (col40 k q))]
  refine Fintype.sum_equiv (finProdFinEquiv (m := 40) (n := 128)) _ _ fun x => congrArg f (Fin.ext ?_)
  show 128 * x.1.val + x.2.val = x.2.val + 128 * x.1.val
  omega

/-! ## The statistics -/

/-- The factor that stands for 1 / 5120. -/
def invD : EReal := (Named.named κ "inv_d" 0x394CCCCD#32 : Ideal .f32)
/-- The variance's offset. -/
def eps : EReal := Ideal.ofBits .f32 0x358637BD#32

/-- The mean of a row, -/
def mean (X O : Fin 5120 → EReal) : EReal := (∑ j, X j * O j) * invD
/-- its reciprocal standard deviation, -/
def rstd (X O : Fin 5120 → EReal) : EReal := Ideal.rsqrt (max ((∑ j, X j * X j) * invD - mean X O * mean X O) 0 + eps)
/-- and minus their product. -/
def off (X O : Fin 5120 → EReal) : EReal := (0 - rstd X O) * mean X O

theorem mean_at {d : Vec Ideal S2x128x128 .f32} {x2 : Vec Ideal S1x128x5120 .fp8e4m3} {x10 : Vec Ideal S32x128 .bf16}
    (h : Planes (planeOf (swOf x3 x8 x6) x10 x2) 4 d) (τ : Fin 128) :
    meanOf (plane0 d) (ix2 τ (0 : Fin 1)) = mean (xv x2 x3 τ) (ov x10 τ) := by
  have e : ∀ q : Fin 128, plane0 d (ix3 (0 : Fin 1) τ q) = ∑ k : Fin 40, (xv x2 x3 τ (col40 k q) * ov x10 τ (col40 k q) : EReal) := fun q => by
    unfold plane0
    rw [Rect.emb_eq_of_coords _ _ (ix3 (0 : Fin 2) τ q) (fun a => by
      match a with
      | ⟨0, _⟩ => rfl
      | ⟨1, _⟩ => show τ.val = 0 + 1 * τ.val; omega
      | ⟨2, _⟩ => show q.val = 0 + 1 * q.val; omega), h.at, (plane_at _ _ _ _ _).1]
    refine Finset.sum_congr rfl fun k _ => ?_
    rw [xAll_at, ← at_row]
    congr 2
    refine congrArg (ix2 _) (Fin.ext ?_)
    show q.val = (128 * k.val + q.val) % 128
    omega
  pointwise [meanOf]
  unfold mean
  rw [← sum_cols]
  simp only [e]
  rfl

theorem rstd_at {d : Vec Ideal S2x128x128 .f32} {x2 : Vec Ideal S1x128x5120 .fp8e4m3} {x10 : Vec Ideal S32x128 .bf16}
    (h : Planes (planeOf (swOf x3 x8 x6) x10 x2) 4 d) (τ : Fin 128) :
    rstdOf (meanOf (plane0 d)) (plane1 d) (ix2 τ (0 : Fin 1)) = rstd (xv x2 x3 τ) (ov x10 τ) := by
  have e : ∀ q : Fin 128, plane1 d (ix3 (0 : Fin 1) τ q) = ∑ k : Fin 40, (xv x2 x3 τ (col40 k q) * xv x2 x3 τ (col40 k q) : EReal) := fun q => by
    unfold plane1
    rw [Rect.emb_eq_of_coords _ _ (ix3 (1 : Fin 2) τ q) (fun a => by
      match a with
      | ⟨0, _⟩ => rfl
      | ⟨1, _⟩ => show τ.val = 0 + 1 * τ.val; omega
      | ⟨2, _⟩ => show q.val = 0 + 1 * q.val; omega), h.at, (plane_at _ _ _ _ _).2]
    refine Finset.sum_congr rfl fun k _ => ?_
    rw [xAll_at, ← at_row]
  have hm := mean_at x3 x8 x6 h τ
  generalize meanOf (plane0 d) = mu at hm ⊢
  pointwise [rstdOf]
  unfold rstd
  rw [← sum_cols, ← hm]
  simp only [e]
  rfl

/-- The row `dscale` of a block at a column: of minus the means times the reciprocal standard deviations `n`, of these deviations `s`, of `dh` and of `x · dh`. -/
def row1 (n s h p : Fin 128 → EReal) : EReal :=
  ∑ τ, n τ * h τ + ∑ τ, s τ * p τ + (∑ τ, (n τ - n τ) * h τ + ∑ τ, (s τ - s τ) * p τ)
    + (∑ τ, (n τ - n τ - (n τ - n τ)) * h τ + ∑ τ, (s τ - s τ - (s τ - s τ)) * p τ)

theorem rowOne_at (mu rs : FVec Ideal S128x1 .f32) (d15 d16 : Vec Ideal S128x5120 .bf16) (j : Fin 5120) :
    rowOne mu rs d15 d16 (ix2 (0 : Fin 1) j)
      = row1 (fun τ => (0 - rs (ix2 τ (0 : Fin 1))) * mu (ix2 τ (0 : Fin 1))) (fun τ => rs (ix2 τ (0 : Fin 1))) (fun τ => d15 (ix2 τ j)) (fun τ => d16 (ix2 τ j)) := by
  pointwise [rowOne, row1]
  have h1 : IntOp.cmpi CmpIPredicate.eq 1#32 0#32 = 0#1 := rfl
  have h2 : IntOp.cmpi CmpIPredicate.eq 2#32 0#32 = 0#1 := rfl
  have h3 : IntOp.cmpi CmpIPredicate.eq 2#32 1#32 = 0#1 := rfl
  have h4 : IntOp.cmpi CmpIPredicate.eq 3#32 0#32 = 0#1 := rfl
  have h5 : IntOp.cmpi CmpIPredicate.eq 3#32 1#32 = 0#1 := rfl
  have h6 : IntOp.cmpi CmpIPredicate.eq 3#32 2#32 = 0#1 := rfl
  have hs : ∀ a b : EReal, Scalar.select (0#1) a b = b := fun a b => rfl
  simp only [h1, h2, h3, h4, h5, h6, hs]

/-- A row's sum times the splits of `1 + mod_scale`. -/
def dotR (X : Fin 5120 → EReal) (d19 : Vec Ideal S2x16x5120 .bf16) (b : Fin 2) : EReal := ∑ u : Fin 16, ∑ j : Fin 5120, X j * d19 (ix3 b u j)

theorem slab_at {i : grid0.Coords} {b : Fin 2} (hb : (i 1).val = b.val) (d : Vec Ideal S2x16x5120 .bf16) (u : Fin 16) (j : Fin 5120) :
    slab i d (ix3 (0 : Fin 1) u j) = d (ix3 b u j) := by
  have e : k0_off1 i = ![b.val, 0, 0] := (Gen.k0_off1_eq i).trans (by rw [hb])
  unfold slab
  rw [Rect.emb_eq_of_coords _ _ (ix3 b u j) (fun a => by
    match a with
    | ⟨0, _⟩ => show b.val = k0_off1 i 0 + 1 * 0; rw [e]; rfl
    | ⟨1, _⟩ => show u.val = k0_off1 i 1 + 1 * u.val; rw [e]; show u.val = 0 + 1 * u.val; omega
    | ⟨2, _⟩ => show j.val = k0_off1 i 2 + 1 * j.val; rw [e]; show j.val = 0 + 1 * j.val; omega)]

theorem dotOf_at {i : grid0.Coords} {b : Fin 2} (hb : (i 1).val = b.val) (d : Vec Ideal S128x5120 .bf16) (d19 : Vec Ideal S2x16x5120 .bf16) (τ : Fin 128) :
    dotOf d (slab i d19) (ix2 τ (0 : Fin 1)) = dotR (fun j => d (ix2 τ j)) d19 b := by
  have e := slab_at hb d19
  generalize slab i d19 = v at e ⊢
  pointwise [dotOf, dotR]
  simp only [e]

/-- The factor of `x` in a token's row of `dx`, -/
def fac (mu rs d1 d2 : EReal) : EReal := rs * rs * (rs * (d2 - mu * d1) * invD)
/-- and its constant. -/
def cst (mu rs d1 d2 : EReal) : EReal := fac mu rs d1 d2 * mu - rs * (d1 * invD)

theorem aOf_at (mu rs d1 d2 : FVec Ideal S128x1 .f32) (x : S128x1.Idx) : aOf mu rs d1 d2 x = fac (mu x) (rs x) (d1 x) (d2 x) := rfl
theorem cstOf_at (mu rs d1 d2 : FVec Ideal S128x1 .f32) (x : S128x1.Idx) : cstOf mu rs d1 d2 x = cst (mu x) (rs x) (d1 x) (d2 x) := rfl

/-- The first row of results is the scratch's sum over the tokens. -/
theorem mid_o0 (v1 v2 : Vec Ideal S1x128x128 .f32) (v3 : Vec Ideal S128x5120 .bf16) (v4 : Vec Ideal S1x16x5120 .bf16) (v5 : Vec Ideal S128x5120 .bf16)
    (v6 : Vec Ideal S1x16x5120 .bf16) (d v8 : Vec Ideal S128x5120 .bf16) (dg : Nat → FVec Ideal S1x128 .f32) (j : Fin 5120) :
    (midPure v1 v2 v3 v4 v5 v6 d v8 dg).2.2.2.1 (ix2 (0 : Fin 1) j) = ∑ τ : Fin 128, (d (ix2 τ j) : EReal) := by
  pointwise [midPure]
  have h1 : IntOp.cmpi CmpIPredicate.eq 0#32 1#32 = 0#1 := rfl
  have h2 : IntOp.cmpi CmpIPredicate.eq 0#32 2#32 = 0#1 := rfl
  have h3 : IntOp.cmpi CmpIPredicate.eq 0#32 3#32 = 0#1 := rfl
  simp [h1, h2, h3, Scalar.select]

open Shapes1.Facts₀ Shapes2.Facts₀ K0.Facts₀ in
theorem mid_cat (dg : Nat → FVec Ideal S1x128 .f32) : Shape.Concatenates ((colList dg 40 0).map (·.1)) S1x5120 1 :=
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x5120_d1

/-- The last row of results is the column blocks' shares side by side. -/
theorem mid_o2 (v1 v2 : Vec Ideal S1x128x128 .f32) (v3 : Vec Ideal S128x5120 .bf16) (v4 : Vec Ideal S1x16x5120 .bf16) (v5 : Vec Ideal S128x5120 .bf16)
    (v6 : Vec Ideal S1x16x5120 .bf16) (d v8 : Vec Ideal S128x5120 .bf16) (dg : Nat → FVec Ideal S1x128 .f32) (j : Fin 5120) :
    (midPure v1 v2 v3 v4 v5 v6 d v8 dg).2.2.2.2.2 (ix2 (0 : Fin 1) j) = dg (Sums.grp j).val (ix2 (0 : Fin 1) ⟨j.val % 128, by omega⟩) := by
  have key : ∀ (xs : List ((s : Shape) × (s.Idx → Ideal .f32))) (h : Shape.Concatenates (xs.map (·.1)) S1x5120 1),
      xs = List.ofFn (fun n : Fin 40 => (⟨S1x128, dg n.val⟩ : (s : Shape) × (s.Idx → Ideal .f32))) →
      concatenate S1x5120 1 xs h (ix2 (0 : Fin 1) j) = dg (Sums.grp j).val (ix2 (0 : Fin 1) ⟨j.val % 128, by omega⟩) := by
    intro xs h e
    subst e
    exact concatenate_ofFn_apply (t := S1x5120) (s₁ := S1x128) (1 : Fin 2) (fun n : Fin 40 => dg n.val) h rfl 128 rfl (ix2 (0 : Fin 1) j) (Sums.grp j) rfl
      (ix2 (0 : Fin 1) ⟨j.val % 128, by omega⟩) rfl (fun b hb => by match b with | ⟨0, _⟩ => rfl | ⟨1, _⟩ => exact absurd rfl hb)
  have e := key (colList dg 40 0) (mid_cat dg) rfl
  exact e

/-- A sum over 32 is the sum over 16 of the two halves' terms. -/
theorem sum32 (f : Fin 32 → EReal) : ∑ p : Fin 32, f p = ∑ x : Fin 16, (f ⟨x.val, by omega⟩ + f ⟨16 + x.val, by omega⟩) := by
  rw [Finset.sum_add_distrib]
  exact Fin.sum_univ_add (a := 16) (b := 16) f

/-- A sum over 128 is the sum of its four parts of 32. -/
theorem sum128 (f : Fin 128 → EReal) :
    ∑ τ : Fin 128, f τ = ∑ p : Fin 32, f (row4 0 p) + ∑ p : Fin 32, f (row4 1 p) + ∑ p : Fin 32, f (row4 2 p) + ∑ p : Fin 32, f (row4 3 p) := by
  have a := Fin.sum_univ_add (a := 96) (b := 32) f
  have b := Fin.sum_univ_add (a := 64) (b := 32) (fun x => f (Fin.castAdd 32 x))
  have c := Fin.sum_univ_add (a := 32) (b := 32) (fun x => f (Fin.castAdd 32 (Fin.castAdd 32 x)))
  refine a.trans ?_
  rw [b, c]
  have e : ∀ p : Fin 32, Fin.castAdd 32 (Fin.castAdd 32 (Fin.castAdd 32 p)) = row4 0 p := fun p => Fin.ext (show p.val = 32 * 0 + p.val by omega)
  simp only [← e]
  rfl

theorem gate_at (a b c d : FVec Ideal S32x128 .bf16 × FVec Ideal S32x128 .bf16) (q : Fin 128) :
    gateOf a b c d (ix2 (0 : Fin 1) q) = (∑ p : Fin 32, a.1 (ix2 p q) * a.2 (ix2 p q) + ∑ p : Fin 32, b.1 (ix2 p q) * b.2 (ix2 p q)
      + ∑ p : Fin 32, c.1 (ix2 p q) * c.2 (ix2 p q) + ∑ p : Fin 32, d.1 (ix2 p q) * d.2 (ix2 p q) : EReal) := by
  pointwise [gateOf, half]
  rw [sum32, sum32, sum32, sum32, ← Finset.sum_add_distrib, ← Finset.sum_add_distrib, ← Finset.sum_add_distrib]
  refine Finset.sum_congr rfl fun x _ => ?_
  simp only [add_assoc]

theorem pair_at (x5 : Vec Ideal S1x128x5120 .fp8e5m2) (x4 : Vec Ideal S1x128x5120 .bf16) (k : Fin 40) (r : Fin 4) (p : Fin 32) (q : Fin 128) :
    ((pairOf (swOf x3 x8 x6) x5 x4 k r).1 (ix2 p q) * (pairOf (swOf x3 x8 x6) x5 x4 k r).2 (ix2 p q) : EReal)
      = x5 (ix3 (0 : Fin 1) (row4 r p) (col40 k q)) * x6 (ix3 (0 : Fin 1) k (row4 r p)) * x4 (ix3 (0 : Fin 1) (row4 r p) (col40 k q)) := by
  have e1 : (pairOf (swOf x3 x8 x6) x5 x4 k r).1 (ix2 p q) = (x5 (ix3 (0 : Fin 1) (row4 r p) (col40 k q)) * x6 (ix3 (0 : Fin 1) k (row4 r p)) : EReal) := by
    show yBlk _ _ _ _ _ = _
    rw [yBlk_at, blk3_at, sw_y]
  have e2 : (pairOf (swOf x3 x8 x6) x5 x4 k r).2 (ix2 p q) = (x4 (ix3 (0 : Fin 1) (row4 r p) (col40 k q)) : EReal) := by
    rw [← blk3_at x4 r k p q]
    pointwise [pairOf]
  rw [e1, e2]

/-- A column block's share at a column: the sum over the block's tokens. -/
theorem gateBlk_at (x5 : Vec Ideal S1x128x5120 .fp8e5m2) (x4 : Vec Ideal S1x128x5120 .bf16) (k : Fin 40) (q : Fin 128) :
    gateBlk (swOf x3 x8 x6) x5 x4 k (ix2 (0 : Fin 1) q)
      = ∑ τ : Fin 128, (x5 (ix3 (0 : Fin 1) τ (col40 k q)) * x6 (ix3 (0 : Fin 1) k τ) * x4 (ix3 (0 : Fin 1) τ (col40 k q)) : EReal) := by
  unfold gateBlk
  rw [gate_at, sum128]
  simp only [pair_at]

/-- The row `dscale`. -/
def sum1 (x2 : Vec Ideal S1x128x5120 .fp8e4m3) (x3 : Vec Ideal S1x40x128 .f32) (x7 : Vec Ideal S1x128x5120 .fp8e5m2) (x8 : Vec Ideal S1x40x128 .f32)
    (x10 : Vec Ideal S32x128 .bf16) (j : Fin 5120) : EReal :=
  row1 (fun τ => off (xv x2 x3 τ) (ov x10 τ)) (fun τ => rstd (xv x2 x3 τ) (ov x10 τ)) (fun τ => hv x7 x8 τ j) (fun τ => xv x2 x3 τ j * hv x7 x8 τ j)

/-- A token's sum of `dh` times `1 + mod_scale`, -/
def dot1 (x7 : Vec Ideal S1x128x5120 .fp8e5m2) (x8 : Vec Ideal S1x40x128 .f32) (d19 : Vec Ideal S2x16x5120 .bf16) (b : Fin 2) (τ : Fin 128) : EReal :=
  dotR (fun j => hv x7 x8 τ j) d19 b
/-- and that of `x · dh`. -/
def dot2 (x2 : Vec Ideal S1x128x5120 .fp8e4m3) (x3 : Vec Ideal S1x40x128 .f32) (x7 : Vec Ideal S1x128x5120 .fp8e5m2) (x8 : Vec Ideal S1x40x128 .f32)
    (d19 : Vec Ideal S2x16x5120 .bf16) (b : Fin 2) (τ : Fin 128) : EReal :=
  dotR (fun j => xv x2 x3 τ j * hv x7 x8 τ j) d19 b

/-- The middle's columns at a token and its rows at a column. -/
structure Outcome (b : Fin 2) (x2 : Vec Ideal S1x128x5120 .fp8e4m3) (x3 : Vec Ideal S1x40x128 .f32) (x4 : Vec Ideal S1x128x5120 .bf16) (x5 : Vec Ideal S1x128x5120 .fp8e5m2)
    (x6 : Vec Ideal S1x40x128 .f32) (x7 : Vec Ideal S1x128x5120 .fp8e5m2) (x8 : Vec Ideal S1x40x128 .f32) (x10 : Vec Ideal S32x128 .bf16)
    (d19 : Vec Ideal S2x16x5120 .bf16) (r : MidOut Ideal) : Prop where
  rs : ∀ τ : Fin 128, r.1 (ix2 τ (0 : Fin 1)) = rstd (xv x2 x3 τ) (ov x10 τ)
  a : ∀ τ : Fin 128, r.2.1 (ix2 τ (0 : Fin 1))
    = fac (mean (xv x2 x3 τ) (ov x10 τ)) (rstd (xv x2 x3 τ) (ov x10 τ)) (dot1 x7 x8 d19 b τ) (dot2 x2 x3 x7 x8 d19 b τ)
  c : ∀ τ : Fin 128, r.2.2.1 (ix2 τ (0 : Fin 1))
    = cst (mean (xv x2 x3 τ) (ov x10 τ)) (rstd (xv x2 x3 τ) (ov x10 τ)) (dot1 x7 x8 d19 b τ) (dot2 x2 x3 x7 x8 d19 b τ)
  o0 : ∀ j : Fin 5120, r.2.2.2.1 (ix2 (0 : Fin 1) j) = ∑ τ : Fin 128, hv x7 x8 τ j
  o1 : ∀ j : Fin 5120, r.2.2.2.2.1 (ix2 (0 : Fin 1) j) = sum1 x2 x3 x7 x8 x10 j
  o2 : ∀ j : Fin 5120, r.2.2.2.2.2 (ix2 (0 : Fin 1) j) = ∑ τ : Fin 128, (hv x5 x6 τ j * x4 (ix3 (0 : Fin 1) τ j) : EReal)

theorem oneOf_eq (x10 : Vec Ideal S32x128 .bf16) : oneOf x10 = x10 := by
  unfold oneOf
  rw [shapeCast_self]
  funext x
  refine congrArg x10 (funext fun a => Fin.ext ?_)
  match a with
  | ⟨0, _⟩ => show 0 + 1 * (x 0).val = (x 0).val; omega
  | ⟨1, _⟩ => show 0 + 1 * (x 1).val = (x 1).val; omega

theorem Mids.at {i : grid0.Coords} {b : Fin 2} (hb : (i 1).val = b.val) {x2 : Vec Ideal S1x128x5120 .fp8e4m3} {x10 : Vec Ideal S32x128 .bf16} {d19 : Vec Ideal S2x16x5120 .bf16}
    {r : MidOut Ideal} (h : Mids i (swOf x3 x8 x6) (oneOf x10) x2 x7 x5 x4 d19 r) : Outcome b x2 x3 x4 x5 x6 x7 x8 x10 d19 r := by
  obtain ⟨d15, d16, d20, dg, h15, h16, h20, hdg, rfl⟩ := h
  rw [oneOf_eq] at h20
  have a15 : ∀ τ j, whole d15 (ix2 τ j) = hv x7 x8 τ j := fun τ j => (whole_at d15 τ j).trans (h15.at (hAll_at x3 x8 x6 x7) τ j)
  have a16 : ∀ τ j, whole d16 (ix2 τ j) = xv x2 x3 τ j * hv x7 x8 τ j := fun τ j => (whole_at d16 τ j).trans (h16.at (g := fun τ j => xv x2 x3 τ j * hv x7 x8 τ j) (pAll_at x3 x8 x6 x7 x2) τ j)
  have am := mean_at x3 x8 x6 h20
  have ar := rstd_at x3 x8 x6 h20
  have a1 : ∀ τ, dotOf (whole d15) (slab i d19) (ix2 τ (0 : Fin 1)) = dot1 x7 x8 d19 b τ := fun τ => by
    rw [dotOf_at hb]
    simp only [a15]
    rfl
  have a2 : ∀ τ, dotOf (whole d16) (slab i d19) (ix2 τ (0 : Fin 1)) = dot2 x2 x3 x7 x8 d19 b τ := fun τ => by
    rw [dotOf_at hb]
    simp only [a16]
    rfl
  constructor
  · intro τ
    rw [mid_rstd, ar]
  · intro τ
    rw [mid_a, aOf_at, am, ar, a1, a2]
  · intro τ
    rw [mid_cst, cstOf_at, am, ar, a1, a2]
  · intro j
    rw [mid_o0]
    exact Finset.sum_congr rfl fun τ _ => a15 τ j
  · intro j
    rw [mid_one, rowOne_at]
    simp only [am, ar, a15, a16]
    rfl
  · intro j
    rw [mid_o2, hdg (Sums.grp j), gateBlk_at, ← at_col]
    rfl

/-! ## The last loop's block -/

/-- An element of `dx`. -/
def dxv (b : Fin 2) (x2 : Vec Ideal S1x128x5120 .fp8e4m3) (x3 : Vec Ideal S1x40x128 .f32) (x5 : Vec Ideal S1x128x5120 .fp8e5m2) (x6 : Vec Ideal S1x40x128 .f32)
    (x7 : Vec Ideal S1x128x5120 .fp8e5m2) (x8 : Vec Ideal S1x40x128 .f32) (x10 : Vec Ideal S32x128 .bf16) (d18 : Vec Ideal S2x8x5120 .f32)
    (d19 : Vec Ideal S2x16x5120 .bf16) (τ : Fin 128) (j : Fin 5120) : EReal :=
  hv x5 x6 τ j + cst (mean (xv x2 x3 τ) (ov x10 τ)) (rstd (xv x2 x3 τ) (ov x10 τ)) (dot1 x7 x8 d19 b τ) (dot2 x2 x3 x7 x8 d19 b τ)
    + rstd (xv x2 x3 τ) (ov x10 τ) * (hv x7 x8 τ j * d18 (ix3 b (⟨τ.val % 8, by omega⟩ : Fin 8) j))
    - fac (mean (xv x2 x3 τ) (ov x10 τ)) (rstd (xv x2 x3 τ) (ov x10 τ)) (dot1 x7 x8 d19 b τ) (dot2 x2 x3 x7 x8 d19 b τ) * xv x2 x3 τ j

theorem mRow_at {i : grid0.Coords} {b : Fin 2} (hb : (i 1).val = b.val) (d18 : Vec Ideal S2x8x5120 .f32) (k : Fin 40) (u : Fin 8) (q : Fin 128) :
    mRow i d18 k (ix2 u q) = d18 (ix3 b u (col40 k q)) := by
  have e : (Scalar.indexCast (BitVec.ofNat 32 (i 1).val)).toNat = b.val := by
    have h : ∀ b : Fin 2, (Scalar.indexCast (BitVec.ofNat 32 b.val)).toNat = b.val := by decide
    rw [hb]
    exact h b
  unfold mRow
  pointwise
  refine congrArg d18 (funext fun a => Fin.ext ?_)
  match a with
  | ⟨0, _⟩ => show (Scalar.indexCast (BitVec.ofNat 32 (i 1).val)).toNat + 1 * 0 = b.val; rw [e]; omega
  | ⟨1, _⟩ => show 0 + 1 * u.val = u.val; omega
  | ⟨2, _⟩ => show 128 * k.val + 1 * q.val = 128 * k.val + q.val; omega

theorem outBlk_at {i : grid0.Coords} {b : Fin 2} (hb : (i 1).val = b.val) (d18 : Vec Ideal S2x8x5120 .f32) (rs a c : FVec Ideal S128x1 .f32)
    (fx fh fy : Fin 4 → Fin 40 → FVec Ideal S32x128 .bf16) (r : Fin 4) (k : Fin 40) (p : Fin 32) (q : Fin 128) :
    outBlk i d18 rs a c fx fh fy r k (ix2 p q)
      = (fy r k (ix2 p q) + c (ix2 (row4 r p) (0 : Fin 1)) + rs (ix2 (row4 r p) (0 : Fin 1)) * (fh r k (ix2 p q) * d18 (ix3 b (⟨p.val % 8, by omega⟩ : Fin 8) (col40 k q)))
        - a (ix2 (row4 r p) (0 : Fin 1)) * fx r k (ix2 p q) : EReal) := by
  have key : ∀ (n : ℕ) (h : n < 8), p.val % 8 = n → d18 (ix3 b (⟨n, h⟩ : Fin 8) (col40 k q)) = d18 (ix3 b (⟨p.val % 8, by omega⟩ : Fin 8) (col40 k q)) :=
    fun n h e => by subst e; rfl
  unfold outBlk
  pointwise [spreadR]
  simp only [mRow_at hb]
  refine congrArg₂ (· - ·) (congrArg₂ (· + ·) rfl (congrArg₂ (· * ·) rfl (congrArg₂ (· * ·) rfl ?_))) rfl
  split_ifs
  all_goals exact key _ _ (by omega)

theorem emb_rect3 (r : Fin 4) (k : Fin 40) (p : Fin 32) (q : Fin 128) : (rect3 r k).emb (ix3 (0 : Fin 1) p q) = ix3 (0 : Fin 1) (row4 r p) (col40 k q) := by
  funext a
  apply Fin.ext
  match a with
  | ⟨0, _⟩ => rfl
  | ⟨1, _⟩ => show 32 * r.val + 1 * p.val = 32 * r.val + p.val; omega
  | ⟨2, _⟩ => show 128 * k.val + 1 * q.val = 128 * k.val + q.val; omega

/-- The first result's block, as the last loop leaves it. -/
theorem Outcome.dx {i : grid0.Coords} {b : Fin 2} (hb : (i 1).val = b.val) {x2 : Vec Ideal S1x128x5120 .fp8e4m3} {x10 : Vec Ideal S32x128 .bf16}
    {d18 : Vec Ideal S2x8x5120 .f32} {d19 : Vec Ideal S2x16x5120 .bf16} {r : MidOut Ideal} (h : Outcome b x2 x3 x4 x5 x6 x7 x8 x10 d19 r)
    {d : Vec Ideal S1x128x5120 .bf16}
    (hd : Filled3 (outBlk i d18 r.1 r.2.1 r.2.2.1 (xAll (swOf x3 x8 x6) x2) (hAll (swOf x3 x8 x6) x7) (yAll (swOf x3 x8 x6) x5)) 160 d)
    (τ : Fin 128) (j : Fin 5120) : d (ix3 (0 : Fin 1) τ j) = dxv b x2 x3 x5 x6 x7 x8 x10 d18 d19 τ j := by
  have e := hd ⟨τ.val / 32, by omega⟩ (Sums.grp j)
    (by have := (Sums.grp j).isLt; show 40 * (τ.val / 32) + (Sums.grp j).val < 160; omega) (ix3 (0 : Fin 1) (⟨τ.val % 32, by omega⟩ : Fin 32) (⟨j.val % 128, by omega⟩ : Fin 128))
  rw [emb_rect3, ← at_row, ← at_col] at e
  rw [e]
  pointwise
  rw [outBlk_at hb, yAll_at, hAll_at, xAll_at, ← at_row, ← at_col, h.rs, h.a, h.c]
  unfold dxv
  refine congrArg₂ (· - ·) (congrArg₂ (· + ·) rfl (congrArg₂ (· * ·) rfl (congrArg₂ (· * ·) rfl ?_))) rfl
  refine congrArg (fun u => d18 (ix3 b u j)) (Fin.ext ?_)
  show τ.val % 32 % 8 = τ.val % 8
  omega

end Cert.KernelIdeal.Roll

end
-- ==== Proof.KerPut.lean ====
/- What the stores of the rows of results leave, index by index. -/
module

public import proofs.«01_k».proof.Proof.KerVal
public import proofs.«01_k».proof.Proof.Gen.KernelIdeal
public import Idealize.ShloMosaic.Lib.Writes

@[expose] public section

noncomputable section

namespace Cert.KernelIdeal.Roll

open Idealize.ShloMosaic Idealize.ShloMosaic.TcCoe

variable [Facts]

open Shapes1.Facts₀ Shapes2.Facts₀ K0.Facts₀

/-- A row stored into a block of the blocks' sums: that row at that batch is it, the others stay. -/
theorem put4 (k : Fin 3) (b : Fin 2) (off : Fin 4 → ℕ) (inb) (e : off = ![0, k.val, b.val, 0]) (o : FVec Ideal S1x5120 .f32) (hc)
    (d d' : Vec Ideal S1x3x2x5120 .f32)
    (h : Put (Rect.unit (s := S1x3x2x5120) off S1x1x1x5120.size inb) (shapeCast S1x1x1x5120 o hc) d d') :
    (∀ j : Fin 5120, d' (ix4 (0 : Fin 1) k b j) = o (ix2 (0 : Fin 1) j))
    ∧ ∀ (k' : Fin 3) (b' : Fin 2) (j : Fin 5120), k' ≠ k ∨ b' ≠ b → d' (ix4 (0 : Fin 1) k' b' j) = d (ix4 (0 : Fin 1) k' b' j) := by
  subst e
  constructor
  · intro j
    have e := h.1 (ix4 (0 : Fin 1) (0 : Fin 1) (0 : Fin 1) j)
    rw [Rect.emb_eq_of_coords _ _ (ix4 (0 : Fin 1) k b j) (fun a => by
      match a with
      | ⟨0, _⟩ => rfl
      | ⟨1, _⟩ => rfl
      | ⟨2, _⟩ => rfl
      | ⟨3, _⟩ => show j.val = 0 + 1 * j.val; omega)] at e
    rw [e]
    pointwise
  · intro k' b' j hne
    refine h.2 _ ?_
    rcases hne with hne | hne
    · refine Rect.not_mem_set_of_axis _ _ 1 k.val 1 rfl rfl rfl ?_
      have : k'.val ≠ k.val := fun e => hne (Fin.ext e)
      show k'.val < k.val ∨ k.val + 1 ≤ k'.val
      omega
    · refine Rect.not_mem_set_of_axis _ _ 2 b.val 1 rfl rfl rfl ?_
      have : b'.val ≠ b.val := fun e => hne (Fin.ext e)
      show b'.val < b.val ∨ b.val + 1 ≤ b'.val
      omega

/-- A row stored into the sums over the blocks. -/
theorem put3 (k : Fin 3) (b : Fin 2) (off : Fin 3 → ℕ) (inb) (e : off = ![k.val, b.val, 0]) (o : FVec Ideal S1x5120 .f32) (hc)
    (d d' : Vec Ideal S3x2x5120 .f32)
    (h : Put (Rect.unit (s := S3x2x5120) off S1x1x5120.size inb) (shapeCast S1x1x5120 o hc) d d') :
    (∀ j : Fin 5120, d' (ix3 k b j) = o (ix2 (0 : Fin 1) j))
    ∧ ∀ (k' : Fin 3) (b' : Fin 2) (j : Fin 5120), k' ≠ k ∨ b' ≠ b → d' (ix3 k' b' j) = d (ix3 k' b' j) := by
  subst e
  constructor
  · intro j
    have e := h.1 (ix3 (0 : Fin 1) (0 : Fin 1) j)
    rw [Rect.emb_eq_of_coords _ _ (ix3 k b j) (fun a => by
      match a with
      | ⟨0, _⟩ => rfl
      | ⟨1, _⟩ => rfl
      | ⟨2, _⟩ => show j.val = 0 + 1 * j.val; omega)] at e
    rw [e]
    pointwise
  · intro k' b' j hne
    refine h.2 _ ?_
    rcases hne with hne | hne
    · refine Rect.not_mem_set_of_axis _ _ 0 k.val 1 rfl rfl rfl ?_
      have : k'.val ≠ k.val := fun e => hne (Fin.ext e)
      show k'.val < k.val ∨ k.val + 1 ≤ k'.val
      omega
    · refine Rect.not_mem_set_of_axis _ _ 1 b.val 1 rfl rfl rfl ?_
      have : b'.val ≠ b.val := fun e => hne (Fin.ext e)
      show b'.val < b.val ∨ b.val + 1 ≤ b'.val
      omega

/-- A row of the sums over the blocks, read. -/
theorem row3_at (k : Fin 3) (b : Fin 2) (off : Fin 3 → ℕ) (inb) (e : off = ![k.val, b.val, 0]) (hc) (d : Vec Ideal S3x2x5120 .f32) (o : FVec Ideal S1x5120 .f32)
    (j : Fin 5120) :
    addf (shapeCast S1x5120 (fun x => d ((Rect.unit (s := S3x2x5120) off S1x1x5120.size inb).emb x) : Vec Ideal S1x1x5120 .f32) hc) o (ix2 (0 : Fin 1) j)
      = (d (ix3 k b j) + o (ix2 (0 : Fin 1) j) : EReal) := by
  subst e
  pointwise
  rw [Rect.emb_eq_of_coords _ _ (ix3 k b j) (fun a => by
    match a with
    | ⟨0, _⟩ => rfl
    | ⟨1, _⟩ => rfl
    | ⟨2, _⟩ => show j.val = 0 + 1 * j.val; omega)]

/-- The rows of a block's own result at batch `b` become `v0`, `v1` and `v2`; those of the other batch stay. -/
def Row4 (b : Fin 2) (v0 v1 v2 : Fin 5120 → EReal) (d d' : Vec Ideal S1x3x2x5120 .f32) : Prop :=
  (∀ j : Fin 5120, d' (ix4 (0 : Fin 1) (0 : Fin 3) b j) = v0 j ∧ d' (ix4 (0 : Fin 1) (1 : Fin 3) b j) = v1 j ∧ d' (ix4 (0 : Fin 1) (2 : Fin 3) b j) = v2 j)
  ∧ ∀ b' : Fin 2, b' ≠ b → ∀ (k : Fin 3) (j : Fin 5120), d' (ix4 (0 : Fin 1) k b' j) = d (ix4 (0 : Fin 1) k b' j)

/-- The rows of the sums over the blocks at batch `b` become `v0`, `v1` and `v2` of what they were. -/
def Row3 (b : Fin 2) (v0 v1 v2 : EReal → Fin 5120 → EReal) (d d' : Vec Ideal S3x2x5120 .f32) : Prop :=
  (∀ j : Fin 5120, d' (ix3 (0 : Fin 3) b j) = v0 (d (ix3 (0 : Fin 3) b j)) j ∧ d' (ix3 (1 : Fin 3) b j) = v1 (d (ix3 (1 : Fin 3) b j)) j ∧ d' (ix3 (2 : Fin 3) b j) = v2 (d (ix3 (2 : Fin 3) b j)) j)
  ∧ ∀ b' : Fin 2, b' ≠ b → ∀ (k : Fin 3) (j : Fin 5120), d' (ix3 k b' j) = d (ix3 k b' j)

theorem Put13.row {i : grid0.Coords} {b : Fin 2} (hb : (i 1).val = b.val) {o0 o1 o2 : FVec Ideal S1x5120 .f32} {d d' : Vec Ideal S1x3x2x5120 .f32}
    (h : Put13 i o0 o1 o2 d d') : Row4 b (fun j => o0 (ix2 (0 : Fin 1) j)) (fun j => o1 (ix2 (0 : Fin 1) j)) (fun j => o2 (ix2 (0 : Fin 1) j)) d d' := by
  obtain ⟨d1, d2, h0, h1, h2⟩ := h
  have p0 := put4 0 b _ _ ((Gen.k0_off2_eq i).trans (by rw [hb]; rfl)) _ _ _ _ h0
  have p1 := put4 1 b _ _ ((Gen.k0_off3_eq i).trans (by rw [hb]; rfl)) _ _ _ _ h1
  have p2 := put4 2 b _ _ ((Gen.k0_off4_eq i).trans (by rw [hb]; rfl)) _ _ _ _ h2
  refine ⟨fun j => ⟨?_, ?_, p2.1 j⟩, fun b' hne k j => ?_⟩
  · rw [p2.2 0 b j (.inl (by decide)), p1.2 0 b j (.inl (by decide)), p0.1]
  · rw [p2.2 1 b j (.inl (by decide)), p1.1]
  · rw [p2.2 k b' j (.inr hne), p1.2 k b' j (.inr hne), p0.2 k b' j (.inr hne)]

theorem Put12.row {i : grid0.Coords} {b : Fin 2} (hb : (i 1).val = b.val) {hc : k0_cond2 i = 1#1} {o0 o1 o2 : FVec Ideal S1x5120 .f32} {d d' : Vec Ideal S3x2x5120 .f32}
    (h : Put12 i hc o0 o1 o2 d d') : Row3 b (fun _ j => o0 (ix2 (0 : Fin 1) j)) (fun _ j => o1 (ix2 (0 : Fin 1) j)) (fun _ j => o2 (ix2 (0 : Fin 1) j)) d d' := by
  obtain ⟨d1, d2, h0, h1, h2⟩ := h
  have p0 := put3 0 b _ _ ((Gen.k0_off5_eq i).trans (by rw [hb]; rfl)) _ _ _ _ h0
  have p1 := put3 1 b _ _ ((Gen.k0_off6_eq i).trans (by rw [hb]; rfl)) _ _ _ _ h1
  have p2 := put3 2 b _ _ ((Gen.k0_off7_eq i).trans (by rw [hb]; rfl)) _ _ _ _ h2
  refine ⟨fun j => ⟨?_, ?_, p2.1 j⟩, fun b' hne k j => ?_⟩
  · rw [p2.2 0 b j (.inl (by decide)), p1.2 0 b j (.inl (by decide)), p0.1]
  · rw [p2.2 1 b j (.inl (by decide)), p1.1]
  · rw [p2.2 k b' j (.inr hne), p1.2 k b' j (.inr hne), p0.2 k b' j (.inr hne)]

theorem Add12.row {i : grid0.Coords} {b : Fin 2} (hb : (i 1).val = b.val) {hc : k0_cond3 i = 1#1} {o0 o1 o2 : FVec Ideal S1x5120 .f32} {d d' : Vec Ideal S3x2x5120 .f32}
    (h : Add12 i hc o0 o1 o2 d d') : Row3 b (fun a j => a + o0 (ix2 (0 : Fin 1) j)) (fun a j => a + o1 (ix2 (0 : Fin 1) j)) (fun a j => a + o2 (ix2 (0 : Fin 1) j)) d d' := by
  obtain ⟨d1, d2, h0, h1, h2⟩ := h
  have p0 := put3 0 b _ _ ((Gen.k0_off8_eq i).trans (by rw [hb]; rfl)) _ _ _ _ h0
  have p1 := put3 1 b _ _ ((Gen.k0_off9_eq i).trans (by rw [hb]; rfl)) _ _ _ _ h1
  have p2 := put3 2 b _ _ ((Gen.k0_off10_eq i).trans (by rw [hb]; rfl)) _ _ _ _ h2
  refine ⟨fun j => ⟨?_, ?_, ?_⟩, fun b' hne k j => ?_⟩
  · rw [p2.2 0 b j (.inl (by decide)), p1.2 0 b j (.inl (by decide)), p0.1]
    exact row3_at 0 b _ _ ((Gen.k0_off8_eq i).trans (by rw [hb]; rfl)) _ _ _ j
  · rw [p2.2 1 b j (.inl (by decide)), p1.1]
    refine (row3_at 1 b _ _ ((Gen.k0_off9_eq i).trans (by rw [hb]; rfl)) _ _ _ j).trans ?_
    rw [p0.2 1 b j (.inl (by decide))]
  · rw [p2.1]
    refine (row3_at 2 b _ _ ((Gen.k0_off10_eq i).trans (by rw [hb]; rfl)) _ _ _ j).trans ?_
    rw [p1.2 2 b j (.inl (by decide)), p0.2 2 b j (.inl (by decide))]
  · rw [p2.2 k b' j (.inr hne), p1.2 k b' j (.inr hne), p0.2 k b' j (.inr hne)]

end Cert.KernelIdeal.Roll

end
-- ==== Proof.BodyEq.lean ====
/- The printed body is the rolled body, in each of the three ways its conditionals can fall out. -/
module

public import proofs.«01_k».proof.Proof.Roll
public import Idealize.ShloMosaic.Lib.Tactic

@[expose] public section

namespace Cert.KernelIdeal.Roll

open Idealize.ShloMosaic Idealize.SL.Sem Idealize.ShloMosaic.Tactic

variable {F : FTy → Type} [FloatOps F] [Named F] [Facts]

/-- The first conditional's condition. -/
abbrev cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-- The first point. -/
theorem body_A (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (h1 : cond1 i = 1#1) (h2 : k0_cond2 i = 1#1) (h3 : ¬ k0_cond3 i = 1#1) :
    cc0_adaln_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = ((prep arg9 harg9 arg18 harg18 arg19 harg19).bind fun _ => main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (setMod i h2 arg12)) := by
  unfold cc0_adaln_bwd k0_part302 k0_part305 k0_part2 k0_part215 k0_part216
  simp only [dif_pos h1, dif_pos h2, dif_neg h3]
  sl_kernel_rfl

/-- The other points of the first token block. -/
theorem body_B (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (h1 : ¬ cond1 i = 1#1) (h2 : k0_cond2 i = 1#1) (h3 : ¬ k0_cond3 i = 1#1) :
    cc0_adaln_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (setMod i h2 arg12)) := by
  unfold cc0_adaln_bwd k0_part302 k0_part305 k0_part2 k0_part215 k0_part216
  simp only [dif_neg h1, dif_pos h2, dif_neg h3]
  sl_kernel_rfl

/-- The points of the later token blocks. -/
theorem body_C (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (h1 : ¬ cond1 i = 1#1) (h2 : ¬ k0_cond2 i = 1#1) (h3 : k0_cond3 i = 1#1) :
    cc0_adaln_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = (main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (addMod i h3 arg12)) := by
  unfold cc0_adaln_bwd k0_part302 k0_part305 k0_part2 k0_part215 k0_part216
  simp only [dif_neg h1, dif_neg h2, dif_pos h3]
  sl_kernel_rfl

end Cert.KernelIdeal.Roll

end
-- ==== Proof.KerBody.lean ====
/- The body's run, its loops and straight-line pieces in a row. -/
module

public import proofs.«01_k».proof.Proof.KerPut
public import proofs.«01_k».proof.Proof.BodyEq

@[expose] public section

noncomputable section

namespace Cert.KernelIdeal.Roll

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable [Facts]

local notation "𝕄" => MT nD τ sig Unit (Elt Ideal) ℕ (UR sig nD τ) ℕ

variable (c : Dev nD) (E : Set ℕ)

/-- A block's first row of results at a column: the sum of `dh`, dequantized, over the block's tokens. -/
def sum0 (x7 : Vec Ideal S1x128x5120 .fp8e5m2) (x8 : Vec Ideal S1x40x128 .f32) (j : Fin 5120) : EReal := ∑ τ : Fin 128, hv x7 x8 τ j

/-- A block's last row of results at a column: the sum of `dy`, dequantized, times `f`. -/
def sum2 (x5 : Vec Ideal S1x128x5120 .fp8e5m2) (x6 : Vec Ideal S1x40x128 .f32) (x4 : Vec Ideal S1x128x5120 .bf16) (j : Fin 5120) : EReal :=
  ∑ τ : Fin 128, (hv x5 x6 τ j * x4 (ix3 (0 : Fin 1) τ j) : EReal)

/-- What a point leaves in the three results' buffers, of the inputs' blocks, of the two scratches filled by the first point, and of what two of the buffers held. -/
structure Leaves (b : Fin 2) (v : EReal → EReal → EReal) (x2 : Vec Ideal S1x128x5120 .fp8e4m3) (x3 : Vec Ideal S1x40x128 .f32) (x4 : Vec Ideal S1x128x5120 .bf16) (x5 : Vec Ideal S1x128x5120 .fp8e5m2)
    (x6 : Vec Ideal S1x40x128 .f32) (x7 : Vec Ideal S1x128x5120 .fp8e5m2) (x8 : Vec Ideal S1x40x128 .f32)
    (x10 : Vec Ideal S32x128 .bf16) (d18 : Vec Ideal S2x8x5120 .f32) (d19 : Vec Ideal S2x16x5120 .bf16) (d12 : Vec Ideal S3x2x5120 .f32)
    (d13 : Vec Ideal S1x3x2x5120 .f32) (d11' : Vec Ideal S1x128x5120 .bf16) (d12' : Vec Ideal S3x2x5120 .f32) (d13' : Vec Ideal S1x3x2x5120 .f32) : Prop where
  dx : ∀ (τ : Fin 128) (j : Fin 5120), d11' (ix3 (0 : Fin 1) τ j) = dxv b x2 x3 x5 x6 x7 x8 x10 d18 d19 τ j
  sums : Row3 b (fun a j => v a (sum0 x7 x8 j)) (fun a j => v a (sum1 x2 x3 x7 x8 x10 j)) (fun a j => v a (sum2 x5 x6 x4 j)) d12 d12'
  rows : Row4 b (sum0 x7 x8) (sum1 x2 x3 x7 x8 x10) (sum2 x5 x6 x4) d13 d13'

/-- What the body is run with: the inputs' blocks, the two small results' buffers at `d12` and `d13`, the large one's as `P11` says, the two scratches
    filled by the first point as `P` says, the other scratches at contents nothing says. -/
def Held (arg2 : Memref sig .tc .vmem S1x128x5120 .fp8e4m3) (arg3 : Memref sig .tc .vmem S1x40x128 .f32) (arg4 : Memref sig .tc .vmem S1x128x5120 .bf16)
    (arg5 : Memref sig .tc .vmem S1x128x5120 .fp8e5m2) (arg6 : Memref sig .tc .vmem S1x40x128 .f32) (arg7 : Memref sig .tc .vmem S1x128x5120 .fp8e5m2)
    (arg8 : Memref sig .tc .vmem S1x40x128 .f32) (arg9 : Memref sig .tc .vmem S2x5120 .f32) (arg10 : Memref sig .tc .vmem S32x128 .bf16)
    (arg12 : Memref sig .tc .vmem S3x2x5120 .f32) (arg13 : Memref sig .tc .vmem S1x3x2x5120 .f32)
    (arg14 arg15 arg16 arg17 : Memref sig .tc .vmem S128x5120 .bf16) (arg20 : Memref sig .tc .vmem S2x128x128 .f32)
    (x2 : Vec Ideal S1x128x5120 .fp8e4m3) (x3 : Vec Ideal S1x40x128 .f32) (x4 : Vec Ideal S1x128x5120 .bf16) (x5 : Vec Ideal S1x128x5120 .fp8e5m2)
    (x6 : Vec Ideal S1x40x128 .f32) (x7 : Vec Ideal S1x128x5120 .fp8e5m2) (x8 : Vec Ideal S1x40x128 .f32)
    (x9 : Vec Ideal S2x5120 .f32) (x10 : Vec Ideal S32x128 .bf16) (d12 : Vec Ideal S3x2x5120 .f32) (d13 : Vec Ideal S1x3x2x5120 .f32) (P11 P : sProp 𝕄) : sProp 𝕄 :=
  iprop(own c arg2 x2 ∗ own c arg3 x3 ∗ own c arg4 x4 ∗ own c arg5 x5 ∗ own c arg6 x6 ∗ own c arg7 x7 ∗ own c arg8 x8 ∗ own c arg9 x9 ∗ own c arg10 x10
    ∗ P11 ∗ own c arg12 d12 ∗ own c arg13 d13
    ∗ any (F := Ideal) c arg14 ∗ any (F := Ideal) c arg15 ∗ any (F := Ideal) c arg16 ∗ any (F := Ideal) c arg17 ∗ any (F := Ideal) c arg20 ∗ P)

/-- The body after the first conditional, for a `mod` that changes the sums over the blocks by `v`. -/
theorem main_spec (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (mod : FVec Ideal S1x5120 .f32 → FVec Ideal S1x5120 .f32 → FVec Ideal S1x5120 .f32 → Prog (Eff Ideal) PUnit)
    (x2 : Vec Ideal S1x128x5120 .fp8e4m3) (x3 : Vec Ideal S1x40x128 .f32) (x4 : Vec Ideal S1x128x5120 .bf16) (x5 : Vec Ideal S1x128x5120 .fp8e5m2)
    (x6 : Vec Ideal S1x40x128 .f32) (x7 : Vec Ideal S1x128x5120 .fp8e5m2) (x8 : Vec Ideal S1x40x128 .f32)
    (x9 : Vec Ideal S2x5120 .f32) (x10 : Vec Ideal S32x128 .bf16) (d12 : Vec Ideal S3x2x5120 .f32) (d13 : Vec Ideal S1x3x2x5120 .f32)
    (d18 : Vec Ideal S2x8x5120 .f32) (d19 : Vec Ideal S2x16x5120 .bf16) (b : Fin 2) (hb : (i 1).val = b.val) (v : EReal → EReal → EReal)
    (hmod : ∀ (o0 o1 o2 : FVec Ideal S1x5120 .f32) (d : Vec Ideal S3x2x5120 .f32) (K : PUnit → sProp 𝕄),
      iprop(own c arg12 d ∗ (∀ d', ⌜Row3 b (fun a j => v a (o0 (ix2 (0 : Fin 1) j))) (fun a j => v a (o1 (ix2 (0 : Fin 1) j))) (fun a j => v a (o2 (ix2 (0 : Fin 1) j))) d d'⌝
          -∗ own c arg12 d' -∗ K ⟨⟩))
        ⊢ run c E (mod o0 o1 o2) K)
    (K : PUnit → sProp 𝕄) :
    iprop(Held c arg2 arg3 arg4 arg5 arg6 arg7 arg8 arg9 arg10 arg12 arg13 arg14 arg15 arg16 arg17 arg20 x2 x3 x4 x5 x6 x7 x8 x9 x10 d12 d13 (any (F := Ideal) c arg11) iprop(own c arg18 d18 ∗ own c arg19 d19)
      ∗ (∀ u d11' d12' d13', ⌜Leaves b v x2 x3 x4 x5 x6 x7 x8 x10 d18 d19 d12 d13 d11' d12' d13'⌝ -∗
          Held c arg2 arg3 arg4 arg5 arg6 arg7 arg8 arg9 arg10 arg12 arg13 arg14 arg15 arg16 arg17 arg20 x2 x3 x4 x5 x6 x7 x8 x9 x10 d12' d13' (own c arg11 d11') iprop(own c arg18 d18 ∗ own c arg19 d19) -∗ K u))
      ⊢ run c E (main i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 mod) K := by
  unfold main Held
  simp only [run_seq]
  iintro ⟨⟨H2, H3, H4, H5, H6, H7, H8, H9, H10, ⟨%d11, H11⟩, H12, H13, ⟨%d14, H14⟩, ⟨%d15, H15⟩, ⟨%d16, H16⟩, ⟨%d17, H17⟩, ⟨%d20, H20⟩, H18, H19⟩, Hk⟩
  iapply (scales_spec c E arg3 arg8 arg6 arg10 x3 x8 x6 x10 _)
  isplitl [H3]; · iexact H3
  isplitl [H8]; · iexact H8
  isplitl [H6]; · iexact H6
  isplitl [H10]; · iexact H10
  iintro %p %hp ⟨H3, H8, H6, H10⟩
  rw [hp.1, hp.2]
  iapply (loop1_spec c E arg2 arg7 arg14 harg14 arg15 harg15 arg16 harg16 arg20 (swOf x3 x8 x6) (oneOf x10) x2 x7 _)
  unfold L1 L1s
  isplitl [H2 H7 H14 H15 H16 H20]
  · isplitr [H20]
    · isplitl [H2]; · iexact H2
      isplitl [H7]; · iexact H7
      isplitl [H14]
      · iexists d14
        isplitr
        · ipureintro
          exact fun r k h => absurd h (Nat.not_lt_zero _)
        · iexact H14
      isplitl [H15]
      · iexists d15
        isplitr
        · ipureintro
          exact fun r k h => absurd h (Nat.not_lt_zero _)
        · iexact H15
      iexists d16
      isplitr
      · ipureintro
        exact fun r k h => absurd h (Nat.not_lt_zero _)
      · iexact H16
    · iexists d20
      isplitr
      · ipureintro
        exact fun p r h => absurd h (Nat.not_lt_zero _)
      · iexact H20
  iintro %_ ⟨⟨H2, H7, ⟨%e14, %h14, H14⟩, ⟨%e15, %h15, H15⟩, ⟨%e16, %h16, H16⟩⟩, ⟨%e20, %h20, H20⟩⟩
  iapply (loop2_spec c E (swOf x3 x8 x6) arg5 arg4 arg17 harg17 x5 x4 _)
  unfold L2
  isplitl [H5 H4 H17]
  · isplitl [H5]; · iexact H5
    isplitl [H4]; · iexact H4
    iexists d17
    isplitr
    · ipureintro
      exact fun r k h => absurd h (Nat.not_lt_zero _)
    · iexact H17
  iintro %dg %hdg ⟨H5, H4, ⟨%e17, %h17, H17⟩⟩
  iapply (mid_spec c E i arg13 arg15 arg16 arg19 arg20 dg e15 e16 d19 e20 d13 _)
  isplitl [H13]; · iexact H13
  isplitl [H15]; · iexact H15
  isplitl [H16]; · iexact H16
  isplitl [H19]; · iexact H19
  isplitl [H20]; · iexact H20
  iintro %r %d13' %hr ⟨H13, H15, H16, H19, H20⟩
  obtain ⟨hm, hp13⟩ := hr
  have ho : Outcome b x2 x3 x4 x5 x6 x7 x8 x10 d19 r := Mids.at x3 x8 x6 x7 x5 x4 hb ⟨e15, e16, e20, dg, h15.full, h16.full, h20, hdg, hm⟩
  iapply (hmod r.2.2.2.1 r.2.2.2.2.1 r.2.2.2.2.2 d12 _)
  isplitl [H12]; · iexact H12
  iintro %d12' %h12 H12
  iapply (loop3_spec c E arg14 arg15 arg17 arg11 harg11 arg18 i r.1 r.2.1 r.2.2.1 e14 e15 e17 d18 (xAll (swOf x3 x8 x6) x2) (hAll (swOf x3 x8 x6) x7) (yAll (swOf x3 x8 x6) x5)
    h14.full h15.full h17.full2 _)
  unfold L3
  isplitl [H11 H14 H15 H17 H18]
  · isplitl [H11]
    · iexists d11
      isplitr
      · ipureintro
        exact fun r k h => absurd h (Nat.not_lt_zero _)
      · iexact H11
    isplitl [H14]; · iexact H14
    isplitl [H15]; · iexact H15
    isplitl [H17]; · iexact H17
    iexact H18
  iintro %u ⟨⟨%e11, %h11, H11⟩, H14, H15, H17, H18⟩
  iapply Hk $$ %u %e11 %d12' %d13'
  · ipureintro
    have e0 : (fun j => r.2.2.2.1 (ix2 (0 : Fin 1) j)) = sum0 x7 x8 := funext ho.o0
    have e1 : (fun j => r.2.2.2.2.1 (ix2 (0 : Fin 1) j)) = sum1 x2 x3 x7 x8 x10 := funext ho.o1
    have e2 : (fun j => r.2.2.2.2.2 (ix2 (0 : Fin 1) j)) = sum2 x5 x6 x4 := funext ho.o2
    have q13 : Row4 b (fun j => r.2.2.2.1 (ix2 (0 : Fin 1) j)) (fun j => r.2.2.2.2.1 (ix2 (0 : Fin 1) j)) (fun j => r.2.2.2.2.2 (ix2 (0 : Fin 1) j)) d13 d13' := hp13.row hb
    refine ⟨fun τ j => ho.dx x3 x8 x6 x7 x5 x4 hb h11 τ j, ?_, ?_⟩
    · rw [← e0, ← e1, ← e2]
      exact h12
    · rw [← e0, ← e1, ← e2]
      exact q13
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H20]; · iexists _; iexact H20
  isplitl [H18]; · iexact H18
  iexact H19

/-- The rows set, -/
theorem set_spec {i : grid0.Coords} (h2 : k0_cond2 i = 1#1) {b : Fin 2} (hb : (i 1).val = b.val) (arg12 : Memref sig .tc .vmem S3x2x5120 .f32)
    (o0 o1 o2 : FVec Ideal S1x5120 .f32) (d : Vec Ideal S3x2x5120 .f32) (K : PUnit → sProp 𝕄) :
    iprop(own c arg12 d ∗ (∀ d', ⌜Row3 b (fun _ j => o0 (ix2 (0 : Fin 1) j)) (fun _ j => o1 (ix2 (0 : Fin 1) j)) (fun _ j => o2 (ix2 (0 : Fin 1) j)) d d'⌝ -∗ own c arg12 d' -∗ K ⟨⟩))
      ⊢ run c E (setMod i h2 arg12 o0 o1 o2) K := by
  iintro ⟨H, Hk⟩
  iapply (setMod_spec c E i h2 arg12 o0 o1 o2 d _)
  isplitl [H]; · iexact H
  iintro %d' %h H
  iapply Hk $$ %_
  · ipureintro
    exact h.row hb
  iexact H

/-- and the rows added to. -/
theorem add_spec {i : grid0.Coords} (h3 : k0_cond3 i = 1#1) {b : Fin 2} (hb : (i 1).val = b.val) (arg12 : Memref sig .tc .vmem S3x2x5120 .f32)
    (o0 o1 o2 : FVec Ideal S1x5120 .f32) (d : Vec Ideal S3x2x5120 .f32) (K : PUnit → sProp 𝕄) :
    iprop(own c arg12 d ∗ (∀ d', ⌜Row3 b (fun a j => a + o0 (ix2 (0 : Fin 1) j)) (fun a j => a + o1 (ix2 (0 : Fin 1) j)) (fun a j => a + o2 (ix2 (0 : Fin 1) j)) d d'⌝ -∗ own c arg12 d' -∗ K ⟨⟩))
      ⊢ run c E (addMod i h3 arg12 o0 o1 o2) K := by
  iintro ⟨H, Hk⟩
  iapply (addMod_spec c E i h3 arg12 o0 o1 o2 d _)
  isplitl [H]; · iexact H
  iintro %d' %h H
  iapply Hk $$ %_
  · ipureintro
    exact h.row hb
  iexact H

/-- The first point. -/
theorem run_A (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (x2 : Vec Ideal S1x128x5120 .fp8e4m3) (x3 : Vec Ideal S1x40x128 .f32) (x4 : Vec Ideal S1x128x5120 .bf16) (x5 : Vec Ideal S1x128x5120 .fp8e5m2)
    (x6 : Vec Ideal S1x40x128 .f32) (x7 : Vec Ideal S1x128x5120 .fp8e5m2) (x8 : Vec Ideal S1x40x128 .f32)
    (x9 : Vec Ideal S2x5120 .f32) (x10 : Vec Ideal S32x128 .bf16) (d12 : Vec Ideal S3x2x5120 .f32) (d13 : Vec Ideal S1x3x2x5120 .f32)
    (d18 : Vec Ideal S2x8x5120 .f32) (d19 : Vec Ideal S2x16x5120 .bf16)
    (b : Fin 2) (hb : (i 1).val = b.val) (h1 : cond1 i = 1#1) (h2 : k0_cond2 i = 1#1) (h3 : ¬ k0_cond3 i = 1#1) (K : PUnit → sProp 𝕄) :
    iprop(Held c arg2 arg3 arg4 arg5 arg6 arg7 arg8 arg9 arg10 arg12 arg13 arg14 arg15 arg16 arg17 arg20 x2 x3 x4 x5 x6 x7 x8 x9 x10 d12 d13 (any (F := Ideal) c arg11) iprop(own c arg18 d18 ∗ own c arg19 d19)
      ∗ (∀ u d11' d12' d13' e18 e19, ⌜Prep x9 e18 e19 ∧ Leaves b (fun _ o => o) x2 x3 x4 x5 x6 x7 x8 x10 e18 e19 d12 d13 d11' d12' d13'⌝ -∗
          Held c arg2 arg3 arg4 arg5 arg6 arg7 arg8 arg9 arg10 arg12 arg13 arg14 arg15 arg16 arg17 arg20 x2 x3 x4 x5 x6 x7 x8 x9 x10 d12' d13' (own c arg11 d11') iprop(own c arg18 e18 ∗ own c arg19 e19) -∗ K u))
      ⊢ run c E (cc0_adaln_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_A i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3]
  unfold Held
  rw [run_bind]
  iintro ⟨⟨H2, H3, H4, H5, H6, H7, H8, H9, H10, H11, H12, H13, H14, H15, H16, H17, H20, H18, H19⟩, Hk⟩
  iapply (prep_spec c E arg9 harg9 arg18 harg18 arg19 harg19 x9 _)
  isplitl [H9]; · iexact H9
  isplitl [H18]; · iexists _; iexact H18
  isplitl [H19]; · iexists _; iexact H19
  iintro %e18 %e19 %hp ⟨H9, H18, H19⟩
  iapply (main_spec c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ x2 x3 x4 x5 x6 x7 x8 x9 x10 d12 d13 e18 e19 b hb (fun _ o => o) (set_spec c E h2 hb arg12) K)
  unfold Held
  isplitr [Hk]
  · isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H20]; · iexact H20
    isplitl [H18]; · iexact H18
    iexact H19
  iintro %u %d11' %d12' %d13' %hl H
  iapply Hk $$ %u %d11' %d12' %d13' %e18 %e19
  · ipureintro
    exact ⟨hp, hl⟩
  iexact H

/-- The other point of the first token block. -/
theorem run_B (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (x2 : Vec Ideal S1x128x5120 .fp8e4m3) (x3 : Vec Ideal S1x40x128 .f32) (x4 : Vec Ideal S1x128x5120 .bf16) (x5 : Vec Ideal S1x128x5120 .fp8e5m2)
    (x6 : Vec Ideal S1x40x128 .f32) (x7 : Vec Ideal S1x128x5120 .fp8e5m2) (x8 : Vec Ideal S1x40x128 .f32)
    (x9 : Vec Ideal S2x5120 .f32) (x10 : Vec Ideal S32x128 .bf16) (d12 : Vec Ideal S3x2x5120 .f32) (d13 : Vec Ideal S1x3x2x5120 .f32)
    (d18 : Vec Ideal S2x8x5120 .f32) (d19 : Vec Ideal S2x16x5120 .bf16)
    (b : Fin 2) (hb : (i 1).val = b.val) (h1 : ¬ cond1 i = 1#1) (h2 : k0_cond2 i = 1#1) (h3 : ¬ k0_cond3 i = 1#1) (K : PUnit → sProp 𝕄) :
    iprop(Held c arg2 arg3 arg4 arg5 arg6 arg7 arg8 arg9 arg10 arg12 arg13 arg14 arg15 arg16 arg17 arg20 x2 x3 x4 x5 x6 x7 x8 x9 x10 d12 d13 (any (F := Ideal) c arg11) iprop(own c arg18 d18 ∗ own c arg19 d19)
      ∗ (∀ u d11' d12' d13', ⌜Leaves b (fun _ o => o) x2 x3 x4 x5 x6 x7 x8 x10 d18 d19 d12 d13 d11' d12' d13'⌝ -∗
          Held c arg2 arg3 arg4 arg5 arg6 arg7 arg8 arg9 arg10 arg12 arg13 arg14 arg15 arg16 arg17 arg20 x2 x3 x4 x5 x6 x7 x8 x9 x10 d12' d13' (own c arg11 d11') iprop(own c arg18 d18 ∗ own c arg19 d19) -∗ K u))
      ⊢ run c E (cc0_adaln_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_B i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3]
  exact main_spec c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ x2 x3 x4 x5 x6 x7 x8 x9 x10 d12 d13 d18 d19 b hb (fun _ o => o) (set_spec c E h2 hb arg12) K

/-- The points of the later token blocks. -/
theorem run_C (i : grid0.Coords) (arg2 : Memref sig .tc .vmem S1x128x5120 .fp8e4m3) (harg2 : arg2.IsWhole)
    (arg3 : Memref sig .tc .vmem S1x40x128 .f32) (harg3 : arg3.IsWhole)
    (arg4 : Memref sig .tc .vmem S1x128x5120 .bf16) (harg4 : arg4.IsWhole)
    (arg5 : Memref sig .tc .vmem S1x128x5120 .fp8e5m2) (harg5 : arg5.IsWhole)
    (arg6 : Memref sig .tc .vmem S1x40x128 .f32) (harg6 : arg6.IsWhole)
    (arg7 : Memref sig .tc .vmem S1x128x5120 .fp8e5m2) (harg7 : arg7.IsWhole)
    (arg8 : Memref sig .tc .vmem S1x40x128 .f32) (harg8 : arg8.IsWhole)
    (arg9 : Memref sig .tc .vmem S2x5120 .f32) (harg9 : arg9.IsWhole)
    (arg10 : Memref sig .tc .vmem S32x128 .bf16) (harg10 : arg10.IsWhole)
    (arg11 : Memref sig .tc .vmem S1x128x5120 .bf16) (harg11 : arg11.IsWhole)
    (arg12 : Memref sig .tc .vmem S3x2x5120 .f32) (harg12 : arg12.IsWhole)
    (arg13 : Memref sig .tc .vmem S1x3x2x5120 .f32) (harg13 : arg13.IsWhole)
    (arg14 : Memref sig .tc .vmem S128x5120 .bf16) (harg14 : arg14.IsWhole)
    (arg15 : Memref sig .tc .vmem S128x5120 .bf16) (harg15 : arg15.IsWhole)
    (arg16 : Memref sig .tc .vmem S128x5120 .bf16) (harg16 : arg16.IsWhole)
    (arg17 : Memref sig .tc .vmem S128x5120 .bf16) (harg17 : arg17.IsWhole)
    (arg18 : Memref sig .tc .vmem S2x8x5120 .f32) (harg18 : arg18.IsWhole)
    (arg19 : Memref sig .tc .vmem S2x16x5120 .bf16) (harg19 : arg19.IsWhole)
    (arg20 : Memref sig .tc .vmem S2x128x128 .f32) (harg20 : arg20.IsWhole)
    (x2 : Vec Ideal S1x128x5120 .fp8e4m3) (x3 : Vec Ideal S1x40x128 .f32) (x4 : Vec Ideal S1x128x5120 .bf16) (x5 : Vec Ideal S1x128x5120 .fp8e5m2)
    (x6 : Vec Ideal S1x40x128 .f32) (x7 : Vec Ideal S1x128x5120 .fp8e5m2) (x8 : Vec Ideal S1x40x128 .f32)
    (x9 : Vec Ideal S2x5120 .f32) (x10 : Vec Ideal S32x128 .bf16) (d12 : Vec Ideal S3x2x5120 .f32) (d13 : Vec Ideal S1x3x2x5120 .f32)
    (d18 : Vec Ideal S2x8x5120 .f32) (d19 : Vec Ideal S2x16x5120 .bf16)
    (b : Fin 2) (hb : (i 1).val = b.val) (h1 : ¬ cond1 i = 1#1) (h2 : ¬ k0_cond2 i = 1#1) (h3 : k0_cond3 i = 1#1) (K : PUnit → sProp 𝕄) :
    iprop(Held c arg2 arg3 arg4 arg5 arg6 arg7 arg8 arg9 arg10 arg12 arg13 arg14 arg15 arg16 arg17 arg20 x2 x3 x4 x5 x6 x7 x8 x9 x10 d12 d13 (any (F := Ideal) c arg11) iprop(own c arg18 d18 ∗ own c arg19 d19)
      ∗ (∀ u d11' d12' d13', ⌜Leaves b (fun a o => a + o) x2 x3 x4 x5 x6 x7 x8 x10 d18 d19 d12 d13 d11' d12' d13'⌝ -∗
          Held c arg2 arg3 arg4 arg5 arg6 arg7 arg8 arg9 arg10 arg12 arg13 arg14 arg15 arg16 arg17 arg20 x2 x3 x4 x5 x6 x7 x8 x9 x10 d12' d13' (own c arg11 d11') iprop(own c arg18 d18 ∗ own c arg19 d19) -∗ K u))
      ⊢ run c E (cc0_adaln_bwd (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rw [body_C i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h1 h2 h3]
  exact main_spec c E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ x2 x3 x4 x5 x6 x7 x8 x9 x10 d12 d13 d18 d19 b hb (fun a o => a + o) (add_spec c E h3 hb arg12) K

end Cert.KernelIdeal.Roll

end
-- ==== Proof.KerRel.lean ====
/- What the two small results' buffers hold after each grid point, and that a point carries it on.

The grid's point `t` is token block `t / 2` of batch element `t % 2`. -/
module

public import proofs.«01_k».proof.Proof.KerPut

@[expose] public section

noncomputable section

namespace Cert.KernelIdeal.Roll

open Idealize.ShloMosaic

/-- The token blocks of batch element `b` that the points up to `t` have been through. -/
def upTo (t : ℕ) (b : Fin 2) : Finset (Fin 7) := Finset.univ.filter fun n => 2 * n.val + b.val ≤ t

theorem upTo_first (t : ℕ) (ht : t < 2) (b : Fin 2) (hb : b.val = t % 2) : upTo t b = {0} := by
  ext n
  simp only [upTo, Finset.mem_filter, Finset.mem_univ, true_and, Finset.mem_singleton, Fin.ext_iff]
  change _ ↔ n.val = 0
  omega

theorem upTo_step (t : ℕ) (ht : 2 ≤ t) (ht' : t < 14) (b : Fin 2) (hb : b.val = t % 2) :
    upTo t b = insert (⟨t / 2, by omega⟩ : Fin 7) (upTo (t - 1) b) ∧ (⟨t / 2, by omega⟩ : Fin 7) ∉ upTo (t - 1) b := by
  constructor
  · ext n
    simp only [upTo, Finset.mem_filter, Finset.mem_univ, true_and, Finset.mem_insert, Fin.ext_iff]
    omega
  · simp only [upTo, Finset.mem_filter, Finset.mem_univ, true_and]
    omega

theorem upTo_other (t : ℕ) (ht : 0 < t) (b : Fin 2) (hb : b.val ≠ t % 2) : upTo t b = upTo (t - 1) b := by
  ext n
  simp only [upTo, Finset.mem_filter, Finset.mem_univ, true_and]
  omega

theorem upTo_last (b : Fin 2) : upTo 13 b = Finset.univ := by
  ext n
  simp only [upTo, Finset.mem_filter, Finset.mem_univ, true_and, iff_true]
  omega

variable (D0 D1 D2 : Fin 7 → Fin 2 → Fin 5120 → EReal)

/-- The sums over the blocks after point `t`: the rows of each batch element met so far hold the sums of `D0`, `D1` and `D2` over the blocks met so far. -/
def Rel10 (t : ℕ) (X : Vec Ideal S3x2x5120 .f32) : Prop :=
  ∀ b : Fin 2, b.val ≤ t → ∀ j : Fin 5120,
    X (ix3 (0 : Fin 3) b j) = ∑ n ∈ upTo t b, D0 n b j ∧ X (ix3 (1 : Fin 3) b j) = ∑ n ∈ upTo t b, D1 n b j ∧ X (ix3 (2 : Fin 3) b j) = ∑ n ∈ upTo t b, D2 n b j

/-- A block's own results after point `t`: the rows of each batch element met so far in this block hold `D0`, `D1` and `D2`. -/
def Rel11 (t : ℕ) (ht : t < 14) (X : Vec Ideal S1x3x2x5120 .f32) : Prop :=
  ∀ b : Fin 2, b.val ≤ t % 2 → ∀ j : Fin 5120,
    X (ix4 (0 : Fin 1) (0 : Fin 3) b j) = D0 ⟨t / 2, by omega⟩ b j ∧ X (ix4 (0 : Fin 1) (1 : Fin 3) b j) = D1 ⟨t / 2, by omega⟩ b j ∧ X (ix4 (0 : Fin 1) (2 : Fin 3) b j) = D2 ⟨t / 2, by omega⟩ b j

variable {D0 D1 D2}

theorem Rel10.first {t : ℕ} (ht : t < 2) {b : Fin 2} (hb : b.val = t % 2) {d d' : Vec Ideal S3x2x5120 .f32}
    (h : Row3 b (fun _ j => D0 ⟨t / 2, by omega⟩ b j) (fun _ j => D1 ⟨t / 2, by omega⟩ b j) (fun _ j => D2 ⟨t / 2, by omega⟩ b j) d d') (hd : 0 < t → Rel10 D0 D1 D2 (t - 1) d) : Rel10 D0 D1 D2 t d' := by
  intro b' hb' j
  have hn : (⟨t / 2, by omega⟩ : Fin 7) = 0 := Fin.ext (by change t / 2 = 0; omega)
  by_cases e : b' = b
  · subst e
    rw [upTo_first t ht b' hb, Finset.sum_singleton, Finset.sum_singleton, Finset.sum_singleton]
    have h' := h.1 j
    rw [hn] at h'
    exact h'
  · have e' : b'.val ≠ b.val := fun h => e (Fin.ext h)
    have ht0 : 0 < t := by omega
    rw [h.2 b' e 0 j, h.2 b' e 1 j, h.2 b' e 2 j, upTo_other t ht0 b' (by omega)]
    exact hd ht0 b' (by omega) j

theorem Rel10.next {t : ℕ} (ht : 2 ≤ t) (ht' : t < 14) {b : Fin 2} (hb : b.val = t % 2) {d d' : Vec Ideal S3x2x5120 .f32}
    (h : Row3 b (fun a j => a + D0 ⟨t / 2, by omega⟩ b j) (fun a j => a + D1 ⟨t / 2, by omega⟩ b j) (fun a j => a + D2 ⟨t / 2, by omega⟩ b j) d d') (hd : Rel10 D0 D1 D2 (t - 1) d) : Rel10 D0 D1 D2 t d' := by
  intro b' hb' j
  by_cases e : b' = b
  · subst e
    obtain ⟨e1, e2⟩ := upTo_step t ht ht' b' hb
    rw [e1, Finset.sum_insert e2, Finset.sum_insert e2, Finset.sum_insert e2, (h.1 j).1, (h.1 j).2.1, (h.1 j).2.2, (hd b' (by omega) j).1, (hd b' (by omega) j).2.1,
      (hd b' (by omega) j).2.2]
    exact ⟨add_comm _ _, add_comm _ _, add_comm _ _⟩
  · have e' : b'.val ≠ b.val := fun h => e (Fin.ext h)
    rw [h.2 b' e 0 j, h.2 b' e 1 j, h.2 b' e 2 j, upTo_other t (by omega) b' (by omega)]
    exact hd b' (by omega) j

theorem Rel11.next {t : ℕ} (ht : t < 14) {b : Fin 2} (hb : b.val = t % 2) {d d' : Vec Ideal S1x3x2x5120 .f32}
    (h : Row4 b (D0 ⟨t / 2, by omega⟩ b) (D1 ⟨t / 2, by omega⟩ b) (D2 ⟨t / 2, by omega⟩ b) d d') (hd : t % 2 = 1 → Rel11 D0 D1 D2 (t - 1) (by omega) d) : Rel11 D0 D1 D2 t ht d' := by
  intro b' hb' j
  by_cases e : b' = b
  · subst e
    exact h.1 j
  · have e' : b'.val ≠ b.val := fun h => e (Fin.ext h)
    have ht1 : t % 2 = 1 := by omega
    rw [h.2 b' e 0 j, h.2 b' e 1 j, h.2 b' e 2 j]
    have := hd ht1 b' (by omega) j
    have hn : (⟨(t - 1) / 2, by omega⟩ : Fin 7) = ⟨t / 2, by omega⟩ := Fin.ext (by change (t - 1) / 2 = t / 2; omega)
    rw [hn] at this
    exact this

end Cert.KernelIdeal.Roll

end
-- ==== Proof.KerFrame.lean ====
/- The launch: what every final state of the kernel holds, the results by what `Rl` says of them. -/
module

public import proofs.«01_k».proof.Proof.KerBody
public import proofs.«01_k».proof.Proof.KerRel
public import proofs.«01_k».proof.Proof.Gen.KernelIdeal.Frame
public import Idealize.ShloMosaic.Lib.Pipeline.DatRel
public import Idealize.ShloMosaic.Lib.WordCmp
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen Cert.KernelIdeal.Roll

local notation "𝕄" => MT nD τ sig Unit (Elt Ideal) ℕ (UR sig nD τ) ℕ

variable (m : (ℓ : Loc nD τ sig) → Buf (Elt Ideal) ℓ) (ρ : Dev nD → PrngReg)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 14 = 0 :=
  (fun t => by
    have ht : t.val < 14 := Nat.lt_of_lt_of_eq t.isLt N_0
    have e0 : (grid0.coords t 0).val = t.val / 2 % 7 := Pipeline.Grid.coords_val t 0 (by decide) rfl
    have e1 : (grid0.coords t 1).val = t.val / 1 % 2 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := k0_cond2 i = 1#1
/-- It holds at the points before point 2 — by arithmetic of the point. -/
theorem hcond0_1 : ∀ t : Fin cfg0.N, cond0_1 (grid0.coords t) ↔ t.val < 2 :=
  (fun t => by
    have ht : t.val < 14 := Nat.lt_of_lt_of_eq t.isLt N_0
    have e0 : (grid0.coords t 0).val = t.val / 2 % 7 := Pipeline.Grid.coords_val t 0 (by decide) rfl
    have e1 : (grid0.coords t 1).val = t.val / 1 % 2 := Pipeline.Grid.coords_val t 1 (by decide) rfl
    simp only [cond0_1, k0_cond2, e0, e1]
    word_cmp
   : ∀ t : Fin grid0.N, cond0_1 (grid0.coords t) ↔ t.val < 2)

/-- The condition of the body's `scf.if` 2 (`k0_h3`), from the grid coordinates (the skeleton's scalar
    chain substituted). -/
abbrev cond0_2 (i : grid0.Coords) : Prop := k0_cond3 i = 1#1
/-- It holds at the points from point 2 on — by arithmetic of the point. -/
theorem hcond0_2 : ∀ t : Fin cfg0.N, cond0_2 (grid0.coords t) ↔ 2 ≤ t.val :=
  (fun t => by
    have ht : t.val < 14 := Nat.lt_of_lt_of_eq t.isLt N_0
    have e0 : (grid0.coords t 0).val = t.val / 2 % 7 := Pipeline.Grid.coords_val t 0 (by decide) rfl
    have e1 : (grid0.coords t 1).val = t.val / 1 % 2 := Pipeline.Grid.coords_val t 1 (by decide) rfl
    simp only [cond0_2, k0_cond3, e0, e1]
    word_cmp
   : ∀ t : Fin grid0.N, cond0_2 (grid0.coords t) ↔ 2 ≤ t.val)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x128x5120 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x40x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128x5120 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x5120 .fp8e5m2 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x40x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x5120 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x40x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2x5120 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128x5120 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x2x5120 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x3x2x5120 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S128x5120 .bf16 := Memref.whole cc0_scratch0
abbrev scM0_1 : Memref sig .tc .vmem S128x5120 .bf16 := Memref.whole cc0_scratch1
abbrev scM0_2 : Memref sig .tc .vmem S128x5120 .bf16 := Memref.whole cc0_scratch2
abbrev scM0_3 : Memref sig .tc .vmem S128x5120 .bf16 := Memref.whole cc0_scratch3
abbrev scM0_4 : Memref sig .tc .vmem S2x8x5120 .f32 := Memref.whole cc0_scratch4
abbrev scM0_5 : Memref sig .tc .vmem S2x16x5120 .bf16 := Memref.whole cc0_scratch5
abbrev scM0_6 : Memref sig .tc .vmem S2x128x128 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

/-! ## The pipeline's proof data -/

/-- The grid's point for token block `n` of batch element `b`. -/
def pt (n : Fin 7) (b : Fin 2) : Fin cfg0.N := ⟨2 * n.val + b.val, lt_of_lt_of_eq (by omega) (show 14 = cfg0.N from N_0.symm)⟩

/-- What is held from point to point besides the windows, before point `n`: the scratches — two of them filled by the first point, and read by every point —
    and the generator register. -/
def Carried (c : Dev nD) (n : ℕ) : sProp 𝕄 :=
  iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)
    ∗ (∃ d18 d19, ⌜0 < n → Prep (F := Ideal) (iblk m c 7 (pt 0 0)) d18 d19⌝ ∗ owns (c : Thread nD τ) scM0_4 fullShare d18 ∗ owns (c : Thread nD τ) scM0_5 fullShare d19)
    ∗ (∃ d, owns (c : Thread nD τ) scM0_6 fullShare d)) ∗ (∃ r, prngReg c r))

/-- It is entered from the scratches at any contents -/
theorem carried_in (c : Dev nD) : (Pipeline.ΦA spec0 c : sProp 𝕄) ⊢ Carried m c 0 := by
  rw [PhiA0_eq]
  unfold Carried
  iintro ⟨⟨H0, H1, H2, H3, ⟨%d4, H4⟩, ⟨%d5, H5⟩, H6⟩, Hg⟩
  isplitr [Hg]
  · isplitl [H0]; · iexact H0
    isplitl [H1]; · iexact H1
    isplitl [H2]; · iexact H2
    isplitl [H3]; · iexact H3
    isplitl [H4 H5]
    · iexists d4, d5
      isplitr
      · ipureintro
        exact fun h => absurd h (Nat.lt_irrefl 0)
      isplitl [H4]; · iexact H4
      iexact H5
    iexact H6
  iexact Hg

/-- and left to them. -/
theorem carried_out (c : Dev nD) (n : ℕ) : Carried m c n ⊢ (Pipeline.ΦA spec0 c : sProp 𝕄) := by
  rw [PhiA0_eq]
  unfold Carried
  iintro ⟨⟨H0, H1, H2, H3, ⟨%d4, %d5, %_, H4, H5⟩, H6⟩, Hg⟩
  isplitr [Hg]
  · isplitl [H0]; · iexact H0
    isplitl [H1]; · iexact H1
    isplitl [H2]; · iexact H2
    isplitl [H3]; · iexact H3
    isplitl [H4]; · iexists _; iexact H4
    isplitl [H5]; · iexists _; iexact H5
    iexact H6
  iexact Hg

/-- The outputs: their contents are held to `Rl`, not named. -/
def marked : Fin 12 → Bool := fun w => w.val == 9 || w.val == 10 || w.val == 11

/-- The proof data of the one pipeline on core `c`: the arrays as the region finds them (`V`); after the body at
    point `t` each input's buffer at its block and the outputs at `Dat.unnamed` (what they hold is `Rl`'s to say); the invariant `Carried`;
    nothing owed; full shares. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
  Φ t := Carried m c t.val
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m c).A w = V m c (Pipeline.arrRef spec0 w) := by
  dsimp only [dats]

/-- What the body leaves, window by window (the proof data's `match` reduced by `dsimp`). -/
theorem after0_0 (c : Dev nD) (t : Fin cfg0.N) : (dats m c).after 0 t = iblk m c 0 t := by dsimp only [dats]
theorem after0_1 (c : Dev nD) (t : Fin cfg0.N) : (dats m c).after 1 t = iblk m c 1 t := by dsimp only [dats]
theorem after0_2 (c : Dev nD) (t : Fin cfg0.N) : (dats m c).after 2 t = iblk m c 2 t := by dsimp only [dats]
theorem after0_3 (c : Dev nD) (t : Fin cfg0.N) : (dats m c).after 3 t = iblk m c 3 t := by dsimp only [dats]
theorem after0_4 (c : Dev nD) (t : Fin cfg0.N) : (dats m c).after 4 t = iblk m c 4 t := by dsimp only [dats]
theorem after0_5 (c : Dev nD) (t : Fin cfg0.N) : (dats m c).after 5 t = iblk m c 5 t := by dsimp only [dats]
theorem after0_6 (c : Dev nD) (t : Fin cfg0.N) : (dats m c).after 6 t = iblk m c 6 t := by dsimp only [dats]
theorem after0_7 (c : Dev nD) (t : Fin cfg0.N) : (dats m c).after 7 t = iblk m c 7 t := by dsimp only [dats]
theorem after0_8 (c : Dev nD) (t : Fin cfg0.N) : (dats m c).after 8 t = iblk m c 8 t := by dsimp only [dats]

/-- Each input's current staging buffer holds its block at every point, fetched there or not (`beforeK_W_of`). -/
theorem before0_0 (c : Dev nD) (t : Fin cfg0.N) (d) : (dats m c).before 0 t d = iblk m c 0 t :=
  before0_0_of m (dats m c) (A_eq m c 0) (after0_0 m c) t d
theorem before0_1 (c : Dev nD) (t : Fin cfg0.N) (d) : (dats m c).before 1 t d = iblk m c 1 t :=
  before0_1_of m (dats m c) (A_eq m c 1) (after0_1 m c) t d
theorem before0_2 (c : Dev nD) (t : Fin cfg0.N) (d) : (dats m c).before 2 t d = iblk m c 2 t :=
  before0_2_of m (dats m c) (A_eq m c 2) (after0_2 m c) t d
theorem before0_3 (c : Dev nD) (t : Fin cfg0.N) (d) : (dats m c).before 3 t d = iblk m c 3 t :=
  before0_3_of m (dats m c) (A_eq m c 3) (after0_3 m c) t d
theorem before0_4 (c : Dev nD) (t : Fin cfg0.N) (d) : (dats m c).before 4 t d = iblk m c 4 t :=
  before0_4_of m (dats m c) (A_eq m c 4) (after0_4 m c) t d
theorem before0_5 (c : Dev nD) (t : Fin cfg0.N) (d) : (dats m c).before 5 t d = iblk m c 5 t :=
  before0_5_of m (dats m c) (A_eq m c 5) (after0_5 m c) t d
theorem before0_6 (c : Dev nD) (t : Fin cfg0.N) (d) : (dats m c).before 6 t d = iblk m c 6 t :=
  before0_6_of m (dats m c) (A_eq m c 6) (after0_6 m c) t d
theorem before0_7 (c : Dev nD) (t : Fin cfg0.N) (d) : (dats m c).before 7 t d = iblk m c 7 t :=
  before0_7_of m (dats m c) (A_eq m c 7) (after0_7 m c) t d
theorem before0_8 (c : Dev nD) (t : Fin cfg0.N) (d) : (dats m c).before 8 t d = iblk m c 8 t :=
  before0_8_of m (dats m c) (A_eq m c 8) (after0_8 m c) t d

/-- Row 0 of the results of block `n`, batch element `b`, from the blocks fetched there. -/
def D0 (c : Dev nD) (n : Fin 7) (b : Fin 2) (j : Fin 5120) : EReal := sum0 (iblk m c 5 (pt n b)) (iblk m c 6 (pt n b)) j

/-- Row 1. -/
def D1 (c : Dev nD) (n : Fin 7) (b : Fin 2) (j : Fin 5120) : EReal :=
  sum1 (iblk m c 0 (pt n b)) (iblk m c 1 (pt n b)) (iblk m c 5 (pt n b)) (iblk m c 6 (pt n b)) (iblk m c 8 (pt n b)) j

/-- Row 2. -/
def D2 (c : Dev nD) (n : Fin 7) (b : Fin 2) (j : Fin 5120) : EReal := sum2 (iblk m c 3 (pt n b)) (iblk m c 4 (pt n b)) (iblk m c 2 (pt n b)) j

theorem lt14 (t : Fin cfg0.N) : t.val < 14 := lt_of_lt_of_eq t.isLt (show cfg0.N = 14 from N_0)

/-- The batch element of point `t`. -/
def bat (t : Fin cfg0.N) : Fin 2 := ⟨t.val % 2, by omega⟩

/-- The large result's buffer after point `t`: the block's gradient, by what the first point left in the two scratches. -/
def Rel9 (c : Dev nD) (t : Fin cfg0.N) (X : Vec Ideal S1x128x5120 .bf16) : Prop :=
  ∃ d18 d19, Prep (F := Ideal) (iblk m c 7 (pt 0 0)) d18 d19 ∧ ∀ (τ : Fin 128) (j : Fin 5120),
    X (ix3 (0 : Fin 1) τ j) = dxv (bat t) (iblk m c 0 t) (iblk m c 1 t) (iblk m c 3 t) (iblk m c 4 t) (iblk m c 5 t) (iblk m c 6 t) (iblk m c 8 t) d18 d19 τ j

/-- What each output's buffer holds after point `t`. -/
def Rl (c : Dev nD) (w : Fin cfg0.W) (t : Fin cfg0.N) (X : (cfg0.win w).block.Idx → Elt Ideal (cfg0.win w).elt) : Prop :=
  match w, X with
  | ⟨9, _⟩, X => Rel9 m c t X
  | ⟨10, _⟩, X => Rel10 (D0 m c) (D1 m c) (D2 m c) t.val X
  | ⟨11, _⟩, X => Rel11 (D0 m c) (D1 m c) (D2 m c) t.val (lt14 t) X
  | _, _ => True

abbrev rdat (c : Dev nD) := (dats m c).toRRel marked (Rl m c)

/-- A point finds in the sums' buffer what the point before left there. -/
theorem finds10 (c : Dev nD) (t : Fin cfg0.N) (ht : 0 < t.val) (Y) (h : (rdat m c).Finds 10 t Y) : Rel10 (D0 m c) (D1 m c) (D2 m c) (t.val - 1) Y := by
  have h14 := lt14 t
  rcases (Pipeline.RDat.finds_of_pos (rd := rdat m c) rfl (by omega) Y).mp h with h | h
  · have := (flush0_10 _).mp h
    simp only at this
    omega
  · exact (dats m c).toRRel_leaves (fgt := marked) (Rl := Rl m c) (w := 10) rfl h

/-- The second point of a token block finds in that block's buffer what the first left there. -/
theorem finds11 (c : Dev nD) (t : Fin cfg0.N) (ht : t.val % 2 = 1) (Y) (h : (rdat m c).Finds 11 t Y) :
    Rel11 (D0 m c) (D1 m c) (D2 m c) (t.val - 1) (by have := lt14 t; omega) Y := by
  have h14 := lt14 t
  rcases (Pipeline.RDat.finds_of_pos (rd := rdat m c) rfl (by omega) Y).mp h with h | h
  · have := (flush0_11 _).mp h
    simp only at this
    omega
  · exact (dats m c).toRRel_leaves (fgt := marked) (Rl := Rl m c) (w := 11) rfl h

/-! ## The body obligation, at a generic point -/

/-- What the body is called with at point `t`, -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ d, owns (c : Thread nD τ) (ms0_6 t) fullShare ((dats m c).before 6 t d))
    ∗ (∃ d, owns (c : Thread nD τ) (ms0_7 t) fullShare ((dats m c).before 7 t d))
    ∗ (∃ d, owns (c : Thread nD τ) (ms0_8 t) fullShare ((dats m c).before 8 t d))
    ∗ (∃ Y, ⌜(rdat m c).Finds 9 t Y⌝ ∗ owns (c : Thread nD τ) (ms0_9 t) fullShare Y)
    ∗ (∃ Y, ⌜(rdat m c).Finds 10 t Y⌝ ∗ owns (c : Thread nD τ) (ms0_10 t) fullShare Y)
    ∗ (∃ Y, ⌜(rdat m c).Finds 11 t Y⌝ ∗ owns (c : Thread nD τ) (ms0_11 t) fullShare Y))

/-- and what it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ owns (c : Thread nD τ) (ms0_6 t) fullShare ((dats m c).after 6 t)
    ∗ owns (c : Thread nD τ) (ms0_7 t) fullShare ((dats m c).after 7 t)
    ∗ owns (c : Thread nD τ) (ms0_8 t) fullShare ((dats m c).after 8 t)
    ∗ (∃ X, ⌜Rl m c 9 t X⌝ ∗ owns (c : Thread nD τ) (ms0_9 t) fullShare X)
    ∗ (∃ X, ⌜Rl m c 10 t X⌝ ∗ owns (c : Thread nD τ) (ms0_10 t) fullShare X)
    ∗ (∃ X, ⌜Rl m c 11 t X⌝ ∗ owns (c : Thread nD τ) (ms0_11 t) fullShare X))

theorem coord_bat (t : Fin cfg0.N) : (grid0.coords t 1).val = (bat t).val := by
  have h : (grid0.coords t 1).val = t.val / 1 % 2 := Pipeline.Grid.coords_val t 1 (by decide) rfl
  rw [h]
  change t.val / 1 % 2 = t.val % 2
  omega

theorem pt_self (t : Fin cfg0.N) : pt ⟨t.val / 2, by have := lt14 t; omega⟩ (bat t) = t :=
  Fin.ext (by change 2 * (t.val / 2) + t.val % 2 = t.val; omega)

/-- The block's row 0, at the point it is computed. -/
theorem sum0_self (c : Dev nD) (t : Fin cfg0.N) : sum0 (iblk m c 5 t) (iblk m c 6 t) = D0 m c ⟨t.val / 2, by have := lt14 t; omega⟩ (bat t) := by
  funext j
  unfold D0
  rw [pt_self]

/-- Its row 1. -/
theorem sum1_self (c : Dev nD) (t : Fin cfg0.N) :
    sum1 (iblk m c 0 t) (iblk m c 1 t) (iblk m c 5 t) (iblk m c 6 t) (iblk m c 8 t) = D1 m c ⟨t.val / 2, by have := lt14 t; omega⟩ (bat t) := by
  funext j
  unfold D1
  rw [pt_self]

/-- Its row 2. -/
theorem sum2_self (c : Dev nD) (t : Fin cfg0.N) : sum2 (iblk m c 3 t) (iblk m c 4 t) (iblk m c 2 t) = D2 m c ⟨t.val / 2, by have := lt14 t; omega⟩ (bat t) := by
  funext j
  unfold D2
  rw [pt_self]

/-- What the body's run is to begin with, gathered from what the pipeline holds. -/
theorem gather (c : Dev nD) (t : Fin cfg0.N) :
    bodyPre m c t ⊢ iprop(∃ d18 d19 Y10 Y11, ⌜(0 < t.val → Prep (F := Ideal) (iblk m c 7 (pt 0 0)) d18 d19) ∧ (rdat m c).Finds 10 t Y10 ∧ (rdat m c).Finds 11 t Y11⌝
      ∗ Held c (ms0_0 t) (ms0_1 t) (ms0_2 t) (ms0_3 t) (ms0_4 t) (ms0_5 t) (ms0_6 t) (ms0_7 t) (ms0_8 t) (ms0_10 t) (ms0_11 t) scM0_0 scM0_1 scM0_2 scM0_3 scM0_6 (iblk m c 0 t) (iblk m c 1 t) (iblk m c 2 t) (iblk m c 3 t) (iblk m c 4 t) (iblk m c 5 t) (iblk m c 6 t) (iblk m c 7 t) (iblk m c 8 t) Y10 Y11 (any (F := Ideal) c (ms0_9 t)) iprop(own c scM0_4 d18 ∗ own c scM0_5 d19)
      ∗ (dats m c).owesAt () t.castSucc ∗ (∃ r, prngReg c r)) := by
  unfold bodyPre Held
  simp only [before0_0, before0_1, before0_2, before0_3, before0_4, before0_5, before0_6, before0_7, before0_8]
  rw [show (dats m c).Φ t.castSucc = Carried m c t.val from rfl]
  unfold Carried
  iintro ⟨⟨⟨HS0, HS1, HS2, HS3, ⟨%d18, %d19, %hp, HS4, HS5⟩, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%Y9, %hY9, H9⟩, ⟨%Y10, %hY10, H10⟩, ⟨%Y11, %hY11, H11⟩⟩
  iexists d18, d19, Y10, Y11
  isplitr
  · ipureintro
    exact ⟨hp, hY10, hY11⟩
  isplitr [Ho Hg]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    isplitl [HS0]; · iexact HS0
    isplitl [HS1]; · iexact HS1
    isplitl [HS2]; · iexact HS2
    isplitl [HS3]; · iexact HS3
    isplitl [HS6]; · iexact HS6
    isplitl [HS4]; · iexact HS4
    iexact HS5
  isplitl [Ho]; · iexact Ho
  iexact Hg

/-- What the body's run leaves, handed back. -/
theorem hand (c : Dev nD) (t : Fin cfg0.N) (d18 : Vec Ideal S2x8x5120 .f32) (d19 : Vec Ideal S2x16x5120 .bf16) (X9 : Vec Ideal S1x128x5120 .bf16)
    (X10 : Vec Ideal S3x2x5120 .f32) (X11 : Vec Ideal S1x3x2x5120 .f32) (hp : Prep (F := Ideal) (iblk m c 7 (pt 0 0)) d18 d19)
    (h9 : Rl m c 9 t X9) (h10 : Rl m c 10 t X10) (h11 : Rl m c 11 t X11) :
    iprop(Held c (ms0_0 t) (ms0_1 t) (ms0_2 t) (ms0_3 t) (ms0_4 t) (ms0_5 t) (ms0_6 t) (ms0_7 t) (ms0_8 t) (ms0_10 t) (ms0_11 t) scM0_0 scM0_1 scM0_2 scM0_3 scM0_6 (iblk m c 0 t) (iblk m c 1 t) (iblk m c 2 t) (iblk m c 3 t) (iblk m c 4 t) (iblk m c 5 t) (iblk m c 6 t) (iblk m c 7 t) (iblk m c 8 t) X10 X11 (own c (ms0_9 t) X9) iprop(own c scM0_4 d18 ∗ own c scM0_5 d19)
      ∗ (dats m c).owesAt () t.castSucc ∗ (∃ r, prngReg c r)) ⊢ bodyPost m c t := by
  unfold bodyPost Held
  simp only [after0_0, after0_1, after0_2, after0_3, after0_4, after0_5, after0_6, after0_7, after0_8]
  rw [show (dats m c).Φ t.succ = Carried m c (t.val + 1) from rfl,
    show (dats m c).owesAt () t.succ = (dats m c).owesAt () t.castSucc from rfl]
  unfold Carried
  iintro ⟨⟨H0, H1, H2, H3, H4, H5, H6, H7, H8, H9, H10, H11, HS0, HS1, HS2, HS3, HS6, HS4, HS5⟩, Ho, Hg⟩
  isplitl [HS0 HS1 HS2 HS3 HS4 HS5 HS6 Hg]
  · isplitr [Hg]
    · isplitl [HS0]; · iexact HS0
      isplitl [HS1]; · iexact HS1
      isplitl [HS2]; · iexact HS2
      isplitl [HS3]; · iexact HS3
      isplitl [HS4 HS5]
      · iexists d18, d19
        isplitr
        · ipureintro
          exact fun _ => hp
        isplitl [HS4]; · iexact HS4
        iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists X9
    isplitr
    · ipureintro
      exact h9
    · iexact H9
  isplitl [H10]
  · iexists X10
    isplitr
    · ipureintro
      exact h10
    · iexact H10
  iexists X11
  isplitr
  · ipureintro
    exact h11
  · iexact H11

section Rows

variable {c : Dev nD} {t : Fin cfg0.N}

/-- The rows a point leaves, by the names of the blocks' results: its own block's -/
theorem rows_self (c : Dev nD) (t : Fin cfg0.N) {v : EReal → EReal → EReal} {d18 : Vec Ideal S2x8x5120 .f32} {d19 : Vec Ideal S2x16x5120 .bf16} {d12 : Vec Ideal S3x2x5120 .f32} {d13 : Vec Ideal S1x3x2x5120 .f32}
    {d11' : Vec Ideal S1x128x5120 .bf16} {d12' : Vec Ideal S3x2x5120 .f32} {d13' : Vec Ideal S1x3x2x5120 .f32}
    (h : Leaves (bat t) v (iblk m c 0 t) (iblk m c 1 t) (iblk m c 2 t) (iblk m c 3 t) (iblk m c 4 t) (iblk m c 5 t) (iblk m c 6 t) (iblk m c 8 t) d18 d19 d12 d13 d11' d12' d13') :
    Row4 (bat t) (D0 m c ⟨t.val / 2, by have := lt14 t; omega⟩ (bat t)) (D1 m c ⟨t.val / 2, by have := lt14 t; omega⟩ (bat t)) (D2 m c ⟨t.val / 2, by have := lt14 t; omega⟩ (bat t)) d13 d13' := by
  have h4 := h.rows
  rw [sum0_self, sum1_self, sum2_self] at h4
  exact h4

/-- and the sums'. -/
theorem sums_self (c : Dev nD) (t : Fin cfg0.N) {v : EReal → EReal → EReal} {d18 : Vec Ideal S2x8x5120 .f32} {d19 : Vec Ideal S2x16x5120 .bf16} {d12 : Vec Ideal S3x2x5120 .f32} {d13 : Vec Ideal S1x3x2x5120 .f32}
    {d11' : Vec Ideal S1x128x5120 .bf16} {d12' : Vec Ideal S3x2x5120 .f32} {d13' : Vec Ideal S1x3x2x5120 .f32}
    (h : Leaves (bat t) v (iblk m c 0 t) (iblk m c 1 t) (iblk m c 2 t) (iblk m c 3 t) (iblk m c 4 t) (iblk m c 5 t) (iblk m c 6 t) (iblk m c 8 t) d18 d19 d12 d13 d11' d12' d13') :
    Row3 (bat t) (fun a j => v a (D0 m c ⟨t.val / 2, by have := lt14 t; omega⟩ (bat t) j)) (fun a j => v a (D1 m c ⟨t.val / 2, by have := lt14 t; omega⟩ (bat t) j))
      (fun a j => v a (D2 m c ⟨t.val / 2, by have := lt14 t; omega⟩ (bat t) j)) d12 d12' := by
  have h3 := h.sums
  simp only [sum0_self, sum1_self, sum2_self] at h3
  exact h3

end Rows

set_option maxHeartbeats 1600000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  refine BIBase.Entails.trans (gather m c t) ?_
  unfold bodyAt0
  have hN := lt14 t
  iintro ⟨%d18, %d19, %Y10, %Y11, %hf, H, Ho, Hg⟩
  obtain ⟨hp, hY10, hY11⟩ := hf
  have f10 := fun h => finds10 m c t h Y10 hY10
  have f11 := fun h => finds11 m c t h Y11 hY11
  by_cases h0 : t.val % 14 = 0
  · have first : ∀ {e18 e19}, t.val % 14 = 0 → Prep (F := Ideal) (iblk m c 7 t) e18 e19 → Prep (F := Ideal) (iblk m c 7 (pt 0 0)) e18 e19 := by
      intro e18 e19 h hq
      have e : t = pt 0 0 := Fin.ext (by change t.val = 2 * 0 + 0; omega)
      rw [← e]
      exact hq
    iapply (run_A c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Y10 Y11 d18 d19 (bat t) (coord_bat t) ((hcond0_0 t).mpr h0) ((hcond0_1 t).mpr (by omega)) (fun h => absurd ((hcond0_2 t).mp h) (by omega)) _)
    isplitl [H]; · iexact H
    iintro %_ %X9 %X10 %X11 %e18 %e19 %hr H
    iapply (hand m c t e18 e19 X9 X10 X11 (first h0 hr.1) ⟨e18, e19, first h0 hr.1, hr.2.dx⟩
      (Rel10.first (t := t.val) (by omega) (b := bat t) rfl (sums_self m c t hr.2) f10) (Rel11.next hN (b := bat t) rfl (rows_self m c t hr.2) f11))
    isplitl [H]; · iexact H
    isplitl [Ho]; · iexact Ho
    iexact Hg
  by_cases h1 : t.val < 2
  · iapply (run_B c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Y10 Y11 d18 d19 (bat t) (coord_bat t) (fun h => h0 ((hcond0_0 t).mp h)) ((hcond0_1 t).mpr h1) (fun h => absurd ((hcond0_2 t).mp h) (by omega)) _)
    isplitl [H]; · iexact H
    iintro %_ %X9 %X10 %X11 %hl H
    iapply (hand m c t d18 d19 X9 X10 X11 (hp (by omega)) ⟨d18, d19, hp (by omega), hl.dx⟩
      (Rel10.first (t := t.val) h1 (b := bat t) rfl (sums_self m c t hl) f10) (Rel11.next hN (b := bat t) rfl (rows_self m c t hl) f11))
    isplitl [H]; · iexact H
    isplitl [Ho]; · iexact Ho
    iexact Hg
  · iapply (run_C c Set.univ (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Y10 Y11 d18 d19 (bat t) (coord_bat t) (fun h => h0 ((hcond0_0 t).mp h)) (fun h => h1 ((hcond0_1 t).mp h)) ((hcond0_2 t).mpr (by omega)) _)
    isplitl [H]; · iexact H
    iintro %_ %X9 %X10 %X11 %hl H
    iapply (hand m c t d18 d19 X9 X10 X11 (hp (by omega)) ⟨d18, d19, hp (by omega), hl.dx⟩
      (Rel10.next (t := t.val) (by omega) hN (b := bat t) rfl (sums_self m c t hl) (f10 (by omega))) (Rel11.next hN (b := bat t) rfl (rows_self m c t hl) f11))
    isplitl [H]; · iexact H
    isplitl [Ho]; · iexact Ho
    iexact Hg

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : Pipeline.BodyObligationRel (dats m c) (defs₀ (F := Ideal)) Variants.none () Set.univ marked (Rl m c) := fun t => by
  rw [bigSep_W0, bigSep_W0, defs₀_row]
  exact triple_restated (sound_body m c t) rfl .rfl fun _ => .rfl

/-! ## The run and the frame -/

set_option backward.isDefEq.respectTransparency.types false in
/-- THE LAUNCH: every fair run ends, with the arrays as the relational data say and every semaphore counter at zero. -/
theorem run_main : θ_run defs (onTc (τ := τ) (main (F := Ideal))) (s₀ m ρ) (fun r => (Pipeline.RDat.FramePost (cfgs 0) (fun c => rdat m c) (V m)) r ∧ r.2.sem = fun _ => 0) :=
  Pipeline.RDat.θ_run_frame_track (Q' := _) cfgs (0 : Fin 1) launch0 defs₀ Variants.none (fun c => rdat m c) m ρ main
    (hbody := fun c => (body_obligation m c).toRRel) (hshare := fun c => (dats m c).share_full fun _ => rfl)
    (howed := fun _ _ => rfl) (V := V m) (hmain := hmain m Variants.none) (hA := fun c w => A_eq m c w)
    (hin := fun c => carried_in m c) (hout := fun c => carried_out m c _)

/-- The arguments' arrays end as they began. -/
theorem kept {r : PUnit × MemSt nD τ sig (Elt Ideal)} (h : Pipeline.RDat.FramePost (cfgs 0) (fun c => rdat m c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((A_eq m c 2).trans (V_main_arg2 m c)),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      (Pipeline.RDat.FramePost.arr_in h c 7 rfl).trans ((A_eq m c 7).trans (V_main_arg7 m c))⟩

end Cert.KernelIdeal.Hand

end
-- ==== Proof.Stats.lean ====
/- The layer norm's statistics of a row, as the reference writes them, over extended reals; on a row of real numbers they are real numbers. -/
module

public import proofs.«01_k».proof.Proof.Sums
public import Idealize.ShloMosaic.Lib.IdealHost

@[expose] public section

noncomputable section

namespace Cert.Stats

open Idealize.ShloMosaic

/-- The row's length, -/
def count : EReal := Ideal.ofBits .f32 0x45A00000#32
/-- and the variance's offset. -/
def eps : EReal := Ideal.ofBits .f32 0x358637BD#32

/-- The mean of a row, -/
def avg (X : Fin 5120 → EReal) : EReal := Ideal.div (∑ j, X j) count
/-- its variance, -/
def var (X : Fin 5120 → EReal) : EReal := avg fun j => (X j - avg X) * (X j - avg X)
/-- the reciprocal standard deviation, -/
def rstd (X : Fin 5120 → EReal) : EReal := Ideal.rsqrt (var X + eps)
/-- and the normalized row. -/
def xhat (X : Fin 5120 → EReal) (j : Fin 5120) : EReal := (X j - avg X) * rstd X

/-- The row's gradient: of `dy`, of `x` and of `g`, the gradient of the normalized row. -/
def grad (Y X G : Fin 5120 → EReal) (j : Fin 5120) : EReal :=
  Y j + rstd X * (G j - avg G - xhat X j * avg fun j => G j * xhat X j)

end Cert.Stats

namespace Cert.Sums

open Idealize.ShloMosaic

/-- `dscale` of block `n`, batch element `b`, at column `j`: `dh` times the normalized `x`, summed over the block's tokens. -/
def dscale (x : (⟨3, ![2, 896, 5120]⟩ : Shape).Idx → EReal) (xs : (⟨3, ![2, 896, 40]⟩ : Shape).Idx → EReal) (h : (⟨3, ![2, 896, 5120]⟩ : Shape).Idx → EReal)
    (hs : (⟨3, ![2, 896, 40]⟩ : Shape).Idx → EReal) (n : Fin 7) (b : Fin 2) (j : Fin 5120) : EReal :=
  ∑ τ : Fin 128, deq h hs b (tok n τ) j * Stats.xhat (deq x xs b (tok n τ)) j

end Cert.Sums

namespace Cert.Stats

open Idealize.ShloMosaic

/-! ## Rows of real numbers -/

theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem count_eq : count = ((5120 : ℝ) : EReal) := by
  unfold count
  simp [Ideal.ofBits, Ideal.ieee, -EReal.coe_mul]
  norm_num

/-- The offset is a positive real number. -/
theorem eps_eq : ∃ e : ℝ, 0 < e ∧ eps = (e : EReal) := by
  refine ⟨8796093 * (2 : ℝ) ^ (-43 : ℤ), by positivity, ?_⟩
  unfold eps
  simp [Ideal.ofBits, Ideal.ieee, -EReal.coe_mul]

def mu (x : Fin 5120 → ℝ) : ℝ := (∑ j, x j) / 5120
def vr (x : Fin 5120 → ℝ) : ℝ := mu fun j => (x j - mu x) * (x j - mu x)
/-- The offset's number. -/
def epsR : ℝ := eps.toReal
def rs (x : Fin 5120 → ℝ) : ℝ := (Real.sqrt (vr x + epsR))⁻¹

theorem eps_coe : eps = (epsR : EReal) ∧ 0 < epsR := by
  obtain ⟨e, he, h⟩ := eps_eq
  unfold epsR
  rw [h, EReal.toReal_coe]
  exact ⟨rfl, he⟩

theorem avg_coe (x : Fin 5120 → ℝ) : avg (fun j => (x j : EReal)) = (mu x : EReal) := by
  unfold avg mu Ideal.div
  rw [coe_sum, count_eq, if_neg (by norm_cast), ← EReal.coe_inv, ← EReal.coe_mul, div_eq_mul_inv]

theorem var_coe (x : Fin 5120 → ℝ) : var (fun j => (x j : EReal)) = (vr x : EReal) := by
  have e : (fun j => ((x j : EReal) - avg fun j => (x j : EReal)) * ((x j : EReal) - avg fun j => (x j : EReal)))
      = fun j => (((x j - mu x) * (x j - mu x) : ℝ) : EReal) :=
    funext fun j => by rw [avg_coe, EReal.coe_mul, EReal.coe_sub]
  unfold var vr
  exact (congrArg avg e).trans (avg_coe _)

theorem vr_nonneg (x : Fin 5120 → ℝ) : 0 ≤ vr x :=
  div_nonneg (Finset.sum_nonneg fun j _ => mul_self_nonneg _) (by norm_num)

theorem rsqrt_coe (v : ℝ) (h : 0 ≤ v) : Ideal.rsqrt ((v : EReal) + eps) = (((Real.sqrt (v + epsR))⁻¹ : ℝ) : EReal) := by
  rw [eps_coe.1, ← EReal.coe_add, Ideal.rsqrt_coe]
  have := eps_coe.2
  rw [if_neg (by linarith), if_neg (by linarith)]

theorem rstd_coe (x : Fin 5120 → ℝ) : rstd (fun j => (x j : EReal)) = (rs x : EReal) := by
  unfold rstd rs
  rw [var_coe, rsqrt_coe _ (vr_nonneg x)]

theorem xhat_coe (x : Fin 5120 → ℝ) (j : Fin 5120) : xhat (fun j => (x j : EReal)) j = (((x j - mu x) * rs x : ℝ) : EReal) := by
  unfold xhat
  rw [avg_coe, rstd_coe]
  norm_cast

/-- The variance is the mean of the squares less the mean's square. -/
theorem vr_eq (x : Fin 5120 → ℝ) : vr x = (∑ j, x j * x j) / 5120 - mu x * mu x := by
  have h : ∑ j, (x j - mu x) * (x j - mu x) = ∑ j, x j * x j - 2 * mu x * ∑ j, x j + 5120 * (mu x * mu x) := by
    have e : ∀ j, (x j - mu x) * (x j - mu x) = x j * x j - 2 * mu x * x j + mu x * mu x := fun j => by ring
    simp only [e, Finset.sum_add_distrib, Finset.sum_sub_distrib, ← Finset.mul_sum, Finset.sum_const, Finset.card_univ, Fintype.card_fin, nsmul_eq_mul]
    push_cast
    ring
  have hm : ∑ j, x j = 5120 * mu x := by
    unfold mu
    ring
  unfold vr
  rw [show mu (fun j => (x j - mu x) * (x j - mu x)) = (∑ j, (x j - mu x) * (x j - mu x)) / 5120 from rfl, h, hm]
  ring

theorem grad_coe (Y : Fin 5120 → EReal) (x g : Fin 5120 → ℝ) (j : Fin 5120) :
    grad Y (fun j => (x j : EReal)) (fun j => (g j : EReal)) j
      = Y j + ((rs x * (g j - mu g - (x j - mu x) * rs x * mu fun j => g j * ((x j - mu x) * rs x)) : ℝ) : EReal) := by
  unfold grad
  have e : (fun j => ((g j : EReal)) * xhat (fun j => (x j : EReal)) j) = fun j => ((g j * ((x j - mu x) * rs x) : ℝ) : EReal) :=
    funext fun j => by rw [xhat_coe, ← EReal.coe_mul]
  rw [rstd_coe, avg_coe, xhat_coe, e, avg_coe]
  norm_cast

end Cert.Stats

end
-- ==== Proof.KerRaw.lean ====
/- The kernel's row `dscale` and its rows of the large result, by the rows of the arrays: as the kernel computes them; and for rows of real numbers they are the reference's. -/
module

public import proofs.«01_k».proof.Proof.KerVal
public import proofs.«01_k».proof.Proof.Stats

@[expose] public section

noncomputable section

namespace Cert.KernelIdeal.Roll

open Idealize.ShloMosaic Idealize.ShloMosaic.TcCoe Idealize.ShloMosaic.Tactic

/-- The row `dscale` of a block whose tokens have the rows `X` of `x` and `H` of `dh`. -/
def rawScale (X H : Fin 128 → Fin 5120 → EReal) (j : Fin 5120) : EReal :=
  row1 (fun τ => off (X τ) fun _ => 1) (fun τ => rstd (X τ) fun _ => 1) (fun τ => H τ j) (fun τ => X τ j * H τ j)

/-- A row's sum times the factors `M`, these in three parts. -/
def rawDot (X M : Fin 5120 → EReal) : EReal :=
  ∑ j, X j * M j + (∑ j, X j * (M j - M j) + ∑ j, X j * (M j - M j - (M j - M j)))

/-- A token's row of the large result, of its rows of `x`, `dy` and `dh` and of `1 + mod_scale`. -/
def rawGrad (X Y H M : Fin 5120 → EReal) (j : Fin 5120) : EReal :=
  Y j + cst (mean X fun _ => 1) (rstd X fun _ => 1) (rawDot H M) (rawDot (fun j => X j * H j) M)
    + rstd X (fun _ => 1) * (H j * M j) - fac (mean X fun _ => 1) (rstd X fun _ => 1) (rawDot H M) (rawDot (fun j => X j * H j) M) * X j

/-! ## Rows of real numbers -/

theorem invD_eq : invD = ((1 / 5120 : ℝ) : EReal) := by
  have h : κ "inv_d" = some ((1 / 5120 : ℝ) : EReal) := rfl
  unfold invD
  exact IdealRules.named_const.ideal_named_scalar (φ := .f32) κ "inv_d" 0x394CCCCD#32 _ h

theorem mean_coe (x : Fin 5120 → ℝ) : mean (fun j => (x j : EReal)) (fun _ => 1) = (Stats.mu x : EReal) := by
  unfold mean Stats.mu
  simp only [mul_one]
  rw [Stats.coe_sum, invD_eq, ← EReal.coe_mul]
  congr 1
  ring

theorem rstd_coe (x : Fin 5120 → ℝ) : rstd (fun j => (x j : EReal)) (fun _ => 1) = (Stats.rs x : EReal) := by
  unfold rstd
  simp only [mean_coe, ← EReal.coe_mul]
  rw [Stats.coe_sum, invD_eq, ← EReal.coe_mul, ← EReal.coe_sub,
    show (∑ j, x j * x j) * (1 / 5120 : ℝ) - Stats.mu x * Stats.mu x = Stats.vr x by rw [Stats.vr_eq]; ring,
    max_eq_left (by exact_mod_cast Stats.vr_nonneg x)]
  exact Stats.rsqrt_coe _ (Stats.vr_nonneg x)

theorem off_coe (x : Fin 5120 → ℝ) : off (fun j => (x j : EReal)) (fun _ => 1) = ((-(Stats.rs x * Stats.mu x) : ℝ) : EReal) := by
  unfold off
  rw [mean_coe, rstd_coe, ← EReal.coe_zero, ← EReal.coe_sub, ← EReal.coe_mul]
  congr 1
  ring

theorem sub_coe (a : ℝ) : ((a : EReal) - (a : EReal)) = 0 := by
  rw [← EReal.coe_sub, sub_self, EReal.coe_zero]

/-- The kernel's row `dscale` is the reference's. -/
theorem rawScale_coe (x h : Fin 128 → Fin 5120 → ℝ) (j : Fin 5120) :
    rawScale (fun τ j => (x τ j : EReal)) (fun τ j => (h τ j : EReal)) j = ∑ τ : Fin 128, (h τ j : EReal) * Stats.xhat (fun j => (x τ j : EReal)) j := by
  unfold rawScale row1
  simp only [off_coe, rstd_coe, Stats.xhat_coe, sub_coe, sub_zero, zero_mul, Finset.sum_const_zero, add_zero, ← EReal.coe_mul]
  rw [Stats.coe_sum, Stats.coe_sum, Stats.coe_sum, ← EReal.coe_add, ← Finset.sum_add_distrib]
  refine congrArg _ (Finset.sum_congr rfl fun τ _ => ?_)
  ring

theorem rawDot_coe (x m : Fin 5120 → ℝ) : rawDot (fun j => (x j : EReal)) (fun j => (m j : EReal)) = ((∑ j, x j * m j : ℝ) : EReal) := by
  unfold rawDot
  simp only [sub_coe, sub_zero, mul_zero, Finset.sum_const_zero, add_zero, ← EReal.coe_mul]
  exact Stats.coe_sum _ _

theorem add_real (u : EReal) (c p q : ℝ) : u + (c : EReal) + (p : EReal) - (q : EReal) = u + ((c + p - q : ℝ) : EReal) := by
  rw [EReal.coe_sub, EReal.coe_add, sub_eq_add_neg, sub_eq_add_neg]
  simp only [add_assoc]

/-- The kernel's row of the large result is the reference's, whatever the row of `dy` is. -/
theorem rawGrad_coe (Y : Fin 5120 → EReal) (x h m : Fin 5120 → ℝ) (j : Fin 5120) :
    rawGrad (fun j => (x j : EReal)) Y (fun j => (h j : EReal)) (fun j => (m j : EReal)) j
      = Stats.grad Y (fun j => (x j : EReal)) (fun j => (h j : EReal) * (m j : EReal)) j := by
  have e : (fun j => (x j : EReal) * (h j : EReal)) = fun j => ((x j * h j : ℝ) : EReal) := funext fun j => by rw [EReal.coe_mul]
  have e2 : (fun j => (h j : EReal) * (m j : EReal)) = fun j => ((h j * m j : ℝ) : EReal) := funext fun j => by rw [EReal.coe_mul]
  unfold rawGrad cst fac
  rw [e, e2, Stats.grad_coe, mean_coe, rstd_coe, rawDot_coe, rawDot_coe, invD_eq]
  have a1 : Stats.mu (fun j => h j * m j) = (∑ j, h j * m j) / 5120 := rfl
  have a2 : (Stats.mu fun i => h i * m i * ((x i - Stats.mu x) * Stats.rs x))
      = Stats.rs x * (∑ i, x i * h i * m i - Stats.mu x * ∑ i, h i * m i) / 5120 := by
    unfold Stats.mu
    rw [Finset.mul_sum, ← Finset.sum_sub_distrib, Finset.mul_sum]
    exact congrArg (· / 5120) (Finset.sum_congr rfl fun i _ => by ring)
  rw [a1, a2]
  simp only [← EReal.coe_mul, ← EReal.coe_sub, ← EReal.coe_add]
  rw [add_real]
  refine congrArg (fun r : ℝ => Y j + (r : EReal)) ?_
  ring

end Cert.KernelIdeal.Roll

end
-- ==== Proof.KerPrep.lean ====
/- What the first point leaves in the two scratches that every point reads, over extended reals: the rows `1 + mod_scale`. -/
module

public import proofs.«01_k».proof.Proof.KerRaw

@[expose] public section

noncomputable section

namespace Cert.KernelIdeal.Roll

open Idealize.ShloMosaic Idealize.ShloMosaic.TcCoe Idealize.ShloMosaic.Tactic

variable [Facts]

open Shapes1.Facts₀ Shapes2.Facts₀ K0.Facts₀

/-- A plane stored: that plane is it, the other stays. -/
theorem put_plane {n : ℕ} {e : EltTy} (b : Fin 2) (off : Fin 3 → ℕ) (eo : off = ![b.val, 0, 0]) (inb)
    (w : (⟨3, ![1, n, 5120]⟩ : Shape).Idx → Elt Ideal e) (d d' : (⟨3, ![2, n, 5120]⟩ : Shape).Idx → Elt Ideal e)
    (h : Put (Rect.unit (s := ⟨3, ![2, n, 5120]⟩) off (⟨3, ![1, n, 5120]⟩ : Shape).size inb) w d d') :
    (∀ (u : Fin n) (j : Fin 5120), d' (ix3 b u j) = w (ix3 (0 : Fin 1) u j))
    ∧ ∀ (b' : Fin 2), b' ≠ b → ∀ (u : Fin n) (j : Fin 5120), d' (ix3 b' u j) = d (ix3 b' u j) := by
  subst eo
  constructor
  · intro u j
    have e := h.1 (ix3 (0 : Fin 1) u j)
    rw [Rect.emb_eq_of_coords _ _ (ix3 b u j) (fun a => by
      match a with
      | ⟨0, _⟩ => rfl
      | ⟨1, _⟩ => show u.val = 0 + 1 * u.val; omega
      | ⟨2, _⟩ => show j.val = 0 + 1 * j.val; omega)] at e
    exact e
  · intro b' hne u j
    refine h.2 _ ?_
    refine Rect.not_mem_set_of_axis _ _ 0 b.val 1 rfl rfl rfl ?_
    have : b'.val ≠ b.val := fun e => hne (Fin.ext e)
    show b'.val < b.val ∨ b.val + 1 ≤ b'.val
    omega

theorem modRows_at (x9 : Vec Ideal S2x5120 .f32) (b : Fin 2) (j : Fin 5120) : modRows x9 (ix2 b j) = (1 + x9 (ix2 b j) : EReal) := by
  pointwise [modRows]
  rw [Rect.emb_eq_of_coords _ _ (ix2 b j) (fun a => by
    match a with
    | ⟨0, _⟩ => show b.val = 0 + 1 * b.val; omega
    | ⟨1, _⟩ => show j.val = 0 + 1 * j.val; omega)]

theorem modRow0_at (x9 : Vec Ideal S2x5120 .f32) (j : Fin 5120) : modRow0 x9 (ix2 (0 : Fin 1) j) = (1 + x9 (ix2 (0 : Fin 2) j) : EReal) := by
  rw [← modRows_at]
  pointwise [modRow0]

theorem modRow1_at (x9 : Vec Ideal S2x5120 .f32) (j : Fin 5120) : modRow1 x9 (ix2 (0 : Fin 1) j) = (1 + x9 (ix2 (1 : Fin 2) j) : EReal) := by
  rw [← modRows_at]
  pointwise [modRow1]

theorem eight_at (v : FVec Ideal S1x5120 .f32) (u : Fin 8) (j : Fin 5120) : eight v (ix3 (0 : Fin 1) u j) = v (ix2 (0 : Fin 1) j) := by
  pointwise [eight]

/-- The sixteen rows: three parts of the row, and zeros. -/
def part (x : EReal) (u : ℕ) : EReal := if u = 0 then x else if u = 1 then x - x else if u = 2 then x - x - (x - x) else 0

theorem sixteen_at (v : FVec Ideal S1x5120 .f32) (u : Fin 16) (j : Fin 5120) :
    sixteen v (ix3 (0 : Fin 1) u j) = part (v (ix2 (0 : Fin 1) j)) u.val := by
  fin_cases u <;> pointwise [sixteen, split0, left1, part]

/-- A row's sum times the sixteen rows. -/
theorem dot_parts (X M : Fin 5120 → EReal) : ∑ u : Fin 16, ∑ j, X j * part (M j) u.val = rawDot X M := by
  have z : ∀ u : Fin 13, ∑ j, X j * part (M j) (u.val + 1 + 1 + 1) = 0 := fun u => by
    refine Finset.sum_eq_zero fun j _ => ?_
    unfold part
    rw [if_neg (by omega), if_neg (by omega), if_neg (by omega), mul_zero]
  have key : ∀ f : ℕ → EReal, (∀ u : Fin 13, f (u.val + 1 + 1 + 1) = 0) → ∑ u : Fin 16, f u.val = f 0 + (f 1 + f 2) := fun f hf => by
    rw [Fin.sum_univ_succ, Fin.sum_univ_succ, Fin.sum_univ_succ]
    simp only [Fin.val_succ, hf, Finset.sum_const_zero, add_zero]
    rfl
  rw [key (fun u => ∑ j, X j * part (M j) u) z]
  rfl

/-- The scratches' rows, of the two batch elements. -/
theorem Prep.mod18 {x9 : Vec Ideal S2x5120 .f32} {d18 : Vec Ideal S2x8x5120 .f32} {d19 : Vec Ideal S2x16x5120 .bf16} (h : Prep (F := Ideal) x9 d18 d19)
    (b : Fin 2) (u : Fin 8) (j : Fin 5120) : d18 (ix3 b u j) = (1 + x9 (ix2 b j) : EReal) := by
  obtain ⟨⟨d, d1, h0, h1⟩, _⟩ := h
  have p0 := put_plane (n := 8) 0 _ rfl _ _ _ _ h0
  have p1 := put_plane (n := 8) 1 _ rfl _ _ _ _ h1
  match b with
  | ⟨0, _⟩ => exact (p1.2 0 (by decide) u j).trans ((p0.1 u j).trans ((eight_at _ u j).trans (modRow0_at x9 j)))
  | ⟨1, _⟩ => exact (p1.1 u j).trans ((eight_at _ u j).trans (modRow1_at x9 j))

theorem Prep.part19 {x9 : Vec Ideal S2x5120 .f32} {d18 : Vec Ideal S2x8x5120 .f32} {d19 : Vec Ideal S2x16x5120 .bf16} (h : Prep (F := Ideal) x9 d18 d19)
    (b : Fin 2) (u : Fin 16) (j : Fin 5120) : d19 (ix3 b u j) = part (1 + x9 (ix2 b j) : EReal) u.val := by
  obtain ⟨_, d, d1, h0, h1⟩ := h
  have p0 := put_plane (n := 16) 0 _ rfl _ _ _ _ h0
  have p1 := put_plane (n := 16) 1 _ rfl _ _ _ _ h1
  match b with
  | ⟨0, _⟩ => exact (p1.2 0 (by decide) u j).trans ((p0.1 u j).trans ((sixteen_at _ u j).trans (by rw [modRow0_at]; rfl)))
  | ⟨1, _⟩ => exact (p1.1 u j).trans ((sixteen_at _ u j).trans (by rw [modRow1_at]; rfl))

theorem Prep.mod19 {x9 : Vec Ideal S2x5120 .f32} {d18 : Vec Ideal S2x8x5120 .f32} {d19 : Vec Ideal S2x16x5120 .bf16} (h : Prep (F := Ideal) x9 d18 d19)
    (b : Fin 2) (X : Fin 5120 → EReal) : dotR X d19 b = rawDot X fun j => (1 + x9 (ix2 b j) : EReal) := by
  unfold dotR
  simp only [h.part19]
  exact dot_parts X _

end Cert.KernelIdeal.Roll

end
-- ==== Proof.KerArr.lean ====
/- The blocks that the kernel reads are the arguments' arrays at a token block of a batch element; the rows it computes from them are sums over the block's tokens. -/
module

public import proofs.«01_k».proof.Proof.KerFrame
public import proofs.«01_k».proof.Proof.KerPrep
public import Idealize.ShloMosaic.Lib.Pipeline.ValueKit
public import Idealize.ShloMosaic.Lib.Pipeline.ArrRel

@[expose] public section

set_option maxRecDepth 16384

noncomputable section

namespace Cert.KernelIdeal.Hand

open Idealize.ShloMosaic Idealize.ShloMosaic.TcCoe Idealize.ShloMosaic.Tactic
open Cert.KernelIdeal.Gen Cert.KernelIdeal.Roll

variable (m : (ℓ : Loc nD τ sig) → Buf (Elt Ideal) ℓ)

theorem idx0 : ∀ t : Fin grid0.N, win0_0.index t = ![t.val % 2, t.val / 2, 0] := by decide +kernel
theorem idx1 : ∀ t : Fin grid0.N, win0_1.index t = ![t.val % 2, 0, t.val / 2] := by decide +kernel
theorem idx2 : ∀ t : Fin grid0.N, win0_2.index t = ![t.val % 2, t.val / 2, 0] := by decide +kernel
theorem idx3 : ∀ t : Fin grid0.N, win0_3.index t = ![t.val % 2, t.val / 2, 0] := by decide +kernel
theorem idx4 : ∀ t : Fin grid0.N, win0_4.index t = ![t.val % 2, 0, t.val / 2] := by decide +kernel
theorem idx5 : ∀ t : Fin grid0.N, win0_5.index t = ![t.val % 2, t.val / 2, 0] := by decide +kernel
theorem idx6 : ∀ t : Fin grid0.N, win0_6.index t = ![t.val % 2, 0, t.val / 2] := by decide +kernel
theorem idx7 : ∀ t : Fin grid0.N, win0_7.index t = ![0, 0] := by decide +kernel
theorem idx8 : ∀ t : Fin grid0.N, win0_8.index t = ![0, 0] := by decide +kernel
theorem idx11 : ∀ t : Fin grid0.N, win0_11.index t = ![t.val / 2, 0, 0, 0] := by decide +kernel

theorem pt_mod (n : Fin 7) (b : Fin 2) : (pt n b).val % 2 = b.val := by
  change (2 * n.val + b.val) % 2 = b.val
  omega
theorem pt_div (n : Fin 7) (b : Fin 2) : (pt n b).val / 2 = n.val := by
  change (2 * n.val + b.val) / 2 = n.val
  omega

/-- The codes of `x` as the call finds them: the bytes, bitcast; -/
def codes0 (c : Dev nD) : Vec Ideal S2x896x5120 .fp8e4m3 := bitcastToFloat (F := Ideal) (s := S2x896x5120) .fp8e4m3 (m ((c : Thread nD τ).loc main_arg0))
/-- those of `dy` -/
def codes3 (c : Dev nD) : Vec Ideal S2x896x5120 .fp8e5m2 := bitcastToFloat (F := Ideal) (s := S2x896x5120) .fp8e5m2 (m ((c : Thread nD τ).loc main_arg3))
/-- and of `dh`. -/
def codes5 (c : Dev nD) : Vec Ideal S2x896x5120 .fp8e5m2 := bitcastToFloat (F := Ideal) (s := S2x896x5120) .fp8e5m2 (m ((c : Thread nD τ).loc main_arg5))

theorem V_codes0 (c : Dev nD) : V m c main_v0 = codes0 m c := rfl
theorem V_codes3 (c : Dev nD) : V m c main_v1 = codes3 m c := rfl
theorem V_codes5 (c : Dev nD) : V m c main_v2 = codes5 m c := rfl
theorem V_ones (c : Dev nD) (p : Fin 32) (q : Fin 128) : (V m c main_v3 : Vec Ideal S32x128 .bf16) (ix2 p q) = (1 : EReal) :=
  Ideal.ofBits_one_bf16

theorem iblk0 (c : Dev nD) (n : Fin 7) (b : Fin 2) (r : Fin 128) (j : Fin 5120) :
    (iblk m c 0 (pt n b) : Vec Ideal S1x128x5120 .fp8e4m3) (ix3 (0 : Fin 1) r j) = codes0 m c (ix3 b (Sums.tok n r) j) := by
  have h := idx0 (pt n b)
  rw [pt_mod, pt_div] at h
  rw [← V_codes0 m c]
  blk_ext [iblk, h, Sums.tok]

theorem iblk1 (c : Dev nD) (n : Fin 7) (b : Fin 2) (r : Fin 128) (g : Fin 40) :
    (iblk m c 1 (pt n b) : Vec Ideal S1x40x128 .f32) (ix3 (0 : Fin 1) g r) = m ((c : Thread nD τ).loc main_arg1) (ix3 b (Sums.tok n r) g) := by
  have h := idx1 (pt n b)
  rw [pt_mod, pt_div] at h
  blk_ext! [iblk, V, h, Sums.tok]

theorem iblk7 (c : Dev nD) (t : Fin cfg0.N) (b : Fin 2) (j : Fin 5120) :
    (iblk m c 7 t : Vec Ideal S2x5120 .f32) (ix2 b j) = m ((c : Thread nD τ).loc main_arg7) (ix2 b j) := by
  have h := idx7 t
  rw [← V_main_arg7 m c]
  blk_ext [iblk, h]

theorem iblk8 (c : Dev nD) (t : Fin cfg0.N) (p : Fin 32) (q : Fin 128) :
    (iblk m c 8 t : Vec Ideal S32x128 .bf16) (ix2 p q) = (1 : EReal) := by
  have h := idx8 t
  rw [← V_ones m c p q]
  blk_ext [iblk, h]

theorem iblk2 (c : Dev nD) (n : Fin 7) (b : Fin 2) (r : Fin 128) (j : Fin 5120) :
    (iblk m c 2 (pt n b) : Vec Ideal S1x128x5120 .bf16) (ix3 (0 : Fin 1) r j) = m ((c : Thread nD τ).loc main_arg2) (ix3 b (Sums.tok n r) j) := by
  have h := idx2 (pt n b)
  rw [pt_mod, pt_div] at h
  rw [← V_main_arg2 m c]
  blk_ext [iblk, h, Sums.tok]

theorem iblk3 (c : Dev nD) (n : Fin 7) (b : Fin 2) (r : Fin 128) (j : Fin 5120) :
    (iblk m c 3 (pt n b) : Vec Ideal S1x128x5120 .fp8e5m2) (ix3 (0 : Fin 1) r j) = codes3 m c (ix3 b (Sums.tok n r) j) := by
  have h := idx3 (pt n b)
  rw [pt_mod, pt_div] at h
  rw [← V_codes3 m c]
  blk_ext [iblk, h, Sums.tok]

theorem iblk4 (c : Dev nD) (n : Fin 7) (b : Fin 2) (r : Fin 128) (g : Fin 40) :
    (iblk m c 4 (pt n b) : Vec Ideal S1x40x128 .f32) (ix3 (0 : Fin 1) g r) = m ((c : Thread nD τ).loc main_arg4) (ix3 b (Sums.tok n r) g) := by
  have h := idx4 (pt n b)
  rw [pt_mod, pt_div] at h
  blk_ext! [iblk, V, h, Sums.tok]

theorem iblk5 (c : Dev nD) (n : Fin 7) (b : Fin 2) (r : Fin 128) (j : Fin 5120) :
    (iblk m c 5 (pt n b) : Vec Ideal S1x128x5120 .fp8e5m2) (ix3 (0 : Fin 1) r j) = codes5 m c (ix3 b (Sums.tok n r) j) := by
  have h := idx5 (pt n b)
  rw [pt_mod, pt_div] at h
  rw [← V_codes5 m c]
  blk_ext [iblk, h, Sums.tok]

theorem iblk6 (c : Dev nD) (n : Fin 7) (b : Fin 2) (r : Fin 128) (g : Fin 40) :
    (iblk m c 6 (pt n b) : Vec Ideal S1x40x128 .f32) (ix3 (0 : Fin 1) g r) = m ((c : Thread nD τ).loc main_arg6) (ix3 b (Sums.tok n r) g) := by
  have h := idx6 (pt n b)
  rw [pt_mod, pt_div] at h
  blk_ext! [iblk, V, h, Sums.tok]

/-- The dequantized `x` of a block is the array's; -/
theorem xv_eq (c : Dev nD) (n : Fin 7) (b : Fin 2) (q : Fin 128) :
    xv (iblk m c 0 (pt n b)) (iblk m c 1 (pt n b)) q = Sums.deq (codes0 m c) (m ((c : Thread nD τ).loc main_arg1)) b (Sums.tok n q) := by
  funext j
  unfold xv Sums.deq
  rw [iblk0, iblk1]

/-- so is `dy` -/
theorem yv_eq (c : Dev nD) (n : Fin 7) (b : Fin 2) (q : Fin 128) :
    hv (iblk m c 3 (pt n b)) (iblk m c 4 (pt n b)) q = Sums.deq (codes3 m c) (m ((c : Thread nD τ).loc main_arg4)) b (Sums.tok n q) := by
  funext j
  unfold hv Sums.deq
  rw [iblk3, iblk4]

/-- and `dh`. -/
theorem hv_eq (c : Dev nD) (n : Fin 7) (b : Fin 2) (q : Fin 128) :
    hv (iblk m c 5 (pt n b)) (iblk m c 6 (pt n b)) q = Sums.deq (codes5 m c) (m ((c : Thread nD τ).loc main_arg6)) b (Sums.tok n q) := by
  funext j
  unfold hv Sums.deq
  rw [iblk5, iblk6]

theorem ov_eq (c : Dev nD) (t : Fin cfg0.N) (q : Fin 128) : ov (iblk m c 8 t) q = fun _ => 1 := by
  funext j
  unfold ov
  rw [iblk8]

theorem D0_eq (c : Dev nD) (n : Fin 7) (b : Fin 2) (j : Fin 5120) :
    D0 m c n b j = Sums.dshift (codes5 m c) (m ((c : Thread nD τ).loc main_arg6)) n b j := by
  unfold D0 sum0 Sums.dshift
  refine Finset.sum_congr rfl fun r _ => ?_
  rw [hv_eq]
  rfl

theorem D1_eq (c : Dev nD) (n : Fin 7) (b : Fin 2) (j : Fin 5120) :
    D1 m c n b j = rawScale (fun q => Sums.deq (codes0 m c) (m ((c : Thread nD τ).loc main_arg1)) b (Sums.tok n q))
      (fun q => Sums.deq (codes5 m c) (m ((c : Thread nD τ).loc main_arg6)) b (Sums.tok n q)) j := by
  unfold D1 sum1 rawScale
  simp only [xv_eq, hv_eq, ov_eq]

theorem D2_eq (c : Dev nD) (n : Fin 7) (b : Fin 2) (j : Fin 5120) :
    D2 m c n b j = Sums.dgate (codes3 m c) (m ((c : Thread nD τ).loc main_arg4)) (m ((c : Thread nD τ).loc main_arg2)) n b j := by
  unfold D2 sum2 Sums.dgate
  refine Finset.sum_congr rfl fun r _ => ?_
  rw [yv_eq, iblk2]
  rfl

/-- The large result's block, by the array's rows. -/
theorem dx_eq (c : Dev nD) (n : Fin 7) (b : Fin 2) {d18 : Vec Ideal S2x8x5120 .f32} {d19 : Vec Ideal S2x16x5120 .bf16}
    (h : Prep (F := Ideal) (iblk m c 7 (pt 0 0)) d18 d19) (q : Fin 128) (j : Fin 5120) :
    dxv b (iblk m c 0 (pt n b)) (iblk m c 1 (pt n b)) (iblk m c 3 (pt n b)) (iblk m c 4 (pt n b)) (iblk m c 5 (pt n b)) (iblk m c 6 (pt n b)) (iblk m c 8 (pt n b)) d18 d19 q j
      = rawGrad (Sums.deq (codes0 m c) (m ((c : Thread nD τ).loc main_arg1)) b (Sums.tok n q))
          (Sums.deq (codes3 m c) (m ((c : Thread nD τ).loc main_arg4)) b (Sums.tok n q))
          (Sums.deq (codes5 m c) (m ((c : Thread nD τ).loc main_arg6)) b (Sums.tok n q))
          (fun j => 1 + m ((c : Thread nD τ).loc main_arg7) (ix2 b j)) j := by
  have e1 : ∀ u j, d18 (ix3 b u j) = 1 + m ((c : Thread nD τ).loc main_arg7) (ix2 b j) := fun u j => by
    rw [h.mod18 b u j, iblk7]
  have e2 : ∀ X, dotR X d19 b = rawDot X fun j => 1 + m ((c : Thread nD τ).loc main_arg7) (ix2 b j) := fun X => by
    rw [h.mod19 b X]
    simp only [iblk7]
  unfold dxv rawGrad dot1 dot2
  simp only [xv_eq, yv_eq, hv_eq, ov_eq, e1, e2]

end Cert.KernelIdeal.Hand

end
-- ==== Proof.KerFinal.lean ====
/- What the kernel's results hold at the end: of the two small ones their first row the sums `dshift`, the next `dscale` as the kernel computes it, the last
   `dgate`; of the large one the tokens' rows as the kernel computes them. -/
module

public import proofs.«01_k».proof.Proof.KerArr

@[expose] public section

set_option maxRecDepth 16384

noncomputable section

namespace Cert.KernelIdeal.Hand

open Idealize.ShloMosaic Idealize.ShloMosaic.TcCoe Idealize.ShloMosaic.Tactic
open Cert.KernelIdeal.Gen Cert.KernelIdeal.Roll

variable (m : (ℓ : Loc nD τ sig) → Buf (Elt Ideal) ℓ)

theorem whole10 : (cfg0.win 10).WholeAt (pt 6 1) := by decide +kernel

theorem covers11 : (cfg0.win 11).Covers := by decide +kernel

/-- The sums over the blocks, as the last point leaves them. -/
theorem array10 (c : Dev nD) (dat : Pipeline.Dat τ (Elt Ideal) Unit ℕ (UR sig nD τ) ℕ cfg0 c)
    (h : Rel10 (D0 m c) (D1 m c) (D2 m c) 13 (dat.after 10 (pt 6 1))) (b : Fin 2) (j : Fin 5120) :
    (dat.arrAt 10 cfg0.N : Vec Ideal S3x2x5120 .f32) (ix3 (0 : Fin 3) b j) = ∑ n : Fin 7, D0 m c n b j
    ∧ (dat.arrAt 10 cfg0.N : Vec Ideal S3x2x5120 .f32) (ix3 (1 : Fin 3) b j) = ∑ n : Fin 7, D1 m c n b j
    ∧ (dat.arrAt 10 cfg0.N : Vec Ideal S3x2x5120 .f32) (ix3 (2 : Fin 3) b j) = ∑ n : Fin 7, D2 m c n b j := by
  have e := h b (by omega) j
  rw [upTo_last] at e
  refine ⟨Eq.trans ?_ e.1, Eq.trans ?_ e.2.1, Eq.trans ?_ e.2.2⟩
  · exact (dat.arrAt_emb_eq_after_last 10 (pt 6 1) whole10 (ix3 (0 : Fin 3) b j)).trans rfl
  · exact (dat.arrAt_emb_eq_after_last 10 (pt 6 1) whole10 (ix3 (1 : Fin 3) b j)).trans rfl
  · exact (dat.arrAt_emb_eq_after_last 10 (pt 6 1) whole10 (ix3 (2 : Fin 3) b j)).trans rfl

/-- The blocks' own results, each as its second point leaves it. -/
theorem array11 (c : Dev nD) (dat : Pipeline.Dat τ (Elt Ideal) Unit ℕ (UR sig nD τ) ℕ cfg0 c)
    (h : ∀ t : Fin cfg0.N, t.val % 2 = 1 → Rel11 (D0 m c) (D1 m c) (D2 m c) t.val (lt14 t) (dat.after 11 t)) (n : Fin 7) (b : Fin 2) (j : Fin 5120) :
    (dat.arrAt 11 cfg0.N : Vec Ideal S7x3x2x5120 .f32) (ix4 n (0 : Fin 3) b j) = D0 m c n b j
    ∧ (dat.arrAt 11 cfg0.N : Vec Ideal S7x3x2x5120 .f32) (ix4 n (1 : Fin 3) b j) = D1 m c n b j
    ∧ (dat.arrAt 11 cfg0.N : Vec Ideal S7x3x2x5120 .f32) (ix4 n (2 : Fin 3) b j) = D2 m c n b j := by
  have H := dat.arrAt_forall_of_covers 11
    (fun (i : S7x3x2x5120.Idx) (x : EReal) => ((i 1).val = 0 → x = D0 m c (i 0) (i 2) (i 3)) ∧ ((i 1).val = 1 → x = D1 m c (i 0) (i 2) (i 3)) ∧ ((i 1).val = 2 → x = D2 m c (i 0) (i 2) (i 3)))
    covers11 (fun t hf y => by
      have ht := (flush0_11 t).mp hf
      have e := idx11 t
      have hx : ∀ (a : Fin 3) (z : S1x3x2x5120.Idx), (z 1).val = a.val → z = ix4 (0 : Fin 1) a (z 2) (z 3) := fun a z ha => by
        blk_ext [ha]
      have hr := h t ht
      generalize dat.after 11 t = X at hr ⊢
      have hn : t.val / 2 < 7 := by have := lt14 t; omega
      have e0 : ((((cfg0.win 11).blk t).view.emb y) 0 : Fin 7) = (⟨t.val / 2, hn⟩ : Fin 7) := Fin.ext (by blk_simp [e])
      have e1 : (((((cfg0.win 11).blk t).view.emb y) 1 : Fin 3)).val = ((cfg0.win 11).xinj (cfg0.grid.coords t) y 1).val := by blk_simp [e]
      have e2 : ((((cfg0.win 11).blk t).view.emb y) 2 : Fin 2) = ((cfg0.win 11).xinj (cfg0.grid.coords t) y 2 : Fin 2) := Fin.ext (by blk_simp [e])
      have e3 : ((((cfg0.win 11).blk t).view.emb y) 3 : Fin 5120) = ((cfg0.win 11).xinj (cfg0.grid.coords t) y 3 : Fin 5120) := Fin.ext (by blk_simp [e])
      rw [e0, e1, e2, e3]
      generalize (cfg0.win 11).xinj (cfg0.grid.coords t) y = z
      have hz := hr (z 2) (by rw [ht]; exact Nat.le_of_lt_succ (z 2 : Fin 2).isLt) (z 3)
      exact ⟨fun h0 => (congrArg X (hx 0 z h0)).trans hz.1, fun h1 => (congrArg X (hx 1 z h1)).trans hz.2.1, fun h2 => (congrArg X (hx 2 z h2)).trans hz.2.2⟩)
  exact ⟨(H (ix4 n (0 : Fin 3) b j)).1 rfl, (H (ix4 n (1 : Fin 3) b j)).2.1 rfl, (H (ix4 n (2 : Fin 3) b j)).2.2 rfl⟩

/-- The second small result: `dshift`, `dscale` and `dgate` of every block. -/
theorem blocks_at {r : PUnit × MemSt nD τ sig (Elt Ideal)} (h : Pipeline.RDat.FramePost (cfgs 0) (fun c => rdat m c) (V m) r) (c : Dev nD)
    (n : Fin 7) (b : Fin 2) (j : Fin 5120) :
    (r.2.mem ((c : Thread nD τ).loc main_v7_2) : Vec Ideal S7x3x2x5120 .f32) (ix4 n (0 : Fin 3) b j)
        = Sums.dshift (codes5 m c) (m ((c : Thread nD τ).loc main_arg6)) n b j
    ∧ (r.2.mem ((c : Thread nD τ).loc main_v7_2) : Vec Ideal S7x3x2x5120 .f32) (ix4 n (1 : Fin 3) b j)
        = rawScale (fun q => Sums.deq (codes0 m c) (m ((c : Thread nD τ).loc main_arg1)) b (Sums.tok n q))
            (fun q => Sums.deq (codes5 m c) (m ((c : Thread nD τ).loc main_arg6)) b (Sums.tok n q)) j
    ∧ (r.2.mem ((c : Thread nD τ).loc main_v7_2) : Vec Ideal S7x3x2x5120 .f32) (ix4 n (2 : Fin 3) b j)
        = Sums.dgate (codes3 m c) (m ((c : Thread nD τ).loc main_arg4)) (m ((c : Thread nD τ).loc main_arg2)) n b j := by
  obtain ⟨after, hL, hA⟩ := h.exists_exact c
  have hr := array11 m c ((rdat m c).withAfter after)
    (fun t ht => (dats m c).toRRel_leaves (fgt := marked) (Rl := Rl m c) (w := 11) rfl (hL 11 t ((flush0_11 t).mpr ht))) n b j
  rw [D0_eq, D1_eq, D2_eq] at hr
  rw [show r.2.mem ((c : Thread nD τ).loc main_v7_2) = ((rdat m c).withAfter after).arrAt 11 cfg0.N from hA 11]
  exact hr

/-- The first: their sums over the blocks. -/
theorem sums_at {r : PUnit × MemSt nD τ sig (Elt Ideal)} (h : Pipeline.RDat.FramePost (cfgs 0) (fun c => rdat m c) (V m) r) (c : Dev nD)
    (b : Fin 2) (j : Fin 5120) :
    (r.2.mem ((c : Thread nD τ).loc main_v7_1) : Vec Ideal S3x2x5120 .f32) (ix3 (0 : Fin 3) b j)
        = ∑ n : Fin 7, Sums.dshift (codes5 m c) (m ((c : Thread nD τ).loc main_arg6)) n b j
    ∧ (r.2.mem ((c : Thread nD τ).loc main_v7_1) : Vec Ideal S3x2x5120 .f32) (ix3 (1 : Fin 3) b j)
        = ∑ n : Fin 7, rawScale (fun q => Sums.deq (codes0 m c) (m ((c : Thread nD τ).loc main_arg1)) b (Sums.tok n q))
            (fun q => Sums.deq (codes5 m c) (m ((c : Thread nD τ).loc main_arg6)) b (Sums.tok n q)) j
    ∧ (r.2.mem ((c : Thread nD τ).loc main_v7_1) : Vec Ideal S3x2x5120 .f32) (ix3 (2 : Fin 3) b j)
        = ∑ n : Fin 7, Sums.dgate (codes3 m c) (m ((c : Thread nD τ).loc main_arg4)) (m ((c : Thread nD τ).loc main_arg2)) n b j := by
  obtain ⟨after, hL, hA⟩ := h.exists_exact c
  have hr := array10 m c ((rdat m c).withAfter after)
    ((dats m c).toRRel_leaves (fgt := marked) (Rl := Rl m c) (w := 10) rfl (hL 10 (pt 6 1) ((flush0_10 (pt 6 1)).mpr rfl))) b j
  simp only [D0_eq, D1_eq, D2_eq] at hr
  rw [show r.2.mem ((c : Thread nD τ).loc main_v7_1) = ((rdat m c).withAfter after).arrAt 10 cfg0.N from hA 10]
  exact hr

theorem idx9 : ∀ t : Fin grid0.N, win0_9.index t = ![t.val % 2, t.val / 2, 0] := by decide +kernel

theorem covers9 : (cfg0.win 9).Covers := by decide +kernel

theorem pt_bat (t : Fin cfg0.N) (hn : t.val / 2 < 7) : pt ⟨t.val / 2, hn⟩ (bat t) = t := by
  apply Fin.ext
  change 2 * (t.val / 2) + t.val % 2 = t.val
  omega

/-- The large result's rows, each as its point leaves it. -/
theorem array9 (c : Dev nD) (dat : Pipeline.Dat τ (Elt Ideal) Unit ℕ (UR sig nD τ) ℕ cfg0 c)
    (h : ∀ t : Fin cfg0.N, Rel9 m c t (dat.after 9 t)) (b : Fin 2) (t : Fin 896) (j : Fin 5120) :
    (dat.arrAt 9 cfg0.N : Vec Ideal S2x896x5120 .bf16) (ix3 b t j)
      = rawGrad (Sums.deq (codes0 m c) (m ((c : Thread nD τ).loc main_arg1)) b t)
          (Sums.deq (codes3 m c) (m ((c : Thread nD τ).loc main_arg4)) b t)
          (Sums.deq (codes5 m c) (m ((c : Thread nD τ).loc main_arg6)) b t)
          (fun j => 1 + m ((c : Thread nD τ).loc main_arg7) (ix2 b j)) j := by
  have H := dat.arrAt_forall_of_covers 9
    (fun (i : S2x896x5120.Idx) (x : EReal) => x = rawGrad (Sums.deq (codes0 m c) (m ((c : Thread nD τ).loc main_arg1)) (i 0) (i 1))
          (Sums.deq (codes3 m c) (m ((c : Thread nD τ).loc main_arg4)) (i 0) (i 1))
          (Sums.deq (codes5 m c) (m ((c : Thread nD τ).loc main_arg6)) (i 0) (i 1))
          (fun j => 1 + m ((c : Thread nD τ).loc main_arg7) (ix2 (i 0) j)) (i 2))
    covers9 (fun t hf y => by
      have e := idx9 t
      have hn : t.val / 2 < 7 := by have := lt14 t; omega
      obtain ⟨d18, d19, hp, hr⟩ := h t
      generalize dat.after 9 t = X at hr ⊢
      have e0 : ((((cfg0.win 9).blk t).view.emb y) 0 : Fin 2) = bat t := Fin.ext (by
        have hz : ((cfg0.win 9).xinj (cfg0.grid.coords t) y 0 : Fin 1).val = 0 := by
          have := ((cfg0.win 9).xinj (cfg0.grid.coords t) y 0).isLt
          change _ < 1 at this
          omega
        blk_simp [e, bat])
      have e1 : ((((cfg0.win 9).blk t).view.emb y) 1 : Fin 896) = Sums.tok ⟨t.val / 2, hn⟩ ((cfg0.win 9).xinj (cfg0.grid.coords t) y 1 : Fin 128) :=
        Fin.ext (by blk_simp [e, Sums.tok])
      have e2 : ((((cfg0.win 9).blk t).view.emb y) 2 : Fin 5120) = ((cfg0.win 9).xinj (cfg0.grid.coords t) y 2 : Fin 5120) := Fin.ext (by blk_simp [e])
      rw [e0, e1, e2]
      generalize (cfg0.win 9).xinj (cfg0.grid.coords t) y = z
      have hz : z = ix3 (0 : Fin 1) (z 1) (z 2) := by
        blk_ext
      have hx := hr (z 1) (z 2)
      have hd := dx_eq m c ⟨t.val / 2, hn⟩ (bat t) hp (z 1) (z 2)
      rw [pt_bat] at hd
      exact (congrArg X hz).trans (hx.trans hd))
  exact H (ix3 b t j)

/-- The large result. -/
theorem dx_at {r : PUnit × MemSt nD τ sig (Elt Ideal)} (h : Pipeline.RDat.FramePost (cfgs 0) (fun c => rdat m c) (V m) r) (c : Dev nD)
    (b : Fin 2) (t : Fin 896) (j : Fin 5120) :
    (r.2.mem ((c : Thread nD τ).loc main_v7_0) : Vec Ideal S2x896x5120 .bf16) (ix3 b t j)
      = rawGrad (Sums.deq (codes0 m c) (m ((c : Thread nD τ).loc main_arg1)) b t)
          (Sums.deq (codes3 m c) (m ((c : Thread nD τ).loc main_arg4)) b t)
          (Sums.deq (codes5 m c) (m ((c : Thread nD τ).loc main_arg6)) b t)
          (fun j => 1 + m ((c : Thread nD τ).loc main_arg7) (ix2 b j)) j := by
  obtain ⟨after, hL, hA⟩ := h.exists_exact c
  rw [show r.2.mem ((c : Thread nD τ).loc main_v7_0) = ((rdat m c).withAfter after).arrAt 9 cfg0.N from hA 9]
  exact array9 m c ((rdat m c).withAfter after)
    (fun t => (dats m c).toRRel_leaves (fgt := marked) (Rl := Rl m c) (w := 9) rfl (hL 9 t (flush0_9 t))) b t j

end Cert.KernelIdeal.Hand

end
-- ==== Proof.RefRun.lean ====
/- The reference's run, read: each result array ends at a function of the argument arrays, the fp8 codes bitcast from bytes.
   The call has one grid point, at which every window's block is its whole array. -/
module

public import proofs.«01_k».proof.Proof.Gen.ReferenceIdeal.Value

@[expose] public section

set_option maxRecDepth 16384

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The codes of `x`, of `dy` and of `dh` as the call finds them: the bytes, bitcast. -/
theorem V_main_v0 (c : Dev nD) : V m c main_v0 = bitcastToFloat .fp8e4m3 (m ((c : Thread nD τ).loc main_arg0)) := rfl

theorem V_main_v1 (c : Dev nD) : V m c main_v1 = bitcastToFloat .fp8e5m2 (m ((c : Thread nD τ).loc main_arg3)) := rfl

theorem V_main_v2 (c : Dev nD) : V m c main_v2 = bitcastToFloat .fp8e5m2 (m ((c : Thread nD τ).loc main_arg5)) := rfl

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x896x5120.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 896 + 1 * (j 1).val = (j 1).val; omega
  | ⟨2, _⟩ => show win0_0.index t (2 : Fin 3) * 5120 + 1 * (j 2).val = (j 2).val; omega

/-- Input window 0's block at the point is its array as the region finds it. -/
theorem iblk0_eq (c : Dev nD) (t : Fin cfg0.N) : iblk m c 0 t = V m c main_v0 := by
  funext j; show V m c main_v0 (((cfg0.win 0).blk t).view.emb j) = V m c main_v0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x896x40.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 896 + 1 * (j 1).val = (j 1).val; omega
  | ⟨2, _⟩ => show win0_1.index t (2 : Fin 3) * 40 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S2x896x5120.Idx) : ((cfg0.win 2).blk t).view.emb j = j := by
  obtain ⟨e0, e1, e2⟩ := idx_zero2 t
  funext a; apply Fin.ext
  match a with
  | ⟨0, _⟩ => show win0_2.index t (0 : Fin 3) * 2 + 1 * (j 0).val = (j 0).val; omega
  | ⟨1, _⟩ => show win0_2.index t (1 : Fin 3) * 896 + 1 * (j 1).val = (j 1).val; omega
  | ⟨2, _⟩ => show win0_2.index t (2 : Fin 3) * 5120 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0, 0] : Fin 3 → Nat) = fun _ => 0 := funext fun a => by fin_cases a <;> rfl

/-- Window 3's block index at the one point is zero on every axis. -/
theorem idx_zero3 : ∀ t : Fin cfg0.N, win0_3.index t (0 : Fin 3) = 0 ∧ win0_3.index t (1 : Fin 3) = 0 ∧ win0_3.index t (2 : Fin 3) = 0 :=
  (by decide +kernel : ∀ t : Fin grid0.N, _)

/-- An index of window 3's block is the same index of its array. -/
theorem emb3 (t : Fin cfg0.N) (j : S2x896x5120.Idx) : ((cfg0.win 3).blk t).view.emb j = j := by
  obtain ⟨e0, e1, e2⟩ := idx_zero3 t
  funext a; apply Fin.ext
  match a with
  | ⟨0, _⟩ => show win0_3.index t (0 : Fin 3) * 2 + 1 * (j 0).val = (j 0).val; omega
  | ⟨1, _⟩ => show win0_3.index t (1 : Fin 3) * 896 + 1 * (j 1).val = (j 1).val; omega
  | ⟨2, _⟩ => show win0_3.index t (2 : Fin 3) * 5120 + 1 * (j 2).val = (j 2).val; omega

/-- Input window 3's block at the point is its array as the region finds it. -/
theorem iblk3_eq (c : Dev nD) (t : Fin cfg0.N) : iblk m c 3 t = V m c main_v1 := by
  funext j; show V m c main_v1 (((cfg0.win 3).blk t).view.emb j) = V m c main_v1 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S2x896x40.Idx) : ((cfg0.win 4).blk t).view.emb j = j := by
  obtain ⟨e0, e1, e2⟩ := idx_zero4 t
  funext a; apply Fin.ext
  match a with
  | ⟨0, _⟩ => show win0_4.index t (0 : Fin 3) * 2 + 1 * (j 0).val = (j 0).val; omega
  | ⟨1, _⟩ => show win0_4.index t (1 : Fin 3) * 896 + 1 * (j 1).val = (j 1).val; omega
  | ⟨2, _⟩ => show win0_4.index t (2 : Fin 3) * 40 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S2x896x5120.Idx) : ((cfg0.win 5).blk t).view.emb j = j := by
  obtain ⟨e0, e1, e2⟩ := idx_zero5 t
  funext a; apply Fin.ext
  match a with
  | ⟨0, _⟩ => show win0_5.index t (0 : Fin 3) * 2 + 1 * (j 0).val = (j 0).val; omega
  | ⟨1, _⟩ => show win0_5.index t (1 : Fin 3) * 896 + 1 * (j 1).val = (j 1).val; omega
  | ⟨2, _⟩ => show win0_5.index t (2 : Fin 3) * 5120 + 1 * (j 2).val = (j 2).val; omega

/-- Input window 5's block at the point is its array as the region finds it. -/
theorem iblk5_eq (c : Dev nD) (t : Fin cfg0.N) : iblk m c 5 t = V m c main_v2 := by
  funext j; show V m c main_v2 (((cfg0.win 5).blk t).view.emb j) = V m c main_v2 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S2x896x40.Idx) : ((cfg0.win 6).blk t).view.emb j = j := by
  obtain ⟨e0, e1, e2⟩ := idx_zero6 t
  funext a; apply Fin.ext
  match a with
  | ⟨0, _⟩ => show win0_6.index t (0 : Fin 3) * 2 + 1 * (j 0).val = (j 0).val; omega
  | ⟨1, _⟩ => show win0_6.index t (1 : Fin 3) * 896 + 1 * (j 1).val = (j 1).val; omega
  | ⟨2, _⟩ => show win0_6.index t (2 : Fin 3) * 40 + 1 * (j 2).val = (j 2).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S2x5120.Idx) : ((cfg0.win 7).blk t).view.emb j = j := by
  obtain ⟨e0, e1⟩ := idx_zero7 t
  funext a; apply Fin.ext
  match a with
  | ⟨0, _⟩ => show win0_7.index t (0 : Fin 2) * 2 + 1 * (j 0).val = (j 0).val; omega
  | ⟨1, _⟩ => show win0_7.index t (1 : Fin 2) * 5120 + 1 * (j 1).val = (j 1).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S2x896x5120.Idx) : ((cfg0.win 8).blk t).view.emb j = j := by
  obtain ⟨e0, e1, e2⟩ := idx_zero8 t
  funext a; apply Fin.ext
  match a with
  | ⟨0, _⟩ => show win0_8.index t (0 : Fin 3) * 2 + 1 * (j 0).val = (j 0).val; omega
  | ⟨1, _⟩ => show win0_8.index t (1 : Fin 3) * 896 + 1 * (j 1).val = (j 1).val; omega
  | ⟨2, _⟩ => show win0_8.index t (2 : Fin 3) * 5120 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S3x2x5120.Idx) : ((cfg0.win 9).blk t).view.emb j = j := by
  obtain ⟨e0, e1, e2⟩ := idx_zero9 t
  funext a; apply Fin.ext
  match a with
  | ⟨0, _⟩ => show win0_9.index t (0 : Fin 3) * 3 + 1 * (j 0).val = (j 0).val; omega
  | ⟨1, _⟩ => show win0_9.index t (1 : Fin 3) * 2 + 1 * (j 1).val = (j 1).val; omega
  | ⟨2, _⟩ => show win0_9.index t (2 : Fin 3) * 5120 + 1 * (j 2).val = (j 2).val; omega

theorem hz10 : (![0, 0, 0, 0] : Fin 4 → Nat) = fun _ => 0 := funext fun a => by fin_cases a <;> rfl

/-- Window 10's block index at the one point is zero on every axis. -/
theorem idx_zero10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

/-- An index of window 10's block is the same index of its array. -/
theorem emb10 (t : Fin cfg0.N) (j : S7x3x2x5120.Idx) : ((cfg0.win 10).blk t).view.emb j = j := by
  obtain ⟨e0, e1, e2, e3⟩ := idx_zero10 t
  funext a; apply Fin.ext
  match a with
  | ⟨0, _⟩ => show win0_10.index t (0 : Fin 4) * 7 + 1 * (j 0).val = (j 0).val; omega
  | ⟨1, _⟩ => show win0_10.index t (1 : Fin 4) * 3 + 1 * (j 1).val = (j 1).val; omega
  | ⟨2, _⟩ => show win0_10.index t (2 : Fin 4) * 2 + 1 * (j 2).val = (j 2).val; omega
  | ⟨3, _⟩ => show win0_10.index t (3 : Fin 4) * 5120 + 1 * (j 3).val = (j 3).val; omega

/-! ### Output window 8: the array after the run -/

/-- What the window's array ends holding: `out0_8` applied to the argument arrays in place of the input blocks (a value that the
    frame states apart, `kK_payN a…`, keeps its loads inside its own definition). -/
abbrev G8 (a0 : Vec F S2x896x5120 .fp8e4m3) (a1 : Vec F S2x896x40 .f32) (a2 : Vec F S2x896x5120 .bf16) (a3 : Vec F S2x896x5120 .fp8e5m2) (a4 : Vec F S2x896x40 .f32) (a5 : Vec F S2x896x5120 .fp8e5m2) (a6 : Vec F S2x896x40 .f32) (a7 : Vec F S2x5120 .f32) : Vec F S2x896x5120 .bf16 :=
  k0_pay1 (k0_pay13 a0 a1 a2 a3 a4 a5 a6 a7) (k0_pay6 (k0_pay16 a0 a1 a2 a3 a4 a5 a6 a7)) (k0_pay7 (k0_pay15 a0 a1 a2 a3 a4 a5 a6 a7) (k0_pay16 a0 a1 a2 a3 a4 a5 a6 a7)) (k0_pay11 (k0_pay14 a0 a1 a2 a3 a4 a5 a6 a7) a7) (k0_pay12 (k0_pay14 a0 a1 a2 a3 a4 a5 a6 a7) (k0_pay15 a0 a1 a2 a3 a4 a5 a6 a7) (k0_pay16 a0 a1 a2 a3 a4 a5 a6 a7) a7)

/-- A load of the whole of a block reads the block, and the one store through the whole rectangle leaves its payload. -/
theorem out8_eq (a0 : Vec F S2x896x5120 .fp8e4m3) (a1 : Vec F S2x896x40 .f32) (a2 : Vec F S2x896x5120 .bf16) (a3 : Vec F S2x896x5120 .fp8e5m2) (a4 : Vec F S2x896x40 .f32) (a5 : Vec F S2x896x5120 .fp8e5m2) (a6 : Vec F S2x896x40 .f32) (a7 : Vec F S2x5120 .f32) : out0_8 (F := F) a0 a1 a2 a3 a4 a5 a6 a7 = G8 a0 a1 a2 a3 a4 a5 a6 a7 := by
  unfold out0_8
  rw [View.canon_unit_zero hz8, View.ld_unit_zero (S := S2x5120) hz7 _ a7]

/-- Cutting the point's block out of `X` and reading `X` through the block's view give the same. -/
theorem cut8_eq (t : Fin cfg0.N) (X : Vec F S2x896x5120 .bf16) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_v0) (V m c main_arg1) (V m c main_arg2) (V m c main_v1) (V m c main_arg4) (V m c main_v2) (V m c main_arg6) (V m c main_arg7)) := by
  show (cfg0.win 8).cut (grid0.coords t) ((dats m 0 c).after 8 t) = _
  rw [after0_8, out8_eq, iblk0_eq, iblk1_eq, iblk2_eq, iblk3_eq, iblk4_eq, iblk5_eq, iblk6_eq, iblk7_eq]
  exact cut8_eq t _

/-- Every index of the array is in the point's block. -/
theorem covered8 (i : S2x896x5120.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (bitcastToFloat .fp8e4m3 (m ((c : Thread nD τ).loc main_arg0))) (m ((c : Thread nD τ).loc main_arg1)) (m ((c : Thread nD τ).loc main_arg2)) (bitcastToFloat .fp8e5m2 (m ((c : Thread nD τ).loc main_arg3))) (m ((c : Thread nD τ).loc main_arg4)) (bitcastToFloat .fp8e5m2 (m ((c : Thread nD τ).loc main_arg5))) (m ((c : Thread nD τ).loc main_arg6)) (m ((c : Thread nD τ).loc main_arg7)) :=
  ((dats m 0 c).arrAt_eq_of_cover 8 (G8 (V m c main_v0) (V m c main_arg1) (V m c main_arg2) (V m c main_v1) (V m c main_arg4) (V m c main_v2) (V m c main_arg6) (V m c main_arg7)) (fun t _ => flushed8_eq m c t) covered8).trans (by rw [V_main_v0, V_main_arg1, V_main_arg2, V_main_v1, V_main_arg4, V_main_v2, V_main_arg6, V_main_arg7])

/-! ### Output window 9: the array after the run -/

/-- What the window's array ends holding: `out0_9` applied to the argument arrays in place of the input blocks (a value that the
    frame states apart, `kK_payN a…`, keeps its loads inside its own definition). -/
abbrev G9 (a0 : Vec F S2x896x5120 .fp8e4m3) (a1 : Vec F S2x896x40 .f32) (a2 : Vec F S2x896x5120 .bf16) (a3 : Vec F S2x896x5120 .fp8e5m2) (a4 : Vec F S2x896x40 .f32) (a5 : Vec F S2x896x5120 .fp8e5m2) (a6 : Vec F S2x896x40 .f32) (a7 : Vec F S2x5120 .f32) : Vec F S3x2x5120 .f32 :=
  k0_pay9 (k0_pay13 a0 a1 a2 a3 a4 a5 a6 a7) (k0_pay14 a0 a1 a2 a3 a4 a5 a6 a7) (k0_pay15 a0 a1 a2 a3 a4 a5 a6 a7) (k0_pay16 a0 a1 a2 a3 a4 a5 a6 a7) a2

/-- A load of the whole of a block reads the block, and the one store through the whole rectangle leaves its payload. -/
theorem out9_eq (a0 : Vec F S2x896x5120 .fp8e4m3) (a1 : Vec F S2x896x40 .f32) (a2 : Vec F S2x896x5120 .bf16) (a3 : Vec F S2x896x5120 .fp8e5m2) (a4 : Vec F S2x896x40 .f32) (a5 : Vec F S2x896x5120 .fp8e5m2) (a6 : Vec F S2x896x40 .f32) (a7 : Vec F S2x5120 .f32) : out0_9 (F := F) a0 a1 a2 a3 a4 a5 a6 a7 = G9 a0 a1 a2 a3 a4 a5 a6 a7 := by
  unfold out0_9
  rw [View.canon_unit_zero hz9, View.ld_unit_zero (S := S2x896x5120) hz2 _ a2]

/-- Cutting the point's block out of `X` and reading `X` through the block's view give the same. -/
theorem cut9_eq (t : Fin cfg0.N) (X : Vec F S3x2x5120 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_v0) (V m c main_arg1) (V m c main_arg2) (V m c main_v1) (V m c main_arg4) (V m c main_v2) (V m c main_arg6) (V m c main_arg7)) := by
  show (cfg0.win 9).cut (grid0.coords t) ((dats m 0 c).after 9 t) = _
  rw [after0_9, out9_eq, iblk0_eq, iblk1_eq, iblk2_eq, iblk3_eq, iblk4_eq, iblk5_eq, iblk6_eq, iblk7_eq]
  exact cut9_eq t _

/-- Every index of the array is in the point's block. -/
theorem covered9 (i : S3x2x5120.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (bitcastToFloat .fp8e4m3 (m ((c : Thread nD τ).loc main_arg0))) (m ((c : Thread nD τ).loc main_arg1)) (m ((c : Thread nD τ).loc main_arg2)) (bitcastToFloat .fp8e5m2 (m ((c : Thread nD τ).loc main_arg3))) (m ((c : Thread nD τ).loc main_arg4)) (bitcastToFloat .fp8e5m2 (m ((c : Thread nD τ).loc main_arg5))) (m ((c : Thread nD τ).loc main_arg6)) (m ((c : Thread nD τ).loc main_arg7)) :=
  ((dats m 0 c).arrAt_eq_of_cover 9 (G9 (V m c main_v0) (V m c main_arg1) (V m c main_arg2) (V m c main_v1) (V m c main_arg4) (V m c main_v2) (V m c main_arg6) (V m c main_arg7)) (fun t _ => flushed9_eq m c t) covered9).trans (by rw [V_main_v0, V_main_arg1, V_main_arg2, V_main_v1, V_main_arg4, V_main_v2, V_main_arg6, V_main_arg7])

/-! ### Output window 10: the array after the run -/

/-- What the window's array ends holding: `out0_10` applied to the argument arrays in place of the input blocks (a value that the
    frame states apart, `kK_payN a…`, keeps its loads inside its own definition). -/
abbrev G10 (a0 : Vec F S2x896x5120 .fp8e4m3) (a1 : Vec F S2x896x40 .f32) (a2 : Vec F S2x896x5120 .bf16) (a3 : Vec F S2x896x5120 .fp8e5m2) (a4 : Vec F S2x896x40 .f32) (a5 : Vec F S2x896x5120 .fp8e5m2) (a6 : Vec F S2x896x40 .f32) (a7 : Vec F S2x5120 .f32) : Vec F S7x3x2x5120 .f32 :=
  k0_pay8 (k0_pay13 a0 a1 a2 a3 a4 a5 a6 a7) (k0_pay14 a0 a1 a2 a3 a4 a5 a6 a7) (k0_pay15 a0 a1 a2 a3 a4 a5 a6 a7) (k0_pay16 a0 a1 a2 a3 a4 a5 a6 a7) a2

/-- A load of the whole of a block reads the block, and the one store through the whole rectangle leaves its payload. -/
theorem out10_eq (a0 : Vec F S2x896x5120 .fp8e4m3) (a1 : Vec F S2x896x40 .f32) (a2 : Vec F S2x896x5120 .bf16) (a3 : Vec F S2x896x5120 .fp8e5m2) (a4 : Vec F S2x896x40 .f32) (a5 : Vec F S2x896x5120 .fp8e5m2) (a6 : Vec F S2x896x40 .f32) (a7 : Vec F S2x5120 .f32) : out0_10 (F := F) a0 a1 a2 a3 a4 a5 a6 a7 = G10 a0 a1 a2 a3 a4 a5 a6 a7 := by
  unfold out0_10
  rw [View.canon_unit_zero hz10, View.ld_unit_zero (S := S2x896x5120) hz2 _ a2]

/-- Cutting the point's block out of `X` and reading `X` through the block's view give the same. -/
theorem cut10_eq (t : Fin cfg0.N) (X : Vec F S7x3x2x5120 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_v0) (V m c main_arg1) (V m c main_arg2) (V m c main_v1) (V m c main_arg4) (V m c main_v2) (V m c main_arg6) (V m c main_arg7)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq]
  exact cut10_eq t _

/-- Every index of the array is in the point's block. -/
theorem covered10 (i : S7x3x2x5120.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (bitcastToFloat .fp8e4m3 (m ((c : Thread nD τ).loc main_arg0))) (m ((c : Thread nD τ).loc main_arg1)) (m ((c : Thread nD τ).loc main_arg2)) (bitcastToFloat .fp8e5m2 (m ((c : Thread nD τ).loc main_arg3))) (m ((c : Thread nD τ).loc main_arg4)) (bitcastToFloat .fp8e5m2 (m ((c : Thread nD τ).loc main_arg5))) (m ((c : Thread nD τ).loc main_arg6)) (m ((c : Thread nD τ).loc main_arg7)) :=
  ((dats m 0 c).arrAt_eq_of_cover 10 (G10 (V m c main_v0) (V m c main_arg1) (V m c main_arg2) (V m c main_v1) (V m c main_arg4) (V m c main_v2) (V m c main_arg6) (V m c main_arg7)) (fun t _ => flushed10_eq m c t) covered10).trans (by rw [V_main_v0, V_main_arg1, V_main_arg2, V_main_v1, V_main_arg4, V_main_v2, V_main_arg6, V_main_arg7])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v3_0) = G8 (bitcastToFloat .fp8e4m3 (m ((c : Thread nD τ).loc main_arg0))) (m ((c : Thread nD τ).loc main_arg1)) (m ((c : Thread nD τ).loc main_arg2)) (bitcastToFloat .fp8e5m2 (m ((c : Thread nD τ).loc main_arg3))) (m ((c : Thread nD τ).loc main_arg4)) (bitcastToFloat .fp8e5m2 (m ((c : Thread nD τ).loc main_arg5))) (m ((c : Thread nD τ).loc main_arg6)) (m ((c : Thread nD τ).loc main_arg7))
      ∧ r.2.mem ((c : Thread nD τ).loc main_v3_1) = G9 (bitcastToFloat .fp8e4m3 (m ((c : Thread nD τ).loc main_arg0))) (m ((c : Thread nD τ).loc main_arg1)) (m ((c : Thread nD τ).loc main_arg2)) (bitcastToFloat .fp8e5m2 (m ((c : Thread nD τ).loc main_arg3))) (m ((c : Thread nD τ).loc main_arg4)) (bitcastToFloat .fp8e5m2 (m ((c : Thread nD τ).loc main_arg5))) (m ((c : Thread nD τ).loc main_arg6)) (m ((c : Thread nD τ).loc main_arg7))
      ∧ r.2.mem ((c : Thread nD τ).loc main_v3_2) = G10 (bitcastToFloat .fp8e4m3 (m ((c : Thread nD τ).loc main_arg0))) (m ((c : Thread nD τ).loc main_arg1)) (m ((c : Thread nD τ).loc main_arg2)) (bitcastToFloat .fp8e5m2 (m ((c : Thread nD τ).loc main_arg3))) (m ((c : Thread nD τ).loc main_arg4)) (bitcastToFloat .fp8e5m2 (m ((c : Thread nD τ).loc main_arg5))) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(post8 m r h c).trans (final8 m c),
      (post9 m r h c).trans (final9 m c),
      (post10 m r h c).trans (final10 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c⟩)
    (run_main m ρ)

end Cert.ReferenceIdeal.Value

end
-- ==== Proof.RefVal.lean ====
/- What the reference leaves in its results, over extended reals: the blocks' rows are sums over the tokens of a block, the large result the rows' gradients. -/
module

public import proofs.«01_k».proof.Proof.RefRun
public import proofs.«01_k».proof.Proof.Stats

@[expose] public section

noncomputable section

namespace Cert.ReferenceIdeal.Value

open Cert.ReferenceIdeal Cert.ReferenceIdeal.Gen Idealize.ShloMosaic Idealize.ShloMosaic.TcCoe Idealize.SL.Sem
open Cert.Sums

variable (a0 : Vec Ideal S2x896x5120 .fp8e4m3) (a1 : Vec Ideal S2x896x40 .f32) (a2 : Vec Ideal S2x896x5120 .bf16) (a3 : Vec Ideal S2x896x5120 .fp8e5m2)
  (a4 : Vec Ideal S2x896x40 .f32) (a5 : Vec Ideal S2x896x5120 .fp8e5m2) (a6 : Vec Ideal S2x896x40 .f32) (a7 : Vec Ideal S2x5120 .f32)

/-- The dequantized `dy`, -/
theorem dy_at (b : Fin 2) (t : Fin 896) (j : Fin 5120) :
    k0_pay13 a0 a1 a2 a3 a4 a5 a6 a7 (ix3 b t j) = (a3 (ix3 b t j) * a4 (ix3 b t (grp j)) : EReal) := by
  unfold k0_pay13
  rw [View.ld_unit_zero (S := S2x896x5120) hz3 _ a3, View.ld_unit_zero (S := S2x896x40) hz4 _ a4]
  pointwise [k0_pay2]
  rfl

/-- and the dequantized `dh`. -/
theorem dh_at (b : Fin 2) (t : Fin 896) (j : Fin 5120) :
    k0_pay14 a0 a1 a2 a3 a4 a5 a6 a7 (ix3 b t j) = (a5 (ix3 b t j) * a6 (ix3 b t (grp j)) : EReal) := by
  unfold k0_pay14
  rw [View.ld_unit_zero (S := S2x896x5120) hz5 _ a5, View.ld_unit_zero (S := S2x896x40) hz6 _ a6]
  pointwise [k0_pay3]
  rfl

/-- The dequantized `x`, centred, -/
theorem xc_at (b : Fin 2) (t : Fin 896) (j : Fin 5120) :
    k0_pay15 a0 a1 a2 a3 a4 a5 a6 a7 (ix3 b t j)
      = deq a0 a1 b t j - Stats.avg (deq a0 a1 b t) := by
  unfold k0_pay15
  rw [View.ld_unit_zero (S := S2x896x5120) hz0 _ a0, View.ld_unit_zero (S := S2x896x40) hz1 _ a1]
  pointwise [k0_pay4]
  rfl

/-- and its variance. -/
theorem var_at (b : Fin 2) (t : Fin 896) :
    k0_pay16 a0 a1 a2 a3 a4 a5 a6 a7 (ix3 b t (0 : Fin 1)) = Stats.var (deq a0 a1 b t) := by
  have h := xc_at a0 a1 a2 a3 a4 a5 a6 a7 b t
  unfold k0_pay15 at h
  unfold k0_pay16
  rw [View.ld_unit_zero (S := S2x896x5120) hz0 _ a0, View.ld_unit_zero (S := S2x896x40) hz1 _ a1] at h ⊢
  unfold k0_pay5 Stats.var
  simp only [← h]
  generalize k0_pay4 a0 a1 = v
  pointwise [Stats.avg]
  rfl

/-- The normalized `x`. -/
theorem xhat_at (b : Fin 2) (t : Fin 896) (j : Fin 5120) :
    k0_pay7 (k0_pay15 a0 a1 a2 a3 a4 a5 a6 a7) (k0_pay16 a0 a1 a2 a3 a4 a5 a6 a7) (ix3 b t j) = Stats.xhat (deq a0 a1 b t) j := by
  have h1 := xc_at a0 a1 a2 a3 a4 a5 a6 a7 b t j
  have h2 := var_at a0 a1 a2 a3 a4 a5 a6 a7 b t
  unfold Stats.xhat Stats.rstd
  rw [← h1, ← h2]
  generalize k0_pay15 a0 a1 a2 a3 a4 a5 a6 a7 = v
  generalize k0_pay16 a0 a1 a2 a3 a4 a5 a6 a7 = w
  pointwise [k0_pay7, k0_pay6]
  rfl

/-- The reciprocal deviation, apart. -/
theorem rstd_at (b : Fin 2) (t : Fin 896) :
    k0_pay6 (k0_pay16 a0 a1 a2 a3 a4 a5 a6 a7) (ix3 b t (0 : Fin 1)) = Stats.rstd (deq a0 a1 b t) := by
  have h2 := var_at a0 a1 a2 a3 a4 a5 a6 a7 b t
  unfold Stats.rstd
  rw [← h2]
  generalize k0_pay16 a0 a1 a2 a3 a4 a5 a6 a7 = w
  pointwise [k0_pay6]
  rfl

/-- The gradient that reaches the normalized `x`. -/
theorem g_at (b : Fin 2) (t : Fin 896) (j : Fin 5120) :
    k0_pay10 (k0_pay14 a0 a1 a2 a3 a4 a5 a6 a7) a7 (ix3 b t j) = deq a5 a6 b t j * (1 + a7 (ix2 b j)) := by
  have h : deq a5 a6 b t j = k0_pay14 a0 a1 a2 a3 a4 a5 a6 a7 (ix3 b t j) := (dh_at a0 a1 a2 a3 a4 a5 a6 a7 b t j).symm
  rw [h]
  generalize k0_pay14 a0 a1 a2 a3 a4 a5 a6 a7 = v23
  pointwise [k0_pay10]

/-- The large result: each row's gradient. -/
theorem dx_at (b : Fin 2) (t : Fin 896) (j : Fin 5120) :
    G8 a0 a1 a2 a3 a4 a5 a6 a7 (ix3 b t j)
      = Stats.grad (deq a3 a4 b t) (deq a0 a1 b t) (fun j => deq a5 a6 b t j * (1 + a7 (ix2 b j))) j := by
  unfold G8 Stats.grad
  have hy : ∀ j, deq a3 a4 b t j = k0_pay13 a0 a1 a2 a3 a4 a5 a6 a7 (ix3 b t j) := fun j => (dy_at a0 a1 a2 a3 a4 a5 a6 a7 b t j).symm
  simp only [hy, ← g_at a0 a1 a2 a3 a4 a5 a6 a7, ← xhat_at a0 a1 a2 a3 a4 a5 a6 a7, ← rstd_at a0 a1 a2 a3 a4 a5 a6 a7]
  unfold k0_pay11 k0_pay12
  generalize k0_pay10 (k0_pay14 a0 a1 a2 a3 a4 a5 a6 a7) a7 = g
  generalize k0_pay7 (k0_pay15 a0 a1 a2 a3 a4 a5 a6 a7) (k0_pay16 a0 a1 a2 a3 a4 a5 a6 a7) = xh
  generalize k0_pay6 (k0_pay16 a0 a1 a2 a3 a4 a5 a6 a7) = r
  generalize k0_pay13 a0 a1 a2 a3 a4 a5 a6 a7 = y
  pointwise [k0_pay1, Stats.avg]
  rfl

theorem blocks_dshift (n : Fin 7) (b : Fin 2) (j : Fin 5120) :
    G10 a0 a1 a2 a3 a4 a5 a6 a7 (ix4 n (0 : Fin 3) b j) = dshift a5 a6 n b j := by
  unfold G10 dshift
  simp only [← dh_at a0 a1 a2 a3 a4 a5 a6 a7]
  generalize k0_pay13 a0 a1 a2 a3 a4 a5 a6 a7 = v15
  generalize k0_pay14 a0 a1 a2 a3 a4 a5 a6 a7 = v23
  generalize k0_pay15 a0 a1 a2 a3 a4 a5 a6 a7 = v29
  generalize k0_pay16 a0 a1 a2 a3 a4 a5 a6 a7 = v36
  pointwise [k0_pay8]
  rfl

theorem blocks_dscale (n : Fin 7) (b : Fin 2) (j : Fin 5120) :
    G10 a0 a1 a2 a3 a4 a5 a6 a7 (ix4 n (1 : Fin 3) b j) = dscale a0 a1 a5 a6 n b j := by
  unfold G10 dscale
  have hh : ∀ t, deq a5 a6 b t j = k0_pay14 a0 a1 a2 a3 a4 a5 a6 a7 (ix3 b t j) := fun t => (dh_at a0 a1 a2 a3 a4 a5 a6 a7 b t j).symm
  simp only [hh, ← xhat_at a0 a1 a2 a3 a4 a5 a6 a7]
  generalize k0_pay13 a0 a1 a2 a3 a4 a5 a6 a7 = v15
  generalize k0_pay14 a0 a1 a2 a3 a4 a5 a6 a7 = v23
  unfold k0_pay8
  generalize k0_pay7 (k0_pay15 a0 a1 a2 a3 a4 a5 a6 a7) (k0_pay16 a0 a1 a2 a3 a4 a5 a6 a7) = v29
  pointwise
  rfl

theorem blocks_dgate (n : Fin 7) (b : Fin 2) (j : Fin 5120) :
    G10 a0 a1 a2 a3 a4 a5 a6 a7 (ix4 n (2 : Fin 3) b j) = dgate a3 a4 a2 n b j := by
  unfold G10 dgate
  simp only [← dy_at a0 a1 a2 a3 a4 a5 a6 a7]
  generalize k0_pay13 a0 a1 a2 a3 a4 a5 a6 a7 = v15
  generalize k0_pay14 a0 a1 a2 a3 a4 a5 a6 a7 = v23
  generalize k0_pay15 a0 a1 a2 a3 a4 a5 a6 a7 = v29
  generalize k0_pay16 a0 a1 a2 a3 a4 a5 a6 a7 = v36
  pointwise [k0_pay8]
  rfl

theorem mod_eq (k : Fin 3) (b : Fin 2) (j : Fin 5120) :
    G9 a0 a1 a2 a3 a4 a5 a6 a7 (ix3 k b j) = ∑ n : Fin 7, (G10 a0 a1 a2 a3 a4 a5 a6 a7 (ix4 n k b j) : EReal) := by
  unfold G9 G10
  generalize k0_pay13 a0 a1 a2 a3 a4 a5 a6 a7 = v15
  generalize k0_pay14 a0 a1 a2 a3 a4 a5 a6 a7 = v23
  generalize k0_pay15 a0 a1 a2 a3 a4 a5 a6 a7 = v29
  generalize k0_pay16 a0 a1 a2 a3 a4 a5 a6 a7 = v36
  unfold k0_pay9
  generalize k0_pay8 v15 v23 v29 v36 a2 = w
  pointwise

end Cert.ReferenceIdeal.Value

end
-- ==== Proof.Finite.lean ====
/- Which inputs are finite: what the mask says of the bytes and of the scales, and that the values they stand for are then real numbers. -/
module

public import proofs.«01_k».proof.Defs
public import proofs.«01_k».proof.Proof.Sums
public import Idealize.ShloMosaic.Lib.ReduceAll

@[expose] public section

noncomputable section

namespace Cert.Finite

open Idealize.ShloMosaic

/-- A byte whose seven low bits are not all set stands for a real number, read as an fp8 of four exponent bits. -/
theorem e4m3_real (b : BitVec 8) (h : IntOp.cmpi .ne (IntOp.andi (b.setWidth 32) 127#32) 127#32 = 1#1) : ∃ r : ℝ, Ideal.e4m3fn b = r := by
  have key : ∀ b : BitVec 8, IntOp.cmpi .ne (IntOp.andi (b.setWidth 32) 127#32) 127#32 = 1#1 →
      ¬ ((b.extractLsb' 3 4).toNat = 15 ∧ (b.extractLsb' 0 3).toNat = 7) := by decide +kernel
  have hk := key b h
  unfold Ideal.e4m3fn
  dsimp only
  rw [if_neg hk]
  split
  · exact ⟨_, rfl⟩
  · exact ⟨_, rfl⟩

/-- A byte whose seven low bits are below 124 stands for a real number, read as an fp8 of five exponent bits. -/
theorem e5m2_real (b : BitVec 8) (h : IntOp.cmpi .slt (IntOp.andi (b.setWidth 32) 127#32) 124#32 = 1#1) : ∃ r : ℝ, Ideal.ieee 5 2 b = r := by
  have key : ∀ b : BitVec 8, IntOp.cmpi .slt (IntOp.andi (b.setWidth 32) 127#32) 124#32 = 1#1 →
      ¬ ((b.extractLsb' 2 5).toNat = 2 ^ 5 - 1) := by decide +kernel
  have hk := key b h
  unfold Ideal.ieee
  dsimp only
  rw [if_neg hk]
  split
  · exact ⟨_, rfl⟩
  · exact ⟨_, rfl⟩

theorem top_f32 : Ideal.ofBits .f32 0x7F800000#32 = ⊤ := by
  simp [Ideal.ofBits, Ideal.ieee]

/-- A value whose magnitude is below infinity is a real number. -/
theorem abs_real (x : EReal) (h : Ideal.cmp .olt (max x (-x)) (Ideal.ofBits .f32 0x7F800000#32) = 1#1) : ∃ r : ℝ, x = r := by
  rw [top_f32] at h
  induction x using EReal.rec with
  | bot => simp [Ideal.cmp] at h
  | coe r => exact ⟨r, rfl⟩
  | top => simp [Ideal.cmp] at h

theorem and_one {s : Shape} {x y : IVec s 1} {i : s.Idx} (h : andi x y i = 1#1) : x i = 1#1 ∧ y i = 1#1 := by
  have key : ∀ a b : BitVec 1, IntOp.andi a b = 1#1 → a = 1#1 ∧ b = 1#1 := by decide
  exact key _ _ h

theorem or_one {s : Shape} {x y : IVec s 1} {i : s.Idx} (h : ori x y i = 1#1) : x i = 1#1 ∨ y i = 1#1 := by
  have key : ∀ a b : BitVec 1, IntOp.ori a b = 1#1 → a = 1#1 ∨ b = 1#1 := by decide
  exact key _ _ h

open Cert.On_where_equal

/-- The mask's side conditions. -/
theorem mask_facts : Facts where
  natLt_8_32 := by decide
  bcast_S_S2x896x5120 := by decide
  reducesTo_S2x896x5120_S_d0_1_2 := by decide
  h_S_ := by decide
  bcast_S_S2x896x40 := by decide
  reducesTo_S2x896x40_S_d0_1_2 := by decide
  bcast_S_S2x5120 := by decide
  reducesTo_S2x5120_S_d0_1 := by decide
  bcast_S_S3x2x5120 := by decide
  bcast_S_S7x3x2x5120 := by decide

variable (a0 : IVec S2x896x5120 8) (a1 : Vec Ideal S2x896x40 .f32) (a2 : Vec Ideal S2x896x5120 .bf16) (a3 : IVec S2x896x5120 8)
  (a4 : Vec Ideal S2x896x40 .f32) (a5 : IVec S2x896x5120 8) (a6 : Vec Ideal S2x896x40 .f32) (a7 : Vec Ideal S2x5120 .f32)

/-- The inputs that enter the statistics, the codes and the scales of `x` and of `dh`, are real numbers. -/
structure Reals : Prop where
  x : ∀ i, ∃ r : ℝ, bitcastToFloat (F := Ideal) .fp8e4m3 a0 i = (r : EReal)
  xs : ∀ i, ∃ r : ℝ, a1 i = (r : EReal)
  h : ∀ i, ∃ r : ℝ, bitcastToFloat (F := Ideal) .fp8e5m2 a5 i = (r : EReal)
  hs : ∀ i, ∃ r : ℝ, a6 i = (r : EReal)

attribute [local instance] mask_facts

open Facts

/-- The mask's test of them. -/
def test : IVec S_ 1 :=
  andi (andi (andi
    (Host.reduce IntOp.andi (cmpi .ne (andi (extui 32 a0 natLt_8_32) (broadcastInDim S2x896x5120 ![] bcast_S_S2x896x5120 (constantI S_ 32 127#32)))
      (broadcastInDim S2x896x5120 ![] bcast_S_S2x896x5120 (constantI S_ 32 127#32))) (constantI S_ 1 1#1) reducesTo_S2x896x5120_S_d0_1_2 h_S_)
    (Host.reduce IntOp.andi (cmpi .slt (andi (extui 32 a5 natLt_8_32) (broadcastInDim S2x896x5120 ![] bcast_S_S2x896x5120 (constantI S_ 32 127#32)))
      (broadcastInDim S2x896x5120 ![] bcast_S_S2x896x5120 (constantI S_ 32 124#32))) (constantI S_ 1 1#1) reducesTo_S2x896x5120_S_d0_1_2 h_S_))
    (Host.reduce IntOp.andi (cmpf .olt (Host.absf a1) (broadcastInDim S2x896x40 ![] bcast_S_S2x896x40 (constant (F := Ideal) S_ .f32 0x7F800000#32)))
      (constantI S_ 1 1#1) reducesTo_S2x896x40_S_d0_1_2 h_S_))
    (Host.reduce IntOp.andi (cmpf .olt (Host.absf a6) (broadcastInDim S2x896x40 ![] bcast_S_S2x896x40 (constant (F := Ideal) S_ .f32 0x7F800000#32)))
      (constantI S_ 1 1#1) reducesTo_S2x896x40_S_d0_1_2 h_S_)

theorem reals_of_test {k : S_.Idx} (h : test a0 a1 a5 a6 k = 1#1) : Reals a0 a1 a5 a6 := by
  obtain ⟨h, h6⟩ := and_one h
  obtain ⟨h, h1⟩ := and_one h
  obtain ⟨h0, h5⟩ := and_one h
  exact {
    x := fun i => e4m3_real _ (Host.reduce_andi_all _ _ _ _ _ h0 i)
    xs := fun i => abs_real _ (Host.reduce_andi_all _ _ _ _ _ h1 i)
    h := fun i => e5m2_real _ (Host.reduce_andi_all _ _ _ _ _ h5 i)
    hs := fun i => abs_real _ (Host.reduce_andi_all _ _ _ _ _ h6 i) }

/-- Where the mask takes an element of the large result, these inputs are real numbers, and so is `mod_scale`. -/
theorem mask0 (i : S2x896x5120.Idx) (h : (fn (F := Ideal) a0 a1 a2 a3 a4 a5 a6 a7).1 i = 1#1) :
    Reals a0 a1 a5 a6 ∧ ∀ i, ∃ r : ℝ, a7 i = (r : EReal) := by
  unfold fn fn_part1 fn_part2 at h
  dsimp only at h
  change (andi (test a0 a1 a5 a6) _ : IVec S_ 1) _ = 1#1 at h
  obtain ⟨h, h7⟩ := and_one h
  exact ⟨reals_of_test a0 a1 a5 a6 h, fun i => abs_real _ (Host.reduce_andi_all _ _ _ _ _ h7 i)⟩

/-- Of the sums over the blocks it takes row 1 only where these inputs are real numbers, -/
theorem mask1 (i : S3x2x5120.Idx) (h : (fn (F := Ideal) a0 a1 a2 a3 a4 a5 a6 a7).2.1 i = 1#1) (e : (i 0).val = 1) :
    Reals a0 a1 a5 a6 := by
  rcases or_one h with h | h
  · change Scalar.cmpi .ne (BitVec.ofNat 32 (i 0).val) 1#32 = 1#1 at h
    rw [e] at h
    exact absurd h (by decide)
  · change test a0 a1 a5 a6 _ = 1#1 at h
    exact reals_of_test a0 a1 a5 a6 h

/-- and of the blocks' own results too. -/
theorem mask2 (i : S7x3x2x5120.Idx) (h : (fn (F := Ideal) a0 a1 a2 a3 a4 a5 a6 a7).2.2 i = 1#1) (e : (i 1).val = 1) :
    Reals a0 a1 a5 a6 := by
  rcases or_one h with h | h
  · change Scalar.cmpi .ne (BitVec.ofNat 32 (i 1).val) 1#32 = 1#1 at h
    rw [e] at h
    exact absurd h (by decide)
  · change test a0 a1 a5 a6 _ = 1#1 at h
    exact reals_of_test a0 a1 a5 a6 h

/-- A row of a dequantized array is then a row of real numbers. -/
theorem deq_real {φ : FTy} {c : FVec Ideal S2x896x5120 φ} {s : Vec Ideal S2x896x40 .f32} (hc : ∀ i, ∃ r : ℝ, c i = (r : EReal)) (hs : ∀ i, ∃ r : ℝ, s i = (r : EReal))
    (b : Fin 2) (t : Fin 896) : ∃ v : Fin 5120 → ℝ, Sums.deq c s b t = fun j => (v j : EReal) := by
  choose f hf using hc
  choose g hg using hs
  refine ⟨fun j => f (ix3 b t j) * g (ix3 b t (Sums.grp j)), funext fun j => ?_⟩
  unfold Sums.deq
  rw [hf, hg, EReal.coe_mul]

end Cert.Finite

end
-- ==== Proof.Alg.lean ====
/- The value claim: where the mask is set, the kernel's results are the reference's. -/
module

public import proofs.«01_k».proof.Defs
public import proofs.«01_k».proof.Proof.KerFinal
public import proofs.«01_k».proof.Proof.RefVal
public import proofs.«01_k».proof.Proof.Finite

@[expose] public section

noncomputable section

namespace Cert.Proof

open Idealize.ShloMosaic Idealize.ShloMosaic.TcCoe Idealize.ShloMosaic.Tactic Idealize.SL.Sem
open Cert.Finite Cert.KernelIdeal.Roll

section Rows

open Cert.ReferenceIdeal

variable {a0 : IVec S2x896x5120 8} {a1 : Vec Ideal S2x896x40 .f32} {a3 : IVec S2x896x5120 8}
  {a4 : Vec Ideal S2x896x40 .f32} {a5 : IVec S2x896x5120 8} {a6 : Vec Ideal S2x896x40 .f32} {a7 : Vec Ideal S2x5120 .f32}

/-- On real inputs the kernel's sums for `dscale` are the reference's. -/
theorem scale_agree (H : Reals a0 a1 a5 a6) (n : Fin 7) (b : Fin 2) (j : Fin 5120) :
    rawScale (fun q => Sums.deq (bitcastToFloat (F := Ideal) .fp8e4m3 a0) a1 b (Sums.tok n q)) (fun q => Sums.deq (bitcastToFloat (F := Ideal) .fp8e5m2 a5) a6 b (Sums.tok n q)) j
      = Sums.dscale (bitcastToFloat (F := Ideal) .fp8e4m3 a0) a1 (bitcastToFloat (F := Ideal) .fp8e5m2 a5) a6 n b j := by
  choose x hx using deq_real H.x H.xs
  choose h hh using deq_real H.h H.hs
  unfold Sums.dscale
  simp only [hx, hh]
  exact rawScale_coe (fun q => x b (Sums.tok n q)) (fun q => h b (Sums.tok n q)) j

/-- On real inputs the kernel's gradient of a row is the reference's. -/
theorem grad_agree (H : Reals a0 a1 a5 a6) (Hm : ∀ i, ∃ r : ℝ, a7 i = (r : EReal)) (b : Fin 2) (t : Fin 896) (j : Fin 5120) :
    rawGrad (Sums.deq (bitcastToFloat (F := Ideal) .fp8e4m3 a0) a1 b t) (Sums.deq (bitcastToFloat (F := Ideal) .fp8e5m2 a3) a4 b t)
        (Sums.deq (bitcastToFloat (F := Ideal) .fp8e5m2 a5) a6 b t) (fun j => 1 + a7 (ix2 b j)) j
      = Stats.grad (Sums.deq (bitcastToFloat (F := Ideal) .fp8e5m2 a3) a4 b t) (Sums.deq (bitcastToFloat (F := Ideal) .fp8e4m3 a0) a1 b t)
        (fun j => Sums.deq (bitcastToFloat (F := Ideal) .fp8e5m2 a5) a6 b t j * (1 + a7 (ix2 b j))) j := by
  obtain ⟨x, hx⟩ := deq_real H.x H.xs b t
  obtain ⟨h, hh⟩ := deq_real H.h H.hs b t
  choose r hr using Hm
  have hm : (fun j => 1 + a7 (ix2 b j)) = fun j => ((1 + r (ix2 b j) : ℝ) : EReal) := funext fun j => by
    rw [hr, EReal.coe_add, EReal.coe_one]
  have hg : (fun j => Sums.deq (bitcastToFloat (F := Ideal) .fp8e5m2 a5) a6 b t j * (1 + a7 (ix2 b j))) = fun j => (h j : EReal) * ((1 + r (ix2 b j) : ℝ) : EReal) :=
    funext fun j => by rw [hh, congrFun hm j]
  rw [hg, hm, hx, hh]
  exact rawGrad_coe _ x h _ j

end Rows

section Values

open Cert.ReferenceIdeal Cert.ReferenceIdeal.Value

variable (a0 : IVec S2x896x5120 8) (a1 : Vec Ideal S2x896x40 .f32) (a2 : Vec Ideal S2x896x5120 .bf16) (a3 : IVec S2x896x5120 8)
  (a4 : Vec Ideal S2x896x40 .f32) (a5 : IVec S2x896x5120 8) (a6 : Vec Ideal S2x896x40 .f32) (a7 : Vec Ideal S2x5120 .f32)

/-- The codes of `x`, -/
abbrev cx : Vec Ideal S2x896x5120 .fp8e4m3 := bitcastToFloat (F := Ideal) (s := S2x896x5120) .fp8e4m3 a0
/-- and those of `dy` and of `dh`, which the bytes stand for. -/
abbrev cd : Vec Ideal S2x896x5120 .fp8e5m2 := bitcastToFloat (F := Ideal) (s := S2x896x5120) .fp8e5m2 a3

/-- On real inputs an array of the rows' gradients as the kernel computes them is the reference's. -/
theorem dx_agree (H : Reals a0 a1 a5 a6 ∧ ∀ i, ∃ r : ℝ, a7 i = (r : EReal)) (X : Vec Ideal S2x896x5120 .bf16)
    (h : ∀ (b : Fin 2) (t : Fin 896) (j : Fin 5120), X (ix3 b t j)
      = rawGrad (Sums.deq (cx a0) a1 b t) (Sums.deq (cd a3) a4 b t) (Sums.deq (cd a5) a6 b t) (fun j => 1 + a7 (ix2 b j)) j)
    (i : (⟨3, ![2, 896, 5120]⟩ : Shape).Idx) : X i = G8 (cx a0) a1 a2 (cd a3) a4 (cd a5) a6 a7 i := by
  obtain ⟨b, t, j, rfl⟩ : ∃ (b : Fin 2) (t : Fin 896) (j : Fin 5120), i = ix3 b t j := ⟨i 0, i 1, i 2, eq_ix3 i⟩
  rw [Value.dx_at, h]
  exact grad_agree H.1 H.2 b t j

/-- The blocks' own results, with row 1 as the kernel computes it, are the reference's: rows 0 and 2 always, row 1 on real inputs. -/
theorem blocks_agree (X : Vec Ideal S7x3x2x5120 .f32)
    (h : ∀ (n : Fin 7) (b : Fin 2) (j : Fin 5120), X (ix4 n (0 : Fin 3) b j) = Sums.dshift (cd a5) a6 n b j
      ∧ X (ix4 n (1 : Fin 3) b j) = rawScale (fun q => Sums.deq (cx a0) a1 b (Sums.tok n q)) (fun q => Sums.deq (cd a5) a6 b (Sums.tok n q)) j
      ∧ X (ix4 n (2 : Fin 3) b j) = Sums.dgate (cd a3) a4 a2 n b j)
    (i : (⟨4, ![7, 3, 2, 5120]⟩ : Shape).Idx) (H : (i 1).val = 1 → Reals a0 a1 a5 a6) : X i = G10 (cx a0) a1 a2 (cd a3) a4 (cd a5) a6 a7 i := by
  obtain ⟨n, k, b, j, rfl⟩ : ∃ (n : Fin 7) (k : Fin 3) (b : Fin 2) (j : Fin 5120), i = ix4 n k b j := ⟨i 0, i 1, i 2, i 3, eq_ix4 i⟩
  obtain ⟨h0, h1, h2⟩ := h n b j
  match k, H with
  | ⟨0, _⟩, _ => exact h0.trans (blocks_dshift (cx a0) a1 a2 (cd a3) a4 (cd a5) a6 a7 n b j).symm
  | ⟨1, _⟩, H => exact h1.trans ((scale_agree (H rfl) n b j).trans (blocks_dscale (cx a0) a1 a2 (cd a3) a4 (cd a5) a6 a7 n b j).symm)
  | ⟨2, _⟩, _ => exact h2.trans (blocks_dgate (cx a0) a1 a2 (cd a3) a4 (cd a5) a6 a7 n b j).symm

/-- The same of their sums over the blocks. -/
theorem sums_agree (X : Vec Ideal S3x2x5120 .f32)
    (h : ∀ (b : Fin 2) (j : Fin 5120), X (ix3 (0 : Fin 3) b j) = ∑ n : Fin 7, Sums.dshift (cd a5) a6 n b j
      ∧ X (ix3 (1 : Fin 3) b j) = ∑ n : Fin 7, rawScale (fun q => Sums.deq (cx a0) a1 b (Sums.tok n q)) (fun q => Sums.deq (cd a5) a6 b (Sums.tok n q)) j
      ∧ X (ix3 (2 : Fin 3) b j) = ∑ n : Fin 7, Sums.dgate (cd a3) a4 a2 n b j)
    (i : (⟨3, ![3, 2, 5120]⟩ : Shape).Idx) (H : (i 0).val = 1 → Reals a0 a1 a5 a6) : X i = G9 (cx a0) a1 a2 (cd a3) a4 (cd a5) a6 a7 i := by
  obtain ⟨k, b, j, rfl⟩ : ∃ (k : Fin 3) (b : Fin 2) (j : Fin 5120), i = ix3 k b j := ⟨i 0, i 1, i 2, eq_ix3 i⟩
  rw [mod_eq]
  obtain ⟨h0, h1, h2⟩ := h b j
  match k, H with
  | ⟨0, _⟩, _ => exact h0.trans (Finset.sum_congr rfl fun n _ => (blocks_dshift (cx a0) a1 a2 (cd a3) a4 (cd a5) a6 a7 n b j).symm)
  | ⟨1, _⟩, H => exact h1.trans (Finset.sum_congr rfl fun n _ => (scale_agree (H rfl) n b j).trans (blocks_dscale (cx a0) a1 a2 (cd a3) a4 (cd a5) a6 a7 n b j).symm)
  | ⟨2, _⟩, _ => exact h2.trans (Finset.sum_congr rfl fun n _ => (blocks_dgate (cx a0) a1 a2 (cd a3) a4 (cd a5) a6 a7 n b j).symm)

end Values

/-- The frame of the kernel over the extended reals. -/
theorem frame_KernelIdeal : Cert.quiescent_KernelIdeal (hKernelIdeal := Cert.KernelIdeal.Gen.facts) := fun m g _ =>
  (θ_run _ _ _).mono (fun _ h => ⟨fun c => Cert.KernelIdeal.Hand.kept m h.1 c, h.2⟩) (Cert.KernelIdeal.Hand.run_main m g)

/-- The value claim. -/
theorem alg : Cert.algebraic_KernelIdeal_ReferenceIdeal_on_where_equal (hKernelIdeal := Cert.KernelIdeal.Gen.facts)
    (hReferenceIdeal := Cert.ReferenceIdeal.Gen.facts) (hOn_where_equal := mask_facts) := by
  intro m g m' g' _ hagree
  refine ⟨fun c => Cert.ReferenceIdeal.Value.G8 (F := Ideal) (cx (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (cd (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (cd (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Value.G9 (F := Ideal) (cx (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (cd (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (cd (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Value.G10 (F := Ideal) (cx (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (cd (m ((c.tc : Thread Cert.KernelIdeal.nD Cert.KernelIdeal.τ).loc Cert.KernelIdeal.main_arg3))) (m ((c.tc : Thread Cert.KernelIdeal.nD Cert.KernelIdeal.τ).loc Cert.KernelIdeal.main_arg4)) (cd (m ((c.tc : Thread Cert.KernelIdeal.nD Cert.KernelIdeal.τ).loc Cert.KernelIdeal.main_arg5))) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    (θ_run _ _ _).mono (fun r h c => ?_) (Cert.KernelIdeal.Hand.run_main m g),
    (θ_run _ _ _).mono (fun r h c => ?_) (Cert.ReferenceIdeal.Value.run m' g')⟩
  · exact ⟨fun i hi => dx_agree _ _ _ _ _ _ _ _ (mask0 _ _ _ _ _ _ _ _ i hi) _ (fun b t j => Cert.KernelIdeal.Hand.dx_at m h.1 c b t j) i,
      fun i hi => sums_agree _ _ _ _ _ _ _ _ _ (fun b j => Cert.KernelIdeal.Hand.sums_at m h.1 c b j) i (mask1 _ _ _ _ _ _ _ _ i hi),
      fun i hi => blocks_agree _ _ _ _ _ _ _ _ _ (fun n b j => Cert.KernelIdeal.Hand.blocks_at m h.1 c n b j) i (mask2 _ _ _ _ _ _ _ _ i hi),
      Cert.KernelIdeal.Hand.kept m h.1 c⟩
  · obtain ⟨e0, e1, e2, e3, e4, e5, e6, e7⟩ := hagree c
    obtain ⟨r0, r1, r2, hk⟩ := h c
    rw [e0, e1, e2, e3, e4, e5, e6, e7] at r0 r1 r2
    exact ⟨fun i _ => congrFun r0 i, fun i _ => congrFun r1 i, fun i _ => congrFun r2 i, hk⟩

end Cert.Proof

end
-- ==== Proof.lean ====
module

public import proofs.«01_k».proof.Defs
public import proofs.«01_k».proof.Proof.BitsFrame
public import proofs.«01_k».proof.Proof.Gen.ReferenceIdeal.Frame
public import proofs.«01_k».proof.Proof.Alg

@[expose] public section

/-- The claims together: the frame of the program read on bits; its frame over the extended reals, off the same launch as
    the value claim; the reference's frame, generated; the idealization, which names the constant 1/5120; the value claim. -/
theorem Cert.Proof.claim : Cert.Claim :=
  ⟨Cert.Kernel.Gen.facts, Cert.KernelIdeal.Gen.facts, Cert.ReferenceIdeal.Gen.facts, Cert.Finite.mask_facts,
    fun m ρ _ => Cert.Kernel.Hand.frame m ρ,
    Cert.Proof.frame_KernelIdeal,
    fun m ρ _ => Cert.ReferenceIdeal.Gen.frame m ρ,
    Idealize.ShloMosaic.IdealRules.named_const.statement Cert.KernelIdeal.κ "inv_d" .f32 0x394CCCCD#32 ((1 / 5120 : ℝ) : EReal) rfl,
    Cert.Proof.alg⟩
